-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v145) = v1 c
          ∧ r.2.mem ((c.tc : Thread Cert.ReferenceIdeal.nD Cert.ReferenceIdeal.τ).loc Cert.ReferenceIdeal.main_v147) = v2 c
          ∧ r.2.mem ((c.tc : Thread Cert.ReferenceIdeal.nD Cert.ReferenceIdeal.τ).loc Cert.ReferenceIdeal.main_v149) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_v68) = v1 c
          ∧ r.2.mem ((c.tc : Thread Cert.Reference2Ideal.nD Cert.Reference2Ideal.τ).loc Cert.Reference2Ideal.main_v69) = v2 c
          ∧ r.2.mem ((c.tc : Thread Cert.Reference2Ideal.nD Cert.Reference2Ideal.τ).loc Cert.Reference2Ideal.main_v62) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v9) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)) (v4 : (c : Dev Cert.Kernel18Ideal.nD) → Buf (Elt Ideal) ((c.tc : Thread Cert.Kernel18Ideal.nD Cert.Kernel18Ideal.τ).loc Cert.Kernel18Ideal.main_v0_4)) (v5 : (c : Dev Cert.Kernel18Ideal.nD) → Buf (Elt Ideal) ((c.tc : Thread Cert.Kernel18Ideal.nD Cert.Kernel18Ideal.τ).loc Cert.Kernel18Ideal.main_v0_5)) (v6 : (c : Dev Cert.Kernel18Ideal.nD) → Buf (Elt Ideal) ((c.tc : Thread Cert.Kernel18Ideal.nD Cert.Kernel18Ideal.τ).loc Cert.Kernel18Ideal.main_v0_6)) (v7 : (c : Dev Cert.Kernel18Ideal.nD) → Buf (Elt Ideal) ((c.tc : Thread Cert.Kernel18Ideal.nD Cert.Kernel18Ideal.τ).loc Cert.Kernel18Ideal.main_v0_7)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_v0_4) = v4 c
          ∧ r.2.mem ((c.tc : Thread Cert.Kernel18Ideal.nD Cert.Kernel18Ideal.τ).loc Cert.Kernel18Ideal.main_v0_5) = v5 c
          ∧ r.2.mem ((c.tc : Thread Cert.Kernel18Ideal.nD Cert.Kernel18Ideal.τ).loc Cert.Kernel18Ideal.main_v0_6) = v6 c
          ∧ r.2.mem ((c.tc : Thread Cert.Kernel18Ideal.nD Cert.Kernel18Ideal.τ).loc Cert.Kernel18Ideal.main_v0_7) = v7 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v61) = v0 c
          ∧ r.2.mem ((c.tc : Thread Cert.Reference18Ideal.nD Cert.Reference18Ideal.τ).loc Cert.Reference18Ideal.main_v62) = v1 c
          ∧ r.2.mem ((c.tc : Thread Cert.Reference18Ideal.nD Cert.Reference18Ideal.τ).loc Cert.Reference18Ideal.main_v63) = v2 c
          ∧ r.2.mem ((c.tc : Thread Cert.Reference18Ideal.nD Cert.Reference18Ideal.τ).loc Cert.Reference18Ideal.main_v64) = v3 c
          ∧ r.2.mem ((c.tc : Thread Cert.Reference18Ideal.nD Cert.Reference18Ideal.τ).loc Cert.Reference18Ideal.main_v65) = v4 c
          ∧ r.2.mem ((c.tc : Thread Cert.Reference18Ideal.nD Cert.Reference18Ideal.τ).loc Cert.Reference18Ideal.main_v66) = v5 c
          ∧ r.2.mem ((c.tc : Thread Cert.Reference18Ideal.nD Cert.Reference18Ideal.τ).loc Cert.Reference18Ideal.main_v67) = v6 c
          ∧ r.2.mem ((c.tc : Thread Cert.Reference18Ideal.nD Cert.Reference18Ideal.τ).loc Cert.Reference18Ideal.main_v68) = v7 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v35) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v5) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v5) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v9) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v9) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v9) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v8) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_finite_scores.lean ====
abbrev S2048x512 : Shape := ⟨2, ![2048, 512]⟩
abbrev S2048x128 : Shape := ⟨2, ![2048, 128]⟩
abbrev S8 : Shape := ⟨1, ![8]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S2048x512 .f32) (main_arg1 : FVec F S2048x128 .f32) (main_arg2 : FVec F S2048x128 .f32) (main_arg3 : FVec F S8 .f32) (main_arg4 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S2048x512 : Shape := ⟨2, ![2048, 512]⟩
abbrev S2048x128 : Shape := ⟨2, ![2048, 128]⟩
abbrev S8 : Shape := ⟨1, ![8]⟩
abbrev S1x8 : Shape := ⟨2, ![1, 8]⟩
abbrev S2x8 : Shape := ⟨2, ![2, 8]⟩
abbrev S2048x8x64 : Shape := ⟨3, ![2048, 8, 64]⟩
abbrev S8x2048x64 : Shape := ⟨3, ![8, 2048, 64]⟩
abbrev S2048x2x64 : Shape := ⟨3, ![2048, 2, 64]⟩
abbrev S2x2048x64 : Shape := ⟨3, ![2, 2048, 64]⟩
abbrev S8x8x128 : Shape := ⟨3, ![8, 8, 128]⟩
abbrev S4x2048x64 : Shape := ⟨3, ![4, 2048, 64]⟩
abbrev S1x2048x64 : Shape := ⟨3, ![1, 2048, 64]⟩
abbrev S4x8x128 : Shape := ⟨3, ![4, 8, 128]⟩
abbrev S512x1 : Shape := ⟨2, ![512, 1]⟩
abbrev S512x128 : Shape := ⟨2, ![512, 128]⟩
abbrev S1x1 : Shape := ⟨2, ![1, 1]⟩
abbrev S4x128x64 : Shape := ⟨3, ![4, 128, 64]⟩
abbrev S512x64 : Shape := ⟨2, ![512, 64]⟩
abbrev S1x128x64 : Shape := ⟨3, ![1, 128, 64]⟩
abbrev S128x64 : Shape := ⟨2, ![128, 64]⟩
abbrev S512 : Shape := ⟨1, ![512]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S8x128 : Shape := ⟨2, ![8, 128]⟩
abbrev S1x8x128 : Shape := ⟨3, ![1, 8, 128]⟩

abbrev nBuf : Space → Nat
  | .hbm => 21
  | .vmem => 16
  | .smem => 1
  | _ => 0

abbrev bufTy : (tb : Table) → Fin (tcTables nBuf tb) → BufTy
  | .hbm, ⟨0, _⟩ => ⟨S2048x512, .f32⟩
  | .hbm, ⟨1, _⟩ => ⟨S2048x128, .f32⟩
  | .hbm, ⟨2, _⟩ => ⟨S2048x128, .f32⟩
  | .hbm, ⟨3, _⟩ => ⟨S8, .f32⟩
  | .hbm, ⟨4, _⟩ => ⟨S2048x512, .f32⟩
  | .hbm, ⟨5, _⟩ => ⟨S8, .f32⟩
  | .hbm, ⟨6, _⟩ => ⟨S1x8, .f32⟩
  | .hbm, ⟨7, _⟩ => ⟨S1x8, .f32⟩
  | .hbm, ⟨8, _⟩ => ⟨S2x8, .f32⟩
  | .hbm, ⟨9, _⟩ => ⟨S2048x8x64, .f32⟩
  | .hbm, ⟨10, _⟩ => ⟨S8x2048x64, .f32⟩
  | .hbm, ⟨11, _⟩ => ⟨S2048x2x64, .f32⟩
  | .hbm, ⟨12, _⟩ => ⟨S2x2048x64, .f32⟩
  | .hbm, ⟨13, _⟩ => ⟨S2048x2x64, .f32⟩
  | .hbm, ⟨14, _⟩ => ⟨S2x2048x64, .f32⟩
  | .hbm, ⟨15, _⟩ => ⟨S2048x8x64, .f32⟩
  | .hbm, ⟨16, _⟩ => ⟨S8x2048x64, .f32⟩
  | .hbm, ⟨17, _⟩ => ⟨S8x2048x64, .bf16⟩
  | .hbm, ⟨18, _⟩ => ⟨S2x2048x64, .f32⟩
  | .hbm, ⟨19, _⟩ => ⟨S2x2048x64, .f32⟩
  | .hbm, ⟨20, _⟩ => ⟨S8x8x128, .f32⟩
  | .local _ .vmem, ⟨0, _⟩ => ⟨S4x2048x64, .f32⟩
  | .local _ .vmem, ⟨1, _⟩ => ⟨S4x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S4x2048x64, .f32⟩
  | .local _ .vmem, ⟨7, _⟩ => ⟨S4x2048x64, .f32⟩
  | .local _ .vmem, ⟨8, _⟩ => ⟨S4x2048x64, .bf16⟩
  | .local _ .vmem, ⟨9, _⟩ => ⟨S4x2048x64, .bf16⟩
  | .local _ .vmem, ⟨10, _⟩ => ⟨S1x2048x64, .f32⟩
  | .local _ .vmem, ⟨11, _⟩ => ⟨S1x2048x64, .f32⟩
  | .local _ .vmem, ⟨12, _⟩ => ⟨S1x2048x64, .f32⟩
  | .local _ .vmem, ⟨13, _⟩ => ⟨S1x2048x64, .f32⟩
  | .local _ .vmem, ⟨14, _⟩ => ⟨S4x8x128, .f32⟩
  | .local _ .vmem, ⟨15, _⟩ => ⟨S4x8x128, .f32⟩
  | .local _ .smem, ⟨0, _⟩ => ⟨S2x8, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k0_off1 (i : grid0.Coords) : Fin 2 → Nat :=
  let c0_35 : Index := 0#32
  let arg0 : BitVec 32 := BitVec.ofNat 32 (i 0).val
  let c4_i32 : BitVec 32 := 4#32
  let v88 : BitVec 32 := Scalar.muli arg0 c4_i32
  let c4_i32_33 : BitVec 32 := 4#32
  let v89 : BitVec 32 := Scalar.addi v88 c4_i32_33
  let c1_i32_34 : BitVec 32 := 1#32
  let v90 : BitVec 32 := Scalar.subi v89 c1_i32_34
  let v91 : Index := Scalar.indexCast v90
  ![0, v91.toNat]
def k0_off2 (i : grid0.Coords) (c0_i32_38 : BitVec 32) : Fin 2 → Nat :=
  let c0_39 : Index := 0#32
  let arg0 : BitVec 32 := BitVec.ofNat 32 (i 0).val
  let c4_i32_37 : BitVec 32 := 4#32
  let v96 : BitVec 32 := Scalar.muli arg0 c4_i32_37
  let v97 : BitVec 32 := Scalar.addi v96 c0_i32_38
  let v98 : Index := Scalar.indexCast v97
  ![0, v98.toNat]
def k0_off3 (i : grid0.Coords) : Fin 2 → Nat :=
  let c1_57 : Index := 1#32
  let arg0 : BitVec 32 := BitVec.ofNat 32 (i 0).val
  let c4_i32_54 : BitVec 32 := 4#32
  let v143 : BitVec 32 := Scalar.muli arg0 c4_i32_54
  let c4_i32_55 : BitVec 32 := 4#32
  let v144 : BitVec 32 := Scalar.addi v143 c4_i32_55
  let c1_i32_56 : BitVec 32 := 1#32
  let v145 : BitVec 32 := Scalar.subi v144 c1_i32_56
  let v146 : Index := Scalar.indexCast v145
  ![1, v146.toNat]
def k0_off4 (i : grid0.Coords) (c0_i32_60 : BitVec 32) : Fin 2 → Nat :=
  let c1_61 : Index := 1#32
  let arg0 : BitVec 32 := BitVec.ofNat 32 (i 0).val
  let c4_i32_59 : BitVec 32 := 4#32
  let v151 : BitVec 32 := Scalar.muli arg0 c4_i32_59
  let v152 : BitVec 32 := Scalar.addi v151 c0_i32_60
  let v153 : Index := Scalar.indexCast v152
  ![1, v153.toNat]
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_70 : BitVec 32 := 128#32
  let v173 : BitVec 32 := Scalar.muli arg10 c128_i32_70
  v173
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c1_i32_71 : BitVec 32 := 1#32
  let v175 : BitVec 32 := Scalar.subi arg10 c1_i32_71
  let c0_i32_72 : BitVec 32 := 0#32
  let v176 : BitVec 32 := Scalar.maxsi v175 c0_i32_72
  let c128_i32_73 : BitVec 32 := 128#32
  let v177 : BitVec 32 := Scalar.muli v176 c128_i32_73
  v177
def k0_off5 (k0_t1 : Fin k0_t1_loop.trips) : Fin 3 → Nat :=
  let c0_74 : Index := 0#32
  let c0_i32 : BitVec 32 := 0#32
  let c1_i32 : BitVec 32 := 1#32
  let arg10 : BitVec 32 := Scf.iv c0_i32 c1_i32 k0_t1
  let c128_i32_70 : BitVec 32 := 128#32
  let v173 : BitVec 32 := Scalar.muli arg10 c128_i32_70
  let v174 : BitVec 32 := v173
  let v179 : Index := Scalar.indexCast v174
  let c0_75 : Index := 0#32
  ![0, v179.toNat, 0]
def k0_off6 (k0_t1 : Fin k0_t1_loop.trips) : Fin 3 → Nat :=
  let c0_76 : Index := 0#32
  let c0_i32 : BitVec 32 := 0#32
  let c1_i32 : BitVec 32 := 1#32
  let arg10 : BitVec 32 := Scf.iv c0_i32 c1_i32 k0_t1
  let c128_i32_70 : BitVec 32 := 128#32
  let v173 : BitVec 32 := Scalar.muli arg10 c128_i32_70
  let v174 : BitVec 32 := v173
  let v183 : Index := Scalar.indexCast v174
  let c0_77 : Index := 0#32
  ![0, v183.toNat, 0]
def k0_off7 (k0_t1 : Fin k0_t1_loop.trips) : Fin 3 → Nat :=
  let c0_78 : Index := 0#32
  let c0_i32 : BitVec 32 := 0#32
  let c1_i32 : BitVec 32 := 1#32
  let arg10 : BitVec 32 := Scf.iv c0_i32 c1_i32 k0_t1
  let c1_i32_71 : BitVec 32 := 1#32
  let v175 : BitVec 32 := Scalar.subi arg10 c1_i32_71
  let c0_i32_72 : BitVec 32 := 0#32
  let v176 : BitVec 32 := Scalar.maxsi v175 c0_i32_72
  let c128_i32_73 : BitVec 32 := 128#32
  let v177 : BitVec 32 := Scalar.muli v176 c128_i32_73
  let v178 : BitVec 32 := v177
  let v186 : Index := Scalar.indexCast v178
  let c0_79 : Index := 0#32
  ![0, v186.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x2048x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S2048x512 : Shape := ⟨2, ![2048, 512]⟩
abbrev S2048x128 : Shape := ⟨2, ![2048, 128]⟩
abbrev S8 : Shape := ⟨1, ![8]⟩
abbrev S16x128x2x4x64 : Shape := ⟨5, ![16, 128, 2, 4, 64]⟩
abbrev S16x128x2x64 : Shape := ⟨4, ![16, 128, 2, 64]⟩
abbrev S1x128x2x64 : Shape := ⟨4, ![1, 128, 2, 64]⟩
abbrev S_ : Shape := ⟨0, ![]⟩
abbrev S15x128x2x64 : Shape := ⟨4, ![15, 128, 2, 64]⟩
abbrev S16x256x2x64 : Shape := ⟨4, ![16, 256, 2, 64]⟩
abbrev S16x2x256x128x4 : Shape := ⟨5, ![16, 2, 256, 128, 4]⟩
abbrev S16x2x4x128x256 : Shape := ⟨5, ![16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x2x4x128x256 : Shape := ⟨5, ![1, 2, 4, 128, 256]⟩
abbrev S16x1x1x128x256 : Shape := ⟨5, ![16, 1, 1, 128, 256]⟩
abbrev S1x2x4x1x1 : Shape := ⟨5, ![1, 2, 4, 1, 1]⟩
abbrev S16x2x4x128x1 : Shape := ⟨5, ![16, 2, 4, 128, 1]⟩
abbrev S16x2x4x128x257 : Shape := ⟨5, ![16, 2, 4, 128, 257]⟩
abbrev S16x2x4x128 : Shape := ⟨4, ![16, 2, 4, 128]⟩
abbrev S16x2x64x4x128 : Shape := ⟨5, ![16, 2, 64, 4, 128]⟩
abbrev S16x2x64x256 : Shape := ⟨4, ![16, 2, 64, 256]⟩
abbrev S16x2x128x4x64 : Shape := ⟨5, ![16, 2, 128, 4, 64]⟩
abbrev S16x2x256x64 : Shape := ⟨4, ![16, 2, 256, 64]⟩
abbrev S2048x8x64 : Shape := ⟨3, ![2048, 8, 64]⟩
abbrev S8x2048x64 : Shape := ⟨3, ![8, 2048, 64]⟩
abbrev S2048x2x64 : Shape := ⟨3, ![2048, 2, 64]⟩
abbrev S2x2048x64 : Shape := ⟨3, ![2, 2048, 64]⟩
abbrev S8x1x1 : Shape := ⟨3, ![8, 1, 1]⟩
abbrev S8x8x128 : Shape := ⟨3, ![8, 8, 128]⟩

abbrev nBuf : Space → Nat
  | .hbm => 191
  | .vmem => 0
  | .smem => 0
  | _ => 0

abbrev hbmTy0_0 (i : Nat) : BufTy := match i % 128 with
  | 0 => ⟨S2048x512, .f32⟩
  | 1 => ⟨S2048x128, .f32⟩
  | 2 => ⟨S2048x128, .f32⟩
  | 3 => ⟨S8, .f32⟩
  | 4 => ⟨S2048x512, .f32⟩
  | 5 => ⟨S8, .f32⟩
  | 6 => ⟨S16x128x2x4x64, .f32⟩
  | 7 => ⟨S16x128x2x64, .f32⟩
  | 8 => ⟨S16x128x2x64, .f32⟩
  | 9 => ⟨S1x128x2x64, .f32⟩
  | 10 => ⟨S_, .f32⟩
  | 11 => ⟨S1x128x2x64, .f32⟩
  | 12 => ⟨S15x128x2x64, .f32⟩
  | 13 => ⟨S16x128x2x64, .f32⟩
  | 14 => ⟨S_, .f32⟩
  | 15 => ⟨S1x128x2x64, .f32⟩
  | 16 => ⟨S16x256x2x64, .f32⟩
  | 17 => ⟨S15x128x2x64, .f32⟩
  | 18 => ⟨S16x128x2x64, .f32⟩
  | 19 => ⟨S_, .f32⟩
  | 20 => ⟨S1x128x2x64, .f32⟩
  | 21 => ⟨S16x256x2x64, .f32⟩
  | 22 => ⟨S16x2x256x128x4, .f32⟩
  | 23 => ⟨S16x2x4x128x256, .f32⟩
  | 24 => ⟨S_, .f32⟩
  | 25 => ⟨S16x2x4x128x256, .f32⟩
  | 26 => ⟨S16x2x4x128x256, .f32⟩
  | 27 => ⟨S128, .i32⟩
  | 28 => ⟨S128x1, .i32⟩
  | 29 => ⟨S256, .i32⟩
  | 30 => ⟨S1x256, .i32⟩
  | 31 => ⟨S_, .i32⟩
  | 32 => ⟨S128x1, .i32⟩
  | 33 => ⟨S128x1, .i32⟩
  | 34 => ⟨S128x256, .i32⟩
  | 35 => ⟨S128x256, .i32⟩
  | 36 => ⟨S128x256, .i32⟩
  | 37 => ⟨S16, .i32⟩
  | 38 => ⟨S16x1x1, .i32⟩
  | 39 => ⟨S_, .i32⟩
  | 40 => ⟨S16x1x1, .i32⟩
  | 41 => ⟨S16x1x1, .i32⟩
  | 42 => ⟨S_, .i32⟩
  | 43 => ⟨S16x1x1, .i32⟩
  | 44 => ⟨S16x1x1, .i32⟩
  | 45 => ⟨S1x1x256, .i32⟩
  | 46 => ⟨S16x1x256, .i32⟩
  | 47 => ⟨S16x1x256, .i32⟩
  | 48 => ⟨S16x1x256, .i32⟩
  | 49 => ⟨S_, .i32⟩
  | 50 => ⟨S128x256, .i32⟩
  | 51 => ⟨S128x256, .i1⟩
  | 52 => ⟨S1x128x256, .i1⟩
  | 53 => ⟨S_, .i32⟩
  | 54 => ⟨S128x256, .i32⟩
  | 55 => ⟨S128x256, .i1⟩
  | 56 => ⟨S1x128x256, .i1⟩
  | 57 => ⟨S1x128x256, .i1⟩
  | 58 => ⟨S_, .i32⟩
  | 59 => ⟨S16x1x256, .i32⟩
  | 60 => ⟨S16x1x256, .i1⟩
  | 61 => ⟨S16x128x256, .i1⟩
  | 62 => ⟨S16x128x256, .i1⟩
  | 63 => ⟨S16x128x256, .i1⟩
  | 64 => ⟨S2x4, .f32⟩
  | 65 => ⟨S2x4x1x1, .f32⟩
  | 66 => ⟨S128x256, .f32⟩
  | 67 => ⟨S1x1x128x256, .f32⟩
  | 68 => ⟨S2x4x128x256, .f32⟩
  | 69 => ⟨S2x4x128x256, .f32⟩
  | 70 => ⟨S2x4x128x256, .f32⟩
  | 71 => ⟨S1x2x4x128x256, .f32⟩
  | 72 => ⟨S16x2x4x128x256, .f32⟩
  | 73 => ⟨S16x2x4x128x256, .f32⟩
  | 74 => ⟨S16x1x1x128x256, .i1⟩
  | 75 => ⟨S_, .f32⟩
  | 76 => ⟨S_, .f32⟩
  | 77 => ⟨S16x2x4x128x256, .i1⟩
  | 78 => ⟨S16x2x4x128x256, .f32⟩
  | 79 => ⟨S16x2x4x128x256, .f32⟩
  | 80 => ⟨S_, .f32⟩
  | 81 => ⟨S16x2x4x128x256, .f32⟩
  | 82 => ⟨S1x2x4x1x1, .f32⟩
  | 83 => ⟨S16x2x4x128x1, .f32⟩
  | 84 => ⟨S16x2x4x128x257, .f32⟩
  | 85 => ⟨S_, .f32⟩
  | 86 => ⟨S16x2x4x128, .f32⟩
  | 87 => ⟨S16x2x4x128x1, .f32⟩
  | 88 => ⟨S16x2x4x128x257, .f32⟩
  | 89 => ⟨S16x2x4x128x257, .i1⟩
  | 90 => ⟨S16x2x4x128x257, .f32⟩
  | 91 => ⟨S_, .f32⟩
  | 92 => ⟨S16x2x4x128, .f32⟩
  | 93 => ⟨S_, .f32⟩
  | 94 => ⟨S16x2x4x128, .f32⟩
  | 95 => ⟨S16x2x4x128, .f32⟩
  | 96 => ⟨S_, .f32⟩
  | 97 => ⟨S16x2x4x128, .f32⟩
  | 98 => ⟨S16x2x4x128, .i1⟩
  | 99 => ⟨S_, .f32⟩
  | 100 => ⟨S16x2x4x128, .f32⟩
  | 101 => ⟨S16x2x4x128, .i1⟩
  | 102 => ⟨S_, .f32⟩
  | 103 => ⟨S16x2x4x128, .f32⟩
  | 104 => ⟨S_, .f32⟩
  | 105 => ⟨S16x2x4x128, .f32⟩
  | 106 => ⟨S_, .f32⟩
  | 107 => ⟨S16x2x4x128, .f32⟩
  | 108 => ⟨S16x2x4x128, .f32⟩
  | 109 => ⟨S16x2x4x128, .f32⟩
  | 110 => ⟨S16x2x4x128x1, .f32⟩
  | 111 => ⟨S16x2x4x128x257, .f32⟩
  | 112 => ⟨S16x2x4x128x257, .f32⟩
  | 113 => ⟨S16x2x4x128x257, .f32⟩
  | 114 => ⟨S_, .f32⟩
  | 115 => ⟨S16x2x4x128, .f32⟩
  | 116 => ⟨S16x2x4x128x1, .f32⟩
  | 117 => ⟨S16x2x4x128x257, .f32⟩
  | 118 => ⟨S16x2x4x128x257, .f32⟩
  | 119 => ⟨S16x2x4x128x1, .f32⟩
  | 120 => ⟨S_, .f32⟩
  | 121 => ⟨S16x2x4x128x1, .f32⟩
  | 122 => ⟨S16x2x4x128x1, .f32⟩
  | 123 => ⟨S16x2x4x128x256, .f32⟩
  | 124 => ⟨S16x2x64x4x128, .f32⟩
  | 125 => ⟨S16x128x2x4x64, .f32⟩
  | 126 => ⟨S2048x512, .f32⟩
  | 127 => ⟨S16x128x2x4x64, .f32⟩
  | _ => ⟨S2048x512, .f32⟩

abbrev hbmTy0_1 (i : Nat) : BufTy := match i % 128 with
  | 0 => ⟨S16x2x64x4x128, .f32⟩
  | 1 => ⟨S16x2x4x128x256, .f32⟩
  | 2 => ⟨S16x2x64x256, .f32⟩
  | 3 => ⟨S16x256x2x64, .f32⟩
  | 4 => ⟨S_, .f32⟩
  | 5 => ⟨S16x2x4x128x257, .f32⟩
  | 6 => ⟨S16x2x4x128x257, .f32⟩
  | 7 => ⟨S16x2x4x128x257, .f32⟩
  | 8 => ⟨S16x2x4x128x257, .f32⟩
  | 9 => ⟨S_, .f32⟩
  | 10 => ⟨S16x2x4x128, .f32⟩
  | 11 => ⟨S16x2x4x128x1, .f32⟩
  | 12 => ⟨S16x2x4x128x1, .f32⟩
  | 13 => ⟨S16x2x4x128x257, .f32⟩
  | 14 => ⟨S16x2x4x128x257, .f32⟩
  | 15 => ⟨S_, .f32⟩
  | 16 => ⟨S16x2x4x128, .f32⟩
  | 17 => ⟨S16x2x4x128x257, .f32⟩
  | 18 => ⟨S16x2x4x128x257, .f32⟩
  | 19 => ⟨S16x2x4x128x257, .f32⟩
  | 20 => ⟨S16x2x4x128x256, .f32⟩
  | 21 => ⟨S16x2x4x128x1, .f32⟩
  | 22 => ⟨S_, .f32⟩
  | 23 => ⟨S2x4, .f32⟩
  | 24 => ⟨S1x2x4x1x1, .f32⟩
  | 25 => ⟨S8, .f32⟩
  | 26 => ⟨S_, .f32⟩
  | 27 => ⟨S16x2x4x128x256, .f32⟩
  | 28 => ⟨S16x2x4x128x256, .f32⟩
  | 29 => ⟨S_, .f32⟩
  | 30 => ⟨S16x2x4x128x256, .f32⟩
  | 31 => ⟨S16x2x4x128x256, .f32⟩
  | 32 => ⟨S16x2x256x128x4, .f32⟩
  | 33 => ⟨S16x2x128x4x64, .f32⟩
  | 34 => ⟨S16x128x2x4x64, .f32⟩
  | 35 => ⟨S16x2x256x64, .f32⟩
  | 36 => ⟨S16x256x2x64, .f32⟩
  | 37 => ⟨S16x128x2x64, .f32⟩
  | 38 => ⟨S16x128x2x64, .f32⟩
  | 39 => ⟨S1x128x2x64, .f32⟩
  | 40 => ⟨S15x128x2x64, .f32⟩
  | 41 => ⟨S_, .f32⟩
  | 42 => ⟨S16x128x2x64, .f32⟩
  | 43 => ⟨S16x128x2x64, .f32⟩
  | 44 => ⟨S16x128x2x64, .f32⟩
  | 45 => ⟨S16x128x2x64, .f32⟩
  | 46 => ⟨S1x128x2x64, .f32⟩
  | 47 => ⟨S15x128x2x64, .f32⟩
  | 48 => ⟨S_, .f32⟩
  | 49 => ⟨S16x128x2x64, .f32⟩
  | 50 => ⟨S16x128x2x64, .f32⟩
  | 51 => ⟨S2048x128, .f32⟩
  | 52 => ⟨S2048x128, .f32⟩
  | 53 => ⟨S2048x512, .f32⟩
  | 54 => ⟨S2048x8x64, .f32⟩
  | 55 => ⟨S8x2048x64, .f32⟩
  | 56 => ⟨S8x2048x64, .bf16⟩
  | 57 => ⟨S2048x2x64, .f32⟩
  | 58 => ⟨S2x2048x64, .f32⟩
  | 59 => ⟨S2048x2x64, .f32⟩
  | 60 => ⟨S2x2048x64, .f32⟩
  | 61 => ⟨S8x1x1, .f32⟩
  | 62 => ⟨S8x8x128, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_call0_v0 : Ref sig .tc := ⟨.hbm, 76, rfl⟩
abbrev main_v59_1 : Ref sig .tc := ⟨.hbm, 77, rfl⟩
abbrev main_call0_v2 : Ref sig .tc := ⟨.hbm, 78, rfl⟩
abbrev main_v59_0 : Ref sig .tc := ⟨.hbm, 79, rfl⟩
abbrev main_call0_cst : Ref sig .tc := ⟨.hbm, 80, rfl⟩
abbrev main_v59_2 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_cst_17 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_18 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_19 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_20 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_21 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_22 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_23 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_call1_cst : Ref sig .tc := ⟨.hbm, 154, rfl⟩
abbrev main_call1_v0 : Ref sig .tc := ⟨.hbm, 155, rfl⟩
abbrev main_v118 : Ref sig .tc := ⟨.hbm, 156, rfl⟩
abbrev main_cst_24 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_25 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_26 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩

abbrev nD : Nat := 1
abbrev τ : Topo := Topo.v7x

variable {F : FTy → Type} [FloatOps F]
-- ==== Kernel2.lean ====
abbrev S2048x8448 : Shape := ⟨2, ![2048, 8448]⟩
abbrev S3x512 : Shape := ⟨2, ![3, 512]⟩
abbrev S2048x512 : Shape := ⟨2, ![2048, 512]⟩
abbrev S2048x128 : Shape := ⟨2, ![2048, 128]⟩
abbrev S3x128 : Shape := ⟨2, ![3, 128]⟩
abbrev S1x128 : Shape := ⟨2, ![1, 128]⟩
abbrev S128 : Shape := ⟨1, ![128]⟩

abbrev nBuf : Space → Nat
  | .hbm => 7
  | .vmem => 18
  | .smem => 0
  | _ => 0

abbrev bufTy : (tb : Table) → Fin (tcTables nBuf tb) → BufTy
  | .hbm, ⟨0, _⟩ => ⟨S2048x8448, .f32⟩
  | .hbm, ⟨1, _⟩ => ⟨S3x512, .f32⟩
  | .hbm, ⟨2, _⟩ => ⟨S2048x512, .f32⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S3x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S3x128, .f32⟩
  | .local _ .vmem, ⟨9, _⟩ => ⟨S3x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S3x128, .f32⟩
  | .local _ .vmem, ⟨17, _⟩ => ⟨S3x128, .f32⟩
  | _, _ => ⟨S2048x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S2048x8448 : Shape := ⟨2, ![2048, 8448]⟩
abbrev S3x512 : Shape := ⟨2, ![3, 512]⟩
abbrev S2048x512 : Shape := ⟨2, ![2048, 512]⟩
abbrev S_ : Shape := ⟨0, ![]⟩
abbrev S2x512 : Shape := ⟨2, ![2, 512]⟩
abbrev S2050x512 : Shape := ⟨2, ![2050, 512]⟩
abbrev S1x512 : Shape := ⟨2, ![1, 512]⟩
abbrev S512 : Shape := ⟨1, ![512]⟩

abbrev nBuf : Space → Nat
  | .hbm => 88
  | .vmem => 0
  | .smem => 0
  | _ => 0

abbrev bufTy : (tb : Table) → Fin (tcTables nBuf tb) → BufTy
  | .hbm, ⟨0, _⟩ => ⟨S2048x8448, .f32⟩
  | .hbm, ⟨1, _⟩ => ⟨S3x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2x512, .f32⟩
  | .hbm, ⟨9, _⟩ => ⟨S2050x512, .f32⟩
  | .hbm, ⟨10, _⟩ => ⟨S_, .f32⟩
  | .hbm, ⟨11, _⟩ => ⟨S2x512, .f32⟩
  | .hbm, ⟨12, _⟩ => ⟨S1x512, .f32⟩
  | .hbm, ⟨13, _⟩ => ⟨S512, .f32⟩
  | .hbm, ⟨14, _⟩ => ⟨S2048x512, .f32⟩
  | .hbm, ⟨15, _⟩ => ⟨S1x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S1x512, .f32⟩
  | .hbm, ⟨22, _⟩ => ⟨S512, .f32⟩
  | .hbm, ⟨23, _⟩ => ⟨S2048x512, .f32⟩
  | .hbm, ⟨24, _⟩ => ⟨S1x512, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S1x512, .f32⟩
  | .hbm, ⟨29, _⟩ => ⟨S512, .f32⟩
  | .hbm, ⟨30, _⟩ => ⟨S2048x512, .f32⟩
  | .hbm, ⟨31, _⟩ => ⟨S1x512, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S_, .f32⟩
  | .hbm, ⟨42, _⟩ => ⟨S512, .f32⟩
  | .hbm, ⟨43, _⟩ => ⟨S1x512, .f32⟩
  | .hbm, ⟨44, _⟩ => ⟨S_, .f32⟩
  | .hbm, ⟨45, _⟩ => ⟨S512, .f32⟩
  | .hbm, ⟨46, _⟩ => ⟨S_, .f32⟩
  | .hbm, ⟨47, _⟩ => ⟨S2050x512, .f32⟩
  | .hbm, ⟨48, _⟩ => ⟨S1x512, .f32⟩
  | .hbm, ⟨49, _⟩ => ⟨S_, .f32⟩
  | .hbm, ⟨50, _⟩ => ⟨S3x512, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S_, .f32⟩
  | .hbm, ⟨58, _⟩ => ⟨S512, .f32⟩
  | .hbm, ⟨59, _⟩ => ⟨S_, .f32⟩
  | .hbm, ⟨60, _⟩ => ⟨S2050x512, .f32⟩
  | .hbm, ⟨61, _⟩ => ⟨S2050x512, .f32⟩
  | .hbm, ⟨62, _⟩ => ⟨S1x512, .f32⟩
  | .hbm, ⟨63, _⟩ => ⟨S_, .f32⟩
  | .hbm, ⟨64, _⟩ => ⟨S3x512, .f32⟩
  | .hbm, ⟨65, _⟩ => ⟨S3x512, .f32⟩
  | .hbm, ⟨66, _⟩ => ⟨S2048x512, .f32⟩
  | .hbm, ⟨67, _⟩ => ⟨S2048x512, .f32⟩
  | .hbm, ⟨68, _⟩ => ⟨S2048x512, .f32⟩
  | .hbm, ⟨69, _⟩ => ⟨S_, .f32⟩
  | .hbm, ⟨70, _⟩ => ⟨S512, .f32⟩
  | .hbm, ⟨71, _⟩ => ⟨S1x512, .f32⟩
  | .hbm, ⟨72, _⟩ => ⟨S_, .f32⟩
  | .hbm, ⟨73, _⟩ => ⟨S512, .f32⟩
  | .hbm, ⟨74, _⟩ => ⟨S_, .f32⟩
  | .hbm, ⟨75, _⟩ => ⟨S2050x512, .f32⟩
  | .hbm, ⟨76, _⟩ => ⟨S2050x512, .f32⟩
  | .hbm, ⟨77, _⟩ => ⟨S1x512, .f32⟩
  | .hbm, ⟨78, _⟩ => ⟨S_, .f32⟩
  | .hbm, ⟨79, _⟩ => ⟨S3x512, .f32⟩
  | .hbm, ⟨80, _⟩ => ⟨S3x512, .f32⟩
  | .hbm, ⟨81, _⟩ => ⟨S2x512, .f32⟩
  | .hbm, ⟨82, _⟩ => ⟨S2048x512, .f32⟩
  | .hbm, ⟨83, _⟩ => ⟨S2048x512, .f32⟩
  | .hbm, ⟨84, _⟩ => ⟨S2048x512, .f32⟩
  | .hbm, ⟨85, _⟩ => ⟨S2048x512, .bf16⟩
  | .hbm, ⟨86, _⟩ => ⟨S2048x512, .bf16⟩
  | .hbm, ⟨87, _⟩ => ⟨S2048x512, .bf16⟩
  | _, _ => ⟨S2048x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Kernel3.lean ====
abbrev S2048x8448 : Shape := ⟨2, ![2048, 8448]⟩
abbrev S2048x1024 : Shape := ⟨2, ![2048, 1024]⟩
abbrev S19968x1024 : Shape := ⟨2, ![19968, 1024]⟩
abbrev S2048x768 : Shape := ⟨2, ![2048, 768]⟩
abbrev S768x1024 : Shape := ⟨2, ![768, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x8448, .bf16⟩
  | .hbm, ⟨1, _⟩ => ⟨S2048x1024, .bf16⟩
  | .hbm, ⟨2, _⟩ => ⟨S19968x1024, .bf16⟩
  | .hbm, ⟨3, _⟩ => ⟨S19968x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S768x1024, .bf16⟩
  | .local _ .vmem, ⟨4, _⟩ => ⟨S768x1024, .bf16⟩
  | _, _ => ⟨S2048x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg0
  let c0_i32 : BitVec 32 := 0#32
  ![v0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x8448 : Shape := ⟨2, ![2048, 8448]⟩
abbrev S2048x1024 : Shape := ⟨2, ![2048, 1024]⟩
abbrev S19968x1024 : Shape := ⟨2, ![19968, 1024]⟩
abbrev S_ : Shape := ⟨0, ![]⟩
abbrev S1024x8448 : Shape := ⟨2, ![1024, 8448]⟩
abbrev S8448x1024 : Shape := ⟨2, ![8448, 1024]⟩
abbrev S3072x1024 : Shape := ⟨2, ![3072, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x8448, .bf16⟩
  | .hbm, ⟨1, _⟩ => ⟨S2048x1024, .bf16⟩
  | .hbm, ⟨2, _⟩ => ⟨S19968x1024, .bf16⟩
  | .hbm, ⟨3, _⟩ => ⟨S_, .f32⟩
  | .hbm, ⟨4, _⟩ => ⟨S1024x8448, .f32⟩
  | .hbm, ⟨5, _⟩ => ⟨S2048x1024, .f32⟩
  | .hbm, ⟨6, _⟩ => ⟨S2048x8448, .f32⟩
  | .hbm, ⟨7, _⟩ => ⟨S2048x8448, .f32⟩
  | .hbm, ⟨8, _⟩ => ⟨S8448x1024, .f32⟩
  | .hbm, ⟨9, _⟩ => ⟨S1024x8448, .f32⟩
  | .hbm, ⟨10, _⟩ => ⟨S8448x1024, .bf16⟩
  | .hbm, ⟨11, _⟩ => ⟨S8448x1024, .f32⟩
  | .hbm, ⟨12, _⟩ => ⟨S8448x1024, .bf16⟩
  | .hbm, ⟨13, _⟩ => ⟨S3072x1024, .bf16⟩
  | .hbm, ⟨14, _⟩ => ⟨S19968x1024, .bf16⟩
  | _, _ => ⟨S2048x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel4.lean ====
abbrev S2048x8448 : Shape := ⟨2, ![2048, 8448]⟩
abbrev S19968x1024 : Shape := ⟨2, ![19968, 1024]⟩
abbrev S2048x1024 : Shape := ⟨2, ![2048, 1024]⟩
abbrev S2048x2816 : Shape := ⟨2, ![2048, 2816]⟩
abbrev S2816x256 : Shape := ⟨2, ![2816, 256]⟩
abbrev S2048x256 : Shape := ⟨2, ![2048, 256]⟩

abbrev nBuf : Space → Nat
  | .hbm => 3
  | .vmem => 7
  | .smem => 0
  | _ => 0

abbrev bufTy : (tb : Table) → Fin (tcTables nBuf tb) → BufTy
  | .hbm, ⟨0, _⟩ => ⟨S2048x8448, .bf16⟩
  | .hbm, ⟨1, _⟩ => ⟨S19968x1024, .bf16⟩
  | .hbm, ⟨2, _⟩ => ⟨S2048x1024, .f32⟩
  | .local _ .vmem, ⟨0, _⟩ => ⟨S2048x2816, .bf16⟩
  | .local _ .vmem, ⟨1, _⟩ => ⟨S2048x2816, .bf16⟩
  | .local _ .vmem, ⟨2, _⟩ => ⟨S2816x256, .bf16⟩
  | .local _ .vmem, ⟨3, _⟩ => ⟨S2816x256, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S2048x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg2
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x8448 : Shape := ⟨2, ![2048, 8448]⟩
abbrev S19968x1024 : Shape := ⟨2, ![19968, 1024]⟩
abbrev S8448x1024 : Shape := ⟨2, ![8448, 1024]⟩
abbrev S1024x8448 : Shape := ⟨2, ![1024, 8448]⟩
abbrev S_ : Shape := ⟨0, ![]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x8448, .bf16⟩
  | .hbm, ⟨1, _⟩ => ⟨S19968x1024, .bf16⟩
  | .hbm, ⟨2, _⟩ => ⟨S8448x1024, .bf16⟩
  | .hbm, ⟨3, _⟩ => ⟨S8448x1024, .f32⟩
  | .hbm, ⟨4, _⟩ => ⟨S1024x8448, .f32⟩
  | .hbm, ⟨5, _⟩ => ⟨S_, .f32⟩
  | .hbm, ⟨6, _⟩ => ⟨S2048x1024, .f32⟩
  | .hbm, ⟨7, _⟩ => ⟨S2048x8448, .f32⟩
  | .hbm, ⟨8, _⟩ => ⟨S2048x8448, .f32⟩
  | .hbm, ⟨9, _⟩ => ⟨S2048x1024, .f32⟩
  | _, _ => ⟨S2048x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x1024 : Shape := ⟨2, ![2048, 1024]⟩
abbrev S19968x1024 : Shape := ⟨2, ![19968, 1024]⟩
abbrev S2048x2816 : Shape := ⟨2, ![2048, 2816]⟩
abbrev S256x1024 : Shape := ⟨2, ![256, 1024]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S19968x1024, .bf16⟩
  | .hbm, ⟨2, _⟩ => ⟨S2048x2816, .f32⟩
  | .local _ .vmem, ⟨0, _⟩ => ⟨S2048x1024, .f32⟩
  | .local _ .vmem, ⟨1, _⟩ => ⟨S256x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x1024 : Shape := ⟨2, ![2048, 1024]⟩
abbrev S19968x1024 : Shape := ⟨2, ![19968, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S19968x1024, .bf16⟩
  | .hbm, ⟨2, _⟩ => ⟨S2816x1024, .bf16⟩
  | .hbm, ⟨3, _⟩ => ⟨S2816x1024, .f32⟩
  | .hbm, ⟨4, _⟩ => ⟨S_, .f32⟩
  | .hbm, ⟨5, _⟩ => ⟨S2048x2816, .f32⟩
  | .hbm, ⟨6, _⟩ => ⟨S2048x1024, .f32⟩
  | .hbm, ⟨7, _⟩ => ⟨S2048x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2048x2816 : Shape := ⟨2, ![2048, 2816]⟩
abbrev S2048x1024 : Shape := ⟨2, ![2048, 1024]⟩
abbrev S19968x1024 : Shape := ⟨2, ![19968, 1024]⟩
abbrev S2048x256 : Shape := ⟨2, ![2048, 256]⟩
abbrev S256x1024 : Shape := ⟨2, ![256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S19968x1024, .bf16⟩
  | .hbm, ⟨3, _⟩ => ⟨S19968x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S256x1024, .bf16⟩
  | .local _ .vmem, ⟨4, _⟩ => ⟨S256x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2816 : Shape := ⟨2, ![2048, 2816]⟩
abbrev S2048x1024 : Shape := ⟨2, ![2048, 1024]⟩
abbrev S19968x1024 : Shape := ⟨2, ![19968, 1024]⟩
abbrev S_ : Shape := ⟨0, ![]⟩
abbrev S2816x1024 : Shape := ⟨2, ![2816, 1024]⟩
abbrev S1024x2816 : Shape := ⟨2, ![1024, 2816]⟩
abbrev S17152x1024 : Shape := ⟨2, ![17152, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S19968x1024, .bf16⟩
  | .hbm, ⟨3, _⟩ => ⟨S_, .f32⟩
  | .hbm, ⟨4, _⟩ => ⟨S2816x1024, .f32⟩
  | .hbm, ⟨5, _⟩ => ⟨S2048x2816, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S17152x1024, .bf16⟩
  | .hbm, ⟨11, _⟩ => ⟨S19968x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel7.lean ====
abbrev S2048x2816 : Shape := ⟨2, ![2048, 2816]⟩
abbrev S2048x1024 : Shape := ⟨2, ![2048, 1024]⟩
abbrev S19968x1024 : Shape := ⟨2, ![19968, 1024]⟩
abbrev S2048x256 : Shape := ⟨2, ![2048, 256]⟩
abbrev S256x1024 : Shape := ⟨2, ![256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S19968x1024, .bf16⟩
  | .hbm, ⟨3, _⟩ => ⟨S19968x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg0
  let c0_i32 : BitVec 32 := 0#32
  ![v0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2816 : Shape := ⟨2, ![2048, 2816]⟩
abbrev S2048x1024 : Shape := ⟨2, ![2048, 1024]⟩
abbrev S19968x1024 : Shape := ⟨2, ![19968, 1024]⟩
abbrev S_ : Shape := ⟨0, ![]⟩
abbrev S1024x2816 : Shape := ⟨2, ![1024, 2816]⟩
abbrev S2816x1024 : Shape := ⟨2, ![2816, 1024]⟩
abbrev S14336x1024 : Shape := ⟨2, ![14336, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S19968x1024, .bf16⟩
  | .hbm, ⟨3, _⟩ => ⟨S_, .f32⟩
  | .hbm, ⟨4, _⟩ => ⟨S1024x2816, .f32⟩
  | .hbm, ⟨5, _⟩ => ⟨S2048x1024, .f32⟩
  | .hbm, ⟨6, _⟩ => ⟨S2048x2816, .f32⟩
  | .hbm, ⟨7, _⟩ => ⟨S2048x2816, .f32⟩
  | .hbm, ⟨8, _⟩ => ⟨S2816x1024, .f32⟩
  | .hbm, ⟨9, _⟩ => ⟨S1024x2816, .f32⟩
  | .hbm, ⟨10, _⟩ => ⟨S2816x1024, .bf16⟩
  | .hbm, ⟨11, _⟩ => ⟨S2816x1024, .f32⟩
  | .hbm, ⟨12, _⟩ => ⟨S2816x1024, .bf16⟩
  | .hbm, ⟨13, _⟩ => ⟨S14336x1024, .bf16⟩
  | .hbm, ⟨14, _⟩ => ⟨S19968x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel8.lean ====
abbrev S2048x2816 : Shape := ⟨2, ![2048, 2816]⟩
abbrev S2048x1024 : Shape := ⟨2, ![2048, 1024]⟩
abbrev S19968x1024 : Shape := ⟨2, ![19968, 1024]⟩
abbrev S2048x256 : Shape := ⟨2, ![2048, 256]⟩
abbrev S256x1024 : Shape := ⟨2, ![256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S19968x1024, .bf16⟩
  | .hbm, ⟨3, _⟩ => ⟨S19968x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.addi c22_i32 arg0
  let c0_i32 : BitVec 32 := 0#32
  ![v0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2816 : Shape := ⟨2, ![2048, 2816]⟩
abbrev S2048x1024 : Shape := ⟨2, ![2048, 1024]⟩
abbrev S19968x1024 : Shape := ⟨2, ![19968, 1024]⟩
abbrev S_ : Shape := ⟨0, ![]⟩
abbrev S1024x2816 : Shape := ⟨2, ![1024, 2816]⟩
abbrev S2816x1024 : Shape := ⟨2, ![2816, 1024]⟩
abbrev S5632x1024 : Shape := ⟨2, ![5632, 1024]⟩
abbrev S11520x1024 : Shape := ⟨2, ![11520, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S19968x1024, .bf16⟩
  | .hbm, ⟨3, _⟩ => ⟨S_, .f32⟩
  | .hbm, ⟨4, _⟩ => ⟨S1024x2816, .f32⟩
  | .hbm, ⟨5, _⟩ => ⟨S2048x1024, .f32⟩
  | .hbm, ⟨6, _⟩ => ⟨S2048x2816, .f32⟩
  | .hbm, ⟨7, _⟩ => ⟨S2048x2816, .f32⟩
  | .hbm, ⟨8, _⟩ => ⟨S2816x1024, .f32⟩
  | .hbm, ⟨9, _⟩ => ⟨S1024x2816, .f32⟩
  | .hbm, ⟨10, _⟩ => ⟨S5632x1024, .bf16⟩
  | .hbm, ⟨11, _⟩ => ⟨S2816x1024, .f32⟩
  | .hbm, ⟨12, _⟩ => ⟨S2816x1024, .bf16⟩
  | .hbm, ⟨13, _⟩ => ⟨S11520x1024, .bf16⟩
  | .hbm, ⟨14, _⟩ => ⟨S19968x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel9.lean ====
abbrev S2048x2816 : Shape := ⟨2, ![2048, 2816]⟩
abbrev S19968x1024 : Shape := ⟨2, ![19968, 1024]⟩
abbrev S2048x1024 : Shape := ⟨2, ![2048, 1024]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S19968x1024, .bf16⟩
  | .hbm, ⟨2, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2816 : Shape := ⟨2, ![2048, 2816]⟩
abbrev S19968x1024 : Shape := ⟨2, ![19968, 1024]⟩
abbrev S2816x1024 : Shape := ⟨2, ![2816, 1024]⟩
abbrev S1024x2816 : Shape := ⟨2, ![1024, 2816]⟩
abbrev S_ : Shape := ⟨0, ![]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S19968x1024, .bf16⟩
  | .hbm, ⟨2, _⟩ => ⟨S2816x1024, .bf16⟩
  | .hbm, ⟨3, _⟩ => ⟨S2816x1024, .f32⟩
  | .hbm, ⟨4, _⟩ => ⟨S1024x2816, .f32⟩
  | .hbm, ⟨5, _⟩ => ⟨S_, .f32⟩
  | .hbm, ⟨6, _⟩ => ⟨S2048x1024, .f32⟩
  | .hbm, ⟨7, _⟩ => ⟨S2048x2816, .f32⟩
  | .hbm, ⟨8, _⟩ => ⟨S2048x2816, .f32⟩
  | .hbm, ⟨9, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x2816 : Shape := ⟨2, ![2048, 2816]⟩
abbrev S19968x1024 : Shape := ⟨2, ![19968, 1024]⟩
abbrev S2048x1024 : Shape := ⟨2, ![2048, 1024]⟩
abbrev S2816x256 : Shape := ⟨2, ![2816, 256]⟩
abbrev S2048x256 : Shape := ⟨2, ![2048, 256]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S19968x1024, .bf16⟩
  | .hbm, ⟨2, _⟩ => ⟨S2048x1024, .f32⟩
  | .hbm, ⟨3, _⟩ => ⟨S2048x1024, .f32⟩
  | .local _ .vmem, ⟨0, _⟩ => ⟨S2048x2816, .bf16⟩
  | .local _ .vmem, ⟨1, _⟩ => ⟨S2816x256, .bf16⟩
  | .local _ .vmem, ⟨2, _⟩ => ⟨S2816x256, .bf16⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2816x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S2048x2816 : Shape := ⟨2, ![2048, 2816]⟩
abbrev S19968x1024 : Shape := ⟨2, ![19968, 1024]⟩
abbrev S2048x1024 : Shape := ⟨2, ![2048, 1024]⟩
abbrev S2816x1024 : Shape := ⟨2, ![2816, 1024]⟩
abbrev S1024x2816 : Shape := ⟨2, ![1024, 2816]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S19968x1024, .bf16⟩
  | .hbm, ⟨2, _⟩ => ⟨S2048x1024, .f32⟩
  | .hbm, ⟨3, _⟩ => ⟨S2816x1024, .bf16⟩
  | .hbm, ⟨4, _⟩ => ⟨S2816x1024, .f32⟩
  | .hbm, ⟨5, _⟩ => ⟨S1024x2816, .f32⟩
  | .hbm, ⟨6, _⟩ => ⟨S_, .f32⟩
  | .hbm, ⟨7, _⟩ => ⟨S2048x1024, .f32⟩
  | .hbm, ⟨8, _⟩ => ⟨S2048x2816, .f32⟩
  | .hbm, ⟨9, _⟩ => ⟨S2048x2816, .f32⟩
  | .hbm, ⟨10, _⟩ => ⟨S2048x1024, .f32⟩
  | .hbm, ⟨11, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel11.lean ====
abbrev S2048x1024 : Shape := ⟨2, ![2048, 1024]⟩
abbrev S19968x1024 : Shape := ⟨2, ![19968, 1024]⟩
abbrev S2048x8448 : Shape := ⟨2, ![2048, 8448]⟩
abbrev S768x1024 : Shape := ⟨2, ![768, 1024]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S19968x1024, .bf16⟩
  | .hbm, ⟨2, _⟩ => ⟨S2048x8448, .f32⟩
  | .local _ .vmem, ⟨0, _⟩ => ⟨S2048x1024, .bf16⟩
  | .local _ .vmem, ⟨1, _⟩ => ⟨S768x1024, .bf16⟩
  | .local _ .vmem, ⟨2, _⟩ => ⟨S768x1024, .bf16⟩
  | .local _ .vmem, ⟨3, _⟩ => ⟨S2048x768, .f32⟩
  | .local _ .vmem, ⟨4, _⟩ => ⟨S2048x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg1
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x1024 : Shape := ⟨2, ![2048, 1024]⟩
abbrev S19968x1024 : Shape := ⟨2, ![19968, 1024]⟩
abbrev S8448x1024 : Shape := ⟨2, ![8448, 1024]⟩
abbrev S1024x8448 : Shape := ⟨2, ![1024, 8448]⟩
abbrev S2048x8448 : Shape := ⟨2, ![2048, 8448]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S19968x1024, .bf16⟩
  | .hbm, ⟨2, _⟩ => ⟨S8448x1024, .bf16⟩
  | .hbm, ⟨3, _⟩ => ⟨S8448x1024, .f32⟩
  | .hbm, ⟨4, _⟩ => ⟨S1024x8448, .f32⟩
  | .hbm, ⟨5, _⟩ => ⟨S2048x1024, .f32⟩
  | .hbm, ⟨6, _⟩ => ⟨S2048x8448, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S2048x1024 : Shape := ⟨2, ![2048, 1024]⟩
abbrev S19968x1024 : Shape := ⟨2, ![19968, 1024]⟩
abbrev S2048x2816 : Shape := ⟨2, ![2048, 2816]⟩
abbrev S256x1024 : Shape := ⟨2, ![256, 1024]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S19968x1024, .bf16⟩
  | .hbm, ⟨2, _⟩ => ⟨S2048x2816, .f32⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg1
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x1024 : Shape := ⟨2, ![2048, 1024]⟩
abbrev S19968x1024 : Shape := ⟨2, ![19968, 1024]⟩
abbrev S2816x1024 : Shape := ⟨2, ![2816, 1024]⟩
abbrev S1024x2816 : Shape := ⟨2, ![1024, 2816]⟩
abbrev S2048x2816 : Shape := ⟨2, ![2048, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S19968x1024, .bf16⟩
  | .hbm, ⟨2, _⟩ => ⟨S2816x1024, .bf16⟩
  | .hbm, ⟨3, _⟩ => ⟨S2816x1024, .f32⟩
  | .hbm, ⟨4, _⟩ => ⟨S1024x2816, .f32⟩
  | .hbm, ⟨5, _⟩ => ⟨S2048x1024, .f32⟩
  | .hbm, ⟨6, _⟩ => ⟨S2048x2816, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S2048x1024 : Shape := ⟨2, ![2048, 1024]⟩
abbrev S19968x1024 : Shape := ⟨2, ![19968, 1024]⟩
abbrev S2048x2816 : Shape := ⟨2, ![2048, 2816]⟩
abbrev S256x1024 : Shape := ⟨2, ![256, 1024]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S19968x1024, .bf16⟩
  | .hbm, ⟨2, _⟩ => ⟨S2048x2816, .f32⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.addi c22_i32 arg1
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x1024 : Shape := ⟨2, ![2048, 1024]⟩
abbrev S19968x1024 : Shape := ⟨2, ![19968, 1024]⟩
abbrev S2816x1024 : Shape := ⟨2, ![2816, 1024]⟩
abbrev S1024x2816 : Shape := ⟨2, ![1024, 2816]⟩
abbrev S2048x2816 : Shape := ⟨2, ![2048, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S19968x1024, .bf16⟩
  | .hbm, ⟨2, _⟩ => ⟨S2816x1024, .bf16⟩
  | .hbm, ⟨3, _⟩ => ⟨S2816x1024, .f32⟩
  | .hbm, ⟨4, _⟩ => ⟨S1024x2816, .f32⟩
  | .hbm, ⟨5, _⟩ => ⟨S2048x1024, .f32⟩
  | .hbm, ⟨6, _⟩ => ⟨S2048x2816, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel14.lean ====
abbrev S2048x2816 : Shape := ⟨2, ![2048, 2816]⟩
abbrev S19968x1024 : Shape := ⟨2, ![19968, 1024]⟩
abbrev S2048x1024 : Shape := ⟨2, ![2048, 1024]⟩
abbrev S2816x256 : Shape := ⟨2, ![2816, 256]⟩
abbrev S2048x256 : Shape := ⟨2, ![2048, 256]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S19968x1024, .bf16⟩
  | .hbm, ⟨2, _⟩ => ⟨S2048x1024, .f32⟩
  | .hbm, ⟨3, _⟩ => ⟨S2048x1024, .f32⟩
  | .local _ .vmem, ⟨0, _⟩ => ⟨S2048x2816, .bf16⟩
  | .local _ .vmem, ⟨1, _⟩ => ⟨S2816x256, .bf16⟩
  | .local _ .vmem, ⟨2, _⟩ => ⟨S2816x256, .bf16⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2816x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S2048x2816 : Shape := ⟨2, ![2048, 2816]⟩
abbrev S19968x1024 : Shape := ⟨2, ![19968, 1024]⟩
abbrev S2048x1024 : Shape := ⟨2, ![2048, 1024]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S19968x1024, .bf16⟩
  | .hbm, ⟨2, _⟩ => ⟨S2048x1024, .f32⟩
  | .hbm, ⟨3, _⟩ => ⟨S2816x1024, .bf16⟩
  | .hbm, ⟨4, _⟩ => ⟨S2816x1024, .f32⟩
  | .hbm, ⟨5, _⟩ => ⟨S2048x2816, .f32⟩
  | .hbm, ⟨6, _⟩ => ⟨S2048x1024, .f32⟩
  | .hbm, ⟨7, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S2048x1024 : Shape := ⟨2, ![2048, 1024]⟩
abbrev S19968x1024 : Shape := ⟨2, ![19968, 1024]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S19968x1024, .bf16⟩
  | .hbm, ⟨2, _⟩ => ⟨S2048x1024, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.addi c33_i32 arg1
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x1024 : Shape := ⟨2, ![2048, 1024]⟩
abbrev S19968x1024 : Shape := ⟨2, ![19968, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S19968x1024, .bf16⟩
  | .hbm, ⟨2, _⟩ => ⟨S1024x1024, .bf16⟩
  | .hbm, ⟨3, _⟩ => ⟨S1024x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S2048x1024 : Shape := ⟨2, ![2048, 1024]⟩
abbrev S19968x1024 : Shape := ⟨2, ![19968, 1024]⟩
abbrev S2048x512 : Shape := ⟨2, ![2048, 512]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S19968x1024, .bf16⟩
  | .hbm, ⟨3, _⟩ => ⟨S19968x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.addi c33_i32 arg0
  let c0_i32 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x1024 : Shape := ⟨2, ![2048, 1024]⟩
abbrev S19968x1024 : Shape := ⟨2, ![19968, 1024]⟩
abbrev S_ : Shape := ⟨0, ![]⟩
abbrev S1024x1024 : Shape := ⟨2, ![1024, 1024]⟩
abbrev S16896x1024 : Shape := ⟨2, ![16896, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S19968x1024, .bf16⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S16896x1024, .bf16⟩
  | .hbm, ⟨11, _⟩ => ⟨S1024x1024, .bf16⟩
  | .hbm, ⟨12, _⟩ => ⟨S2048x1024, .bf16⟩
  | .hbm, ⟨13, _⟩ => ⟨S19968x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel17.lean ====
abbrev S2048x1024 : Shape := ⟨2, ![2048, 1024]⟩
abbrev S19968x1024 : Shape := ⟨2, ![19968, 1024]⟩
abbrev S2048x512 : Shape := ⟨2, ![2048, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S19968x1024, .bf16⟩
  | .hbm, ⟨2, _⟩ => ⟨S2048x1024, .f32⟩
  | .hbm, ⟨3, _⟩ => ⟨S2048x1024, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S512x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.addi c33_i32 arg2
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S2048x1024 : Shape := ⟨2, ![2048, 1024]⟩
abbrev S19968x1024 : Shape := ⟨2, ![19968, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S19968x1024, .bf16⟩
  | .hbm, ⟨2, _⟩ => ⟨S2048x1024, .f32⟩
  | .hbm, ⟨3, _⟩ => ⟨S1024x1024, .bf16⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S2048x8448 : Shape := ⟨2, ![2048, 8448]⟩
abbrev S2048x1024 : Shape := ⟨2, ![2048, 1024]⟩
abbrev S1024x256 : Shape := ⟨2, ![1024, 256]⟩

abbrev nBuf : Space → Nat
  | .hbm => 14
  | .vmem => 34
  | .smem => 0
  | _ => 0

abbrev bufTy : (tb : Table) → Fin (tcTables nBuf tb) → BufTy
  | .hbm, ⟨0, _⟩ => ⟨S2048x8448, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x1024, .bf16⟩
  | .hbm, ⟨13, _⟩ => ⟨S2048x1024, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S1024x256, .bf16⟩
  | .local _ .vmem, ⟨27, _⟩ => ⟨S1024x256, .bf16⟩
  | .local _ .vmem, ⟨28, _⟩ => ⟨S1024x256, .bf16⟩
  | .local _ .vmem, ⟨29, _⟩ => ⟨S1024x256, .bf16⟩
  | .local _ .vmem, ⟨30, _⟩ => ⟨S1024x256, .bf16⟩
  | .local _ .vmem, ⟨31, _⟩ => ⟨S1024x256, .bf16⟩
  | .local _ .vmem, ⟨32, _⟩ => ⟨S1024x256, .bf16⟩
  | .local _ .vmem, ⟨33, _⟩ => ⟨S1024x256, .bf16⟩
  | _, _ => ⟨S2048x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c29_i32 : BitVec 32 := 29#32
  let v0 : BitVec 32 := Scalar.addi c29_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference18Ideal.lean ====
abbrev S2048x8448 : Shape := ⟨2, ![2048, 8448]⟩
abbrev S2048x1024 : Shape := ⟨2, ![2048, 1024]⟩
abbrev S_ : Shape := ⟨0, ![]⟩

abbrev nBuf : Space → Nat
  | .hbm => 87
  | .vmem => 0
  | .smem => 0
  | _ => 0

abbrev bufTy : (tb : Table) → Fin (tcTables nBuf tb) → BufTy
  | .hbm, ⟨0, _⟩ => ⟨S2048x8448, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .bf16⟩
  | .hbm, ⟨80, _⟩ => ⟨S2048x1024, .bf16⟩
  | .hbm, ⟨81, _⟩ => ⟨S2048x1024, .bf16⟩
  | .hbm, ⟨82, _⟩ => ⟨S2048x1024, .bf16⟩
  | .hbm, ⟨83, _⟩ => ⟨S2048x1024, .bf16⟩
  | .hbm, ⟨84, _⟩ => ⟨S2048x1024, .bf16⟩
  | .hbm, ⟨85, _⟩ => ⟨S2048x1024, .bf16⟩
  | .hbm, ⟨86, _⟩ => ⟨S2048x1024, .bf16⟩
  | _, _ => ⟨S2048x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Kernel19.lean ====
abbrev S2048x8448 : Shape := ⟨2, ![2048, 8448]⟩
abbrev S2048x1024 : Shape := ⟨2, ![2048, 1024]⟩
abbrev S1024x256 : Shape := ⟨2, ![1024, 256]⟩

abbrev nBuf : Space → Nat
  | .hbm => 6
  | .vmem => 18
  | .smem => 0
  | _ => 0

abbrev bufTy : (tb : Table) → Fin (tcTables nBuf tb) → BufTy
  | .hbm, ⟨0, _⟩ => ⟨S2048x8448, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .bf16⟩
  | .local _ .vmem, ⟨17, _⟩ => ⟨S1024x256, .bf16⟩
  | _, _ => ⟨S2048x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c29_i32 : BitVec 32 := 29#32
  let v0 : BitVec 32 := Scalar.addi c29_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S2048x8448 : Shape := ⟨2, ![2048, 8448]⟩
abbrev S2048x1024 : Shape := ⟨2, ![2048, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S2048x8448, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .bf16⟩
  | _, _ => ⟨S2048x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel20.lean ====
abbrev S2048x2816 : Shape := ⟨2, ![2048, 2816]⟩
abbrev S256x2816 : Shape := ⟨2, ![256, 2816]⟩

abbrev nBuf : Space → Nat
  | .hbm => 3
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .bf16⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S256x2816, .bf16⟩
  | .local _ .vmem, ⟨5, _⟩ => ⟨S256x2816, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S2048x2816 : Shape := ⟨2, ![2048, 2816]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S2048x2816, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== Kernel21.lean ====
abbrev S2048x512 : Shape := ⟨2, ![2048, 512]⟩
abbrev S19968x1024 : Shape := ⟨2, ![19968, 1024]⟩
abbrev S2048x1024 : Shape := ⟨2, ![2048, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x512, .bf16⟩
  | .hbm, ⟨1, _⟩ => ⟨S19968x1024, .bf16⟩
  | .hbm, ⟨2, _⟩ => ⟨S2048x1024, .f32⟩
  | .local _ .vmem, ⟨0, _⟩ => ⟨S2048x512, .bf16⟩
  | .local _ .vmem, ⟨1, _⟩ => ⟨S512x1024, .bf16⟩
  | .local _ .vmem, ⟨2, _⟩ => ⟨S2048x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c35_i32 : BitVec 32 := 35#32
  let v0 : BitVec 32 := Scalar.addi c35_i32 arg2
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S2048x512 : Shape := ⟨2, ![2048, 512]⟩
abbrev S19968x1024 : Shape := ⟨2, ![19968, 1024]⟩
abbrev S512x1024 : Shape := ⟨2, ![512, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S19968x1024, .bf16⟩
  | .hbm, ⟨2, _⟩ => ⟨S512x1024, .bf16⟩
  | .hbm, ⟨3, _⟩ => ⟨S512x1024, .f32⟩
  | .hbm, ⟨4, _⟩ => ⟨S2048x512, .f32⟩
  | .hbm, ⟨5, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel22.lean ====
abbrev S2048x512 : Shape := ⟨2, ![2048, 512]⟩
abbrev S19968x1024 : Shape := ⟨2, ![19968, 1024]⟩
abbrev S2048x1024 : Shape := ⟨2, ![2048, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x512, .bf16⟩
  | .hbm, ⟨1, _⟩ => ⟨S19968x1024, .bf16⟩
  | .hbm, ⟨2, _⟩ => ⟨S2048x1024, .f32⟩
  | .local _ .vmem, ⟨0, _⟩ => ⟨S2048x512, .bf16⟩
  | .local _ .vmem, ⟨1, _⟩ => ⟨S512x1024, .bf16⟩
  | .local _ .vmem, ⟨2, _⟩ => ⟨S2048x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg2
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S2048x512 : Shape := ⟨2, ![2048, 512]⟩
abbrev S19968x1024 : Shape := ⟨2, ![19968, 1024]⟩
abbrev S512x1024 : Shape := ⟨2, ![512, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S19968x1024, .bf16⟩
  | .hbm, ⟨2, _⟩ => ⟨S512x1024, .bf16⟩
  | .hbm, ⟨3, _⟩ => ⟨S512x1024, .f32⟩
  | .hbm, ⟨4, _⟩ => ⟨S2048x512, .f32⟩
  | .hbm, ⟨5, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel23.lean ====
abbrev S2048x512 : Shape := ⟨2, ![2048, 512]⟩
abbrev S19968x1024 : Shape := ⟨2, ![19968, 1024]⟩
abbrev S2048x1024 : Shape := ⟨2, ![2048, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x512, .bf16⟩
  | .hbm, ⟨1, _⟩ => ⟨S19968x1024, .bf16⟩
  | .hbm, ⟨2, _⟩ => ⟨S2048x1024, .f32⟩
  | .local _ .vmem, ⟨0, _⟩ => ⟨S2048x512, .bf16⟩
  | .local _ .vmem, ⟨1, _⟩ => ⟨S512x1024, .bf16⟩
  | .local _ .vmem, ⟨2, _⟩ => ⟨S2048x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c37_i32 : BitVec 32 := 37#32
  let v0 : BitVec 32 := Scalar.addi c37_i32 arg2
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S2048x512 : Shape := ⟨2, ![2048, 512]⟩
abbrev S19968x1024 : Shape := ⟨2, ![19968, 1024]⟩
abbrev S512x1024 : Shape := ⟨2, ![512, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S19968x1024, .bf16⟩
  | .hbm, ⟨2, _⟩ => ⟨S512x1024, .bf16⟩
  | .hbm, ⟨3, _⟩ => ⟨S512x1024, .f32⟩
  | .hbm, ⟨4, _⟩ => ⟨S2048x512, .f32⟩
  | .hbm, ⟨5, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel24.lean ====
abbrev S2048x512 : Shape := ⟨2, ![2048, 512]⟩
abbrev S19968x1024 : Shape := ⟨2, ![19968, 1024]⟩
abbrev S2048x1024 : Shape := ⟨2, ![2048, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x512, .bf16⟩
  | .hbm, ⟨1, _⟩ => ⟨S19968x1024, .bf16⟩
  | .hbm, ⟨2, _⟩ => ⟨S2048x1024, .f32⟩
  | .local _ .vmem, ⟨0, _⟩ => ⟨S2048x512, .bf16⟩
  | .local _ .vmem, ⟨1, _⟩ => ⟨S512x1024, .bf16⟩
  | .local _ .vmem, ⟨2, _⟩ => ⟨S2048x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c38_i32 : BitVec 32 := 38#32
  let v0 : BitVec 32 := Scalar.addi c38_i32 arg2
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference24Ideal.lean ====
abbrev S2048x512 : Shape := ⟨2, ![2048, 512]⟩
abbrev S19968x1024 : Shape := ⟨2, ![19968, 1024]⟩
abbrev S512x1024 : Shape := ⟨2, ![512, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S19968x1024, .bf16⟩
  | .hbm, ⟨2, _⟩ => ⟨S512x1024, .bf16⟩
  | .hbm, ⟨3, _⟩ => ⟨S512x1024, .f32⟩
  | .hbm, ⟨4, _⟩ => ⟨S2048x512, .f32⟩
  | .hbm, ⟨5, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel25.lean ====
abbrev S2048x1024 : Shape := ⟨2, ![2048, 1024]⟩
abbrev S19968x1024 : Shape := ⟨2, ![19968, 1024]⟩
abbrev S2048x512 : Shape := ⟨2, ![2048, 512]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S19968x1024, .bf16⟩
  | .hbm, ⟨2, _⟩ => ⟨S2048x512, .f32⟩
  | .local _ .vmem, ⟨0, _⟩ => ⟨S2048x1024, .bf16⟩
  | .local _ .vmem, ⟨1, _⟩ => ⟨S512x1024, .bf16⟩
  | .local _ .vmem, ⟨2, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c35_i32 : BitVec 32 := 35#32
  let v0 : BitVec 32 := Scalar.addi c35_i32 arg1
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference25Ideal.lean ====
abbrev S2048x1024 : Shape := ⟨2, ![2048, 1024]⟩
abbrev S19968x1024 : Shape := ⟨2, ![19968, 1024]⟩
abbrev S512x1024 : Shape := ⟨2, ![512, 1024]⟩
abbrev S_ : Shape := ⟨0, ![]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S19968x1024, .bf16⟩
  | .hbm, ⟨2, _⟩ => ⟨S512x1024, .bf16⟩
  | .hbm, ⟨3, _⟩ => ⟨S512x1024, .f32⟩
  | .hbm, ⟨4, _⟩ => ⟨S_, .f32⟩
  | .hbm, ⟨5, _⟩ => ⟨S2048x512, .f32⟩
  | .hbm, ⟨6, _⟩ => ⟨S2048x1024, .f32⟩
  | .hbm, ⟨7, _⟩ => ⟨S2048x1024, .f32⟩
  | .hbm, ⟨8, _⟩ => ⟨S2048x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel26.lean ====
abbrev S2048x1024 : Shape := ⟨2, ![2048, 1024]⟩
abbrev S19968x1024 : Shape := ⟨2, ![19968, 1024]⟩
abbrev S2048x512 : Shape := ⟨2, ![2048, 512]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S19968x1024, .bf16⟩
  | .hbm, ⟨2, _⟩ => ⟨S2048x512, .f32⟩
  | .local _ .vmem, ⟨0, _⟩ => ⟨S2048x1024, .bf16⟩
  | .local _ .vmem, ⟨1, _⟩ => ⟨S512x1024, .bf16⟩
  | .local _ .vmem, ⟨2, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg1
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference26Ideal.lean ====
abbrev S2048x1024 : Shape := ⟨2, ![2048, 1024]⟩
abbrev S19968x1024 : Shape := ⟨2, ![19968, 1024]⟩
abbrev S512x1024 : Shape := ⟨2, ![512, 1024]⟩
abbrev S_ : Shape := ⟨0, ![]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S19968x1024, .bf16⟩
  | .hbm, ⟨2, _⟩ => ⟨S512x1024, .bf16⟩
  | .hbm, ⟨3, _⟩ => ⟨S512x1024, .f32⟩
  | .hbm, ⟨4, _⟩ => ⟨S_, .f32⟩
  | .hbm, ⟨5, _⟩ => ⟨S2048x512, .f32⟩
  | .hbm, ⟨6, _⟩ => ⟨S2048x1024, .f32⟩
  | .hbm, ⟨7, _⟩ => ⟨S2048x1024, .f32⟩
  | .hbm, ⟨8, _⟩ => ⟨S2048x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel27.lean ====
abbrev S2048x1024 : Shape := ⟨2, ![2048, 1024]⟩
abbrev S19968x1024 : Shape := ⟨2, ![19968, 1024]⟩
abbrev S2048x512 : Shape := ⟨2, ![2048, 512]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S19968x1024, .bf16⟩
  | .hbm, ⟨2, _⟩ => ⟨S2048x512, .f32⟩
  | .local _ .vmem, ⟨0, _⟩ => ⟨S2048x1024, .bf16⟩
  | .local _ .vmem, ⟨1, _⟩ => ⟨S512x1024, .bf16⟩
  | .local _ .vmem, ⟨2, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c37_i32 : BitVec 32 := 37#32
  let v0 : BitVec 32 := Scalar.addi c37_i32 arg1
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference27Ideal.lean ====
abbrev S2048x1024 : Shape := ⟨2, ![2048, 1024]⟩
abbrev S19968x1024 : Shape := ⟨2, ![19968, 1024]⟩
abbrev S512x1024 : Shape := ⟨2, ![512, 1024]⟩
abbrev S_ : Shape := ⟨0, ![]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S19968x1024, .bf16⟩
  | .hbm, ⟨2, _⟩ => ⟨S512x1024, .bf16⟩
  | .hbm, ⟨3, _⟩ => ⟨S512x1024, .f32⟩
  | .hbm, ⟨4, _⟩ => ⟨S_, .f32⟩
  | .hbm, ⟨5, _⟩ => ⟨S2048x512, .f32⟩
  | .hbm, ⟨6, _⟩ => ⟨S2048x1024, .f32⟩
  | .hbm, ⟨7, _⟩ => ⟨S2048x1024, .f32⟩
  | .hbm, ⟨8, _⟩ => ⟨S2048x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel28.lean ====
abbrev S2048x1024 : Shape := ⟨2, ![2048, 1024]⟩
abbrev S19968x1024 : Shape := ⟨2, ![19968, 1024]⟩
abbrev S2048x512 : Shape := ⟨2, ![2048, 512]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S19968x1024, .bf16⟩
  | .hbm, ⟨2, _⟩ => ⟨S2048x512, .f32⟩
  | .local _ .vmem, ⟨0, _⟩ => ⟨S2048x1024, .bf16⟩
  | .local _ .vmem, ⟨1, _⟩ => ⟨S512x1024, .bf16⟩
  | .local _ .vmem, ⟨2, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c38_i32 : BitVec 32 := 38#32
  let v0 : BitVec 32 := Scalar.addi c38_i32 arg1
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference28Ideal.lean ====
abbrev S2048x1024 : Shape := ⟨2, ![2048, 1024]⟩
abbrev S19968x1024 : Shape := ⟨2, ![19968, 1024]⟩
abbrev S512x1024 : Shape := ⟨2, ![512, 1024]⟩
abbrev S_ : Shape := ⟨0, ![]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S19968x1024, .bf16⟩
  | .hbm, ⟨2, _⟩ => ⟨S512x1024, .bf16⟩
  | .hbm, ⟨3, _⟩ => ⟨S512x1024, .f32⟩
  | .hbm, ⟨4, _⟩ => ⟨S_, .f32⟩
  | .hbm, ⟨5, _⟩ => ⟨S2048x512, .f32⟩
  | .hbm, ⟨6, _⟩ => ⟨S2048x1024, .f32⟩
  | .hbm, ⟨7, _⟩ => ⟨S2048x1024, .f32⟩
  | .hbm, ⟨8, _⟩ => ⟨S2048x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel29.lean ====
abbrev S2048x512 : Shape := ⟨2, ![2048, 512]⟩
abbrev S2048x1024 : Shape := ⟨2, ![2048, 1024]⟩
abbrev S19968x1024 : Shape := ⟨2, ![19968, 1024]⟩
abbrev S512x1024 : Shape := ⟨2, ![512, 1024]⟩

abbrev nBuf : Space → Nat
  | .hbm => 4
  | .vmem => 3
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S19968x1024, .bf16⟩
  | .hbm, ⟨3, _⟩ => ⟨S19968x1024, .bf16⟩
  | .local _ .vmem, ⟨0, _⟩ => ⟨S2048x512, .bf16⟩
  | .local _ .vmem, ⟨1, _⟩ => ⟨S2048x1024, .bf16⟩
  | .local _ .vmem, ⟨2, _⟩ => ⟨S512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c35_i32 : BitVec 32 := 35#32
  let v0 : BitVec 32 := Scalar.addi c35_i32 arg0
  let c0_i32 : BitVec 32 := 0#32
  ![v0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference29Ideal.lean ====
abbrev S2048x512 : Shape := ⟨2, ![2048, 512]⟩
abbrev S2048x1024 : Shape := ⟨2, ![2048, 1024]⟩
abbrev S19968x1024 : Shape := ⟨2, ![19968, 1024]⟩
abbrev S_ : Shape := ⟨0, ![]⟩
abbrev S512x1024 : Shape := ⟨2, ![512, 1024]⟩
abbrev S1024x512 : Shape := ⟨2, ![1024, 512]⟩
abbrev S17920x1024 : Shape := ⟨2, ![17920, 1024]⟩
abbrev S1536x1024 : Shape := ⟨2, ![1536, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S19968x1024, .bf16⟩
  | .hbm, ⟨3, _⟩ => ⟨S_, .f32⟩
  | .hbm, ⟨4, _⟩ => ⟨S512x1024, .f32⟩
  | .hbm, ⟨5, _⟩ => ⟨S2048x512, .f32⟩
  | .hbm, ⟨6, _⟩ => ⟨S2048x1024, .f32⟩
  | .hbm, ⟨7, _⟩ => ⟨S2048x1024, .f32⟩
  | .hbm, ⟨8, _⟩ => ⟨S1024x512, .f32⟩
  | .hbm, ⟨9, _⟩ => ⟨S512x1024, .f32⟩
  | .hbm, ⟨10, _⟩ => ⟨S17920x1024, .bf16⟩
  | .hbm, ⟨11, _⟩ => ⟨S512x1024, .bf16⟩
  | .hbm, ⟨12, _⟩ => ⟨S1536x1024, .bf16⟩
  | .hbm, ⟨13, _⟩ => ⟨S19968x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel30.lean ====
abbrev S2048x512 : Shape := ⟨2, ![2048, 512]⟩
abbrev S2048x1024 : Shape := ⟨2, ![2048, 1024]⟩
abbrev S19968x1024 : Shape := ⟨2, ![19968, 1024]⟩
abbrev S512x1024 : Shape := ⟨2, ![512, 1024]⟩

abbrev nBuf : Space → Nat
  | .hbm => 4
  | .vmem => 3
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S19968x1024, .bf16⟩
  | .hbm, ⟨3, _⟩ => ⟨S19968x1024, .bf16⟩
  | .local _ .vmem, ⟨0, _⟩ => ⟨S2048x512, .bf16⟩
  | .local _ .vmem, ⟨1, _⟩ => ⟨S2048x1024, .bf16⟩
  | .local _ .vmem, ⟨2, _⟩ => ⟨S512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg0
  let c0_i32 : BitVec 32 := 0#32
  ![v0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference30Ideal.lean ====
abbrev S2048x512 : Shape := ⟨2, ![2048, 512]⟩
abbrev S2048x1024 : Shape := ⟨2, ![2048, 1024]⟩
abbrev S19968x1024 : Shape := ⟨2, ![19968, 1024]⟩
abbrev S_ : Shape := ⟨0, ![]⟩
abbrev S512x1024 : Shape := ⟨2, ![512, 1024]⟩
abbrev S1024x512 : Shape := ⟨2, ![1024, 512]⟩
abbrev S18432x1024 : Shape := ⟨2, ![18432, 1024]⟩
abbrev S1024x1024 : Shape := ⟨2, ![1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S19968x1024, .bf16⟩
  | .hbm, ⟨3, _⟩ => ⟨S_, .f32⟩
  | .hbm, ⟨4, _⟩ => ⟨S512x1024, .f32⟩
  | .hbm, ⟨5, _⟩ => ⟨S2048x512, .f32⟩
  | .hbm, ⟨6, _⟩ => ⟨S2048x1024, .f32⟩
  | .hbm, ⟨7, _⟩ => ⟨S2048x1024, .f32⟩
  | .hbm, ⟨8, _⟩ => ⟨S1024x512, .f32⟩
  | .hbm, ⟨9, _⟩ => ⟨S512x1024, .f32⟩
  | .hbm, ⟨10, _⟩ => ⟨S18432x1024, .bf16⟩
  | .hbm, ⟨11, _⟩ => ⟨S512x1024, .bf16⟩
  | .hbm, ⟨12, _⟩ => ⟨S1024x1024, .bf16⟩
  | .hbm, ⟨13, _⟩ => ⟨S19968x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel31.lean ====
abbrev S2048x512 : Shape := ⟨2, ![2048, 512]⟩
abbrev S2048x1024 : Shape := ⟨2, ![2048, 1024]⟩
abbrev S19968x1024 : Shape := ⟨2, ![19968, 1024]⟩
abbrev S512x1024 : Shape := ⟨2, ![512, 1024]⟩

abbrev nBuf : Space → Nat
  | .hbm => 4
  | .vmem => 3
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S19968x1024, .bf16⟩
  | .hbm, ⟨3, _⟩ => ⟨S19968x1024, .bf16⟩
  | .local _ .vmem, ⟨0, _⟩ => ⟨S2048x512, .bf16⟩
  | .local _ .vmem, ⟨1, _⟩ => ⟨S2048x1024, .bf16⟩
  | .local _ .vmem, ⟨2, _⟩ => ⟨S512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c37_i32 : BitVec 32 := 37#32
  let v0 : BitVec 32 := Scalar.addi c37_i32 arg0
  let c0_i32 : BitVec 32 := 0#32
  ![v0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference31Ideal.lean ====
abbrev S2048x512 : Shape := ⟨2, ![2048, 512]⟩
abbrev S2048x1024 : Shape := ⟨2, ![2048, 1024]⟩
abbrev S19968x1024 : Shape := ⟨2, ![19968, 1024]⟩
abbrev S_ : Shape := ⟨0, ![]⟩
abbrev S512x1024 : Shape := ⟨2, ![512, 1024]⟩
abbrev S1024x512 : Shape := ⟨2, ![1024, 512]⟩
abbrev S18944x1024 : Shape := ⟨2, ![18944, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S19968x1024, .bf16⟩
  | .hbm, ⟨3, _⟩ => ⟨S_, .f32⟩
  | .hbm, ⟨4, _⟩ => ⟨S512x1024, .f32⟩
  | .hbm, ⟨5, _⟩ => ⟨S2048x512, .f32⟩
  | .hbm, ⟨6, _⟩ => ⟨S2048x1024, .f32⟩
  | .hbm, ⟨7, _⟩ => ⟨S2048x1024, .f32⟩
  | .hbm, ⟨8, _⟩ => ⟨S1024x512, .f32⟩
  | .hbm, ⟨9, _⟩ => ⟨S512x1024, .f32⟩
  | .hbm, ⟨10, _⟩ => ⟨S18944x1024, .bf16⟩
  | .hbm, ⟨11, _⟩ => ⟨S512x1024, .bf16⟩
  | .hbm, ⟨12, _⟩ => ⟨S512x1024, .bf16⟩
  | .hbm, ⟨13, _⟩ => ⟨S19968x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel32.lean ====
abbrev S2048x512 : Shape := ⟨2, ![2048, 512]⟩
abbrev S2048x1024 : Shape := ⟨2, ![2048, 1024]⟩
abbrev S19968x1024 : Shape := ⟨2, ![19968, 1024]⟩
abbrev S512x1024 : Shape := ⟨2, ![512, 1024]⟩

abbrev nBuf : Space → Nat
  | .hbm => 4
  | .vmem => 3
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S19968x1024, .bf16⟩
  | .hbm, ⟨3, _⟩ => ⟨S19968x1024, .bf16⟩
  | .local _ .vmem, ⟨0, _⟩ => ⟨S2048x512, .bf16⟩
  | .local _ .vmem, ⟨1, _⟩ => ⟨S2048x1024, .bf16⟩
  | .local _ .vmem, ⟨2, _⟩ => ⟨S512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c38_i32 : BitVec 32 := 38#32
  let v0 : BitVec 32 := Scalar.addi c38_i32 arg0
  let c0_i32 : BitVec 32 := 0#32
  ![v0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference32Ideal.lean ====
abbrev S2048x512 : Shape := ⟨2, ![2048, 512]⟩
abbrev S2048x1024 : Shape := ⟨2, ![2048, 1024]⟩
abbrev S19968x1024 : Shape := ⟨2, ![19968, 1024]⟩
abbrev S_ : Shape := ⟨0, ![]⟩
abbrev S512x1024 : Shape := ⟨2, ![512, 1024]⟩
abbrev S1024x512 : Shape := ⟨2, ![1024, 512]⟩
abbrev S19456x1024 : Shape := ⟨2, ![19456, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S19968x1024, .bf16⟩
  | .hbm, ⟨3, _⟩ => ⟨S_, .f32⟩
  | .hbm, ⟨4, _⟩ => ⟨S512x1024, .f32⟩
  | .hbm, ⟨5, _⟩ => ⟨S2048x512, .f32⟩
  | .hbm, ⟨6, _⟩ => ⟨S2048x1024, .f32⟩
  | .hbm, ⟨7, _⟩ => ⟨S2048x1024, .f32⟩
  | .hbm, ⟨8, _⟩ => ⟨S1024x512, .f32⟩
  | .hbm, ⟨9, _⟩ => ⟨S512x1024, .f32⟩
  | .hbm, ⟨10, _⟩ => ⟨S19456x1024, .bf16⟩
  | .hbm, ⟨11, _⟩ => ⟨S512x1024, .bf16⟩
  | .hbm, ⟨12, _⟩ => ⟨S19968x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Attention.Trip.lean ====
/-
  The attention gradient's loop over query blocks, one trip at a time: where a trip reads and writes, and
  what it leaves in the three arrays it writes.

  Trip `k` reads the query block `k`, the key block `k` and the key block before it, writes query block `k`
  of the gradient of the queries, and adds into the key blocks `k` and `k - 1` of the gradients of the keys and
  of the values.  At `k = 0` there is no block before: the kernel names block `0` a second time, so the
  second addition reads back what the first one stored.  The two cases are run apart.
-/
module

public import proofs.«01_k».proof.Proof.Gen.KernelIdeal.Loops

@[expose] public section

set_option maxRecDepth 8192
set_option maxHeartbeats 4000000

noncomputable section

namespace Cert.KernelIdeal.Attention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The block before block `k`: `k - 1`, and block `0` itself before block `0`. -/
theorem k0_off7_eq : ∀ k : Fin k0_t1_loop.trips, k0_off7 k = ![0, 128 * (k.val - 1), 0] := by decide +kernel

instance closedOff_k0_off7 (k : Fin k0_t1_loop.trips) : ClosedOff (k0_off7 k) :=
  ⟨![0, 128 * (k.val - 1), 0], k0_off7_eq k⟩

variable (𝒱 : Variants) (c : Dev nD) (bd : Option 𝒱.V) (i : grid0.Coords)
  (arg1 : Memref sig .tc .vmem S4x2048x64 .f32) (harg1 : arg1.IsWhole)
  (arg2 : Memref sig .tc .vmem S1x2048x64 .f32) (harg2 : arg2.IsWhole)
  (arg3 : Memref sig .tc .vmem S1x2048x64 .f32) (harg3 : arg3.IsWhole)
  (arg4 : Memref sig .tc .vmem S4x2048x64 .f32) (harg4 : arg4.IsWhole)
  (arg5 : Memref sig .tc .smem S2x8 .f32) (harg5 : arg5.IsWhole)
  (arg6 : Memref sig .tc .vmem S4x2048x64 .bf16) (harg6 : arg6.IsWhole)
  (arg7 : Memref sig .tc .vmem S1x2048x64 .f32) (harg7 : arg7.IsWhole)
  (arg8 : Memref sig .tc .vmem S1x2048x64 .f32) (harg8 : arg8.IsWhole)
  (arg9 : Memref sig .tc .vmem S4x8x128 .f32) (harg9 : arg9.IsWhole) (arg0 : BitVec 32)
  (X1 : BufTy.Contents (Elt F) arg1.view.ty) (X2 : BufTy.Contents (Elt F) arg2.view.ty)
  (X3 : BufTy.Contents (Elt F) arg3.view.ty) (X4 : BufTy.Contents (Elt F) arg4.view.ty)
  (X5 : BufTy.Contents (Elt F) arg5.view.ty)

/-- What a trip holds: the five arrays it reads at their contents, the three it writes at `f6`, `f7`, `f8`. -/
abbrev Held (f6 : BufTy.Contents (Elt F) arg6.view.ty) (f7 : BufTy.Contents (Elt F) arg7.view.ty)
    (f8 : BufTy.Contents (Elt F) arg8.view.ty) : sProp 𝕄 :=
  iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} f6)
    ∗ (arg7.view.loc (c : Thread nD τ) ↦[arg7.view.set]{fullShare} f7)
    ∗ (arg8.view.loc (c : Thread nD τ) ↦[arg8.view.set]{fullShare} f8))

/-- A quantity a trip computes from the value it is handed and the contents it finds in the two arrays it adds into. -/
abbrev Found (α : Type) : Type :=
  FVec F S512x1 .f32 → BufTy.Contents (Elt F) arg7.view.ty → BufTy.Contents (Elt F) arg8.view.ty → α

/-- Trip `k` runs, hands on `R`, and writes the pieces `L6`, `L7`, `L8`. -/
abbrev Runs (k : Fin k0_t1_loop.trips) (R : Found (F := F) arg7 arg8 (FVec F S512x1 .f32))
    (L6 : Found (F := F) arg7 arg8 (List (View.Piece (Elt F) S4x2048x64 .bf16)))
    (L7 L8 : Found (F := F) arg7 arg8 (List (View.Piece (Elt F) S1x2048x64 .f32))) : Prop :=
  ∀ (E : Set ℕ) (acc : FVec F S512x1 .f32) (f6 : BufTy.Contents (Elt F) arg6.view.ty)
    (f7 : BufTy.Contents (Elt F) arg7.view.ty) (f8 : BufTy.Contents (Elt F) arg8.view.ty),
    Held (F := F) c arg1 arg2 arg3 arg4 arg5 arg6 arg7 arg8 X1 X2 X3 X4 X5 f6 f7 f8
    ⊢ wp frame (wpE (defs₀ (F := F)) 𝒱 (c : Thread nD τ) bd) E
        (k0_t1_body (F := F) i arg1 harg1 arg2 harg2 arg3 harg3 arg4 harg4 arg5 harg5 arg6 harg6 arg7 harg7
          arg8 harg8 arg9 harg9 arg0 k acc)
        (fun yld => iprop(⌜yld = R acc f7 f8⌝
          ∗ Held (F := F) c arg1 arg2 arg3 arg4 arg5 arg6 arg7 arg8 X1 X2 X3 X4 X5
              (arg6.view.writes (Elt F) f6 (L6 acc f7 f8)) (arg7.view.writes (Elt F) f7 (L7 acc f7 f8))
              (arg8.view.writes (Elt F) f8 (L8 acc f7 f8))))

/-- The first trip. -/
@[irreducible] def tripFirst (k : Fin k0_t1_loop.trips) (hk0 : k.val = 0) :
    Σ' (R : Found (F := F) arg7 arg8 (FVec F S512x1 .f32))
      (L6 : Found (F := F) arg7 arg8 (List (View.Piece (Elt F) S4x2048x64 .bf16)))
      (L7 : Found (F := F) arg7 arg8 (List (View.Piece (Elt F) S1x2048x64 .f32))),
      { L8 : Found (F := F) arg7 arg8 (List (View.Piece (Elt F) S1x2048x64 .f32)) //
        Runs (F := F) 𝒱 c bd i arg1 harg1 arg2 harg2 arg3 harg3 arg4 harg4 arg5 harg5 arg6 harg6 arg7 harg7
          arg8 harg8 arg9 harg9 arg0 X1 X2 X3 X4 X5 k R L6 L7 L8 } := by
  have hk : k.val < 16 := Nat.lt_of_lt_of_le k.isLt k0_t1_abs.2.1
  refine ⟨?_, ?_, ?_, ?_, fun E acc f6 f7 f8 => ?run⟩
  case run =>
    unfold k0_t1_body
    iintro ⟨H1, H2, H3, H4, H5, H6, H7, H8⟩
    sl_exec
    sl_step
    sl_close

/-- A later trip. -/
@[irreducible] def tripLater (k : Fin k0_t1_loop.trips) (hk0 : 0 < k.val) :
    Σ' (R : Found (F := F) arg7 arg8 (FVec F S512x1 .f32))
      (L6 : Found (F := F) arg7 arg8 (List (View.Piece (Elt F) S4x2048x64 .bf16)))
      (L7 : Found (F := F) arg7 arg8 (List (View.Piece (Elt F) S1x2048x64 .f32))),
      { L8 : Found (F := F) arg7 arg8 (List (View.Piece (Elt F) S1x2048x64 .f32)) //
        Runs (F := F) 𝒱 c bd i arg1 harg1 arg2 harg2 arg3 harg3 arg4 harg4 arg5 harg5 arg6 harg6 arg7 harg7
          arg8 harg8 arg9 harg9 arg0 X1 X2 X3 X4 X5 k R L6 L7 L8 } := by
  have hk : k.val < 16 := Nat.lt_of_lt_of_le k.isLt k0_t1_abs.2.1
  refine ⟨?_, ?_, ?_, ?_, fun E acc f6 f7 f8 => ?run⟩
  case run =>
    unfold k0_t1_body
    iintro ⟨H1, H2, H3, H4, H5, H6, H7, H8⟩
    sl_exec
    sl_step
    sl_close

end Cert.KernelIdeal.Attention

end
-- ==== Proof.Attention.Loop.lean ====
/-
  The attention gradient's loop over query blocks as a whole: the state before each trip, by recursion on the
  trips, and the loop's invariant.
-/
module

public import proofs.«01_k».proof.Proof.Attention.Trip

@[expose] public section

set_option maxRecDepth 8192
set_option maxHeartbeats 4000000

noncomputable section

namespace Cert.KernelIdeal.Attention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (𝒱 : Variants) (c : Dev nD) (bd : Option 𝒱.V) (i : grid0.Coords)
  (arg1 : Memref sig .tc .vmem S4x2048x64 .f32) (harg1 : arg1.IsWhole)
  (arg2 : Memref sig .tc .vmem S1x2048x64 .f32) (harg2 : arg2.IsWhole)
  (arg3 : Memref sig .tc .vmem S1x2048x64 .f32) (harg3 : arg3.IsWhole)
  (arg4 : Memref sig .tc .vmem S4x2048x64 .f32) (harg4 : arg4.IsWhole)
  (arg5 : Memref sig .tc .smem S2x8 .f32) (harg5 : arg5.IsWhole)
  (arg6 : Memref sig .tc .vmem S4x2048x64 .bf16) (harg6 : arg6.IsWhole)
  (arg7 : Memref sig .tc .vmem S1x2048x64 .f32) (harg7 : arg7.IsWhole)
  (arg8 : Memref sig .tc .vmem S1x2048x64 .f32) (harg8 : arg8.IsWhole)
  (arg9 : Memref sig .tc .vmem S4x8x128 .f32) (harg9 : arg9.IsWhole) (arg0 : BitVec 32)
  (X1 : BufTy.Contents (Elt F) arg1.view.ty) (X2 : BufTy.Contents (Elt F) arg2.view.ty)
  (X3 : BufTy.Contents (Elt F) arg3.view.ty) (X4 : BufTy.Contents (Elt F) arg4.view.ty)
  (X5 : BufTy.Contents (Elt F) arg5.view.ty)

variable (G7 : BufTy.Contents (Elt F) arg7.view.ty)
  (G8 : BufTy.Contents (Elt F) arg8.view.ty)

/-- Trip `k`, whichever it is. -/
@[irreducible] def trip (k : Fin k0_t1_loop.trips) :
    Σ' (R : Found (F := F) arg7 arg8 (FVec F S512x1 .f32))
      (L6 : Found (F := F) arg7 arg8 (List (View.Piece (Elt F) S4x2048x64 .bf16)))
      (L7 : Found (F := F) arg7 arg8 (List (View.Piece (Elt F) S1x2048x64 .f32))),
      { L8 : Found (F := F) arg7 arg8 (List (View.Piece (Elt F) S1x2048x64 .f32)) //
        Runs (F := F) 𝒱 c bd i arg1 harg1 arg2 harg2 arg3 harg3 arg4 harg4 arg5 harg5 arg6 harg6 arg7 harg7
          arg8 harg8 arg9 harg9 arg0 X1 X2 X3 X4 X5 k R L6 L7 L8 } :=
  if h : k.val = 0 then
    tripFirst (F := F) 𝒱 c bd i arg1 harg1 arg2 harg2 arg3 harg3 arg4 harg4 arg5 harg5 arg6 harg6 arg7 harg7
          arg8 harg8 arg9 harg9 arg0 X1 X2 X3 X4 X5 k h
  else
    tripLater (F := F) 𝒱 c bd i arg1 harg1 arg2 harg2 arg3 harg3 arg4 harg4 arg5 harg5 arg6 harg6 arg7 harg7
          arg8 harg8 arg9 harg9 arg0 X1 X2 X3 X4 X5 k
      (Nat.pos_of_ne_zero h)

/-- What the loop has done so far: the value handed on, and the pieces written into each of the three arrays,
    the last first. -/
abbrev State (F : FTy → Type) : Type :=
  FVec F S512x1 .f32 × List (View.Piece (Elt F) S4x2048x64 .bf16)
    × List (View.Piece (Elt F) S1x2048x64 .f32) × List (View.Piece (Elt F) S1x2048x64 .f32)

/-- One more trip done, from the state `s`, over the contents `G7`, `G8` the loop was entered at. -/
@[irreducible] def next (k : Fin k0_t1_loop.trips) (s : State F) : State F :=
  let T := trip (F := F) 𝒱 c bd i arg1 harg1 arg2 harg2 arg3 harg3 arg4 harg4 arg5 harg5 arg6 harg6 arg7 harg7
          arg8 harg8 arg9 harg9 arg0 X1 X2 X3 X4 X5 k
  let g7 := arg7.view.writes (Elt F) G7 s.2.2.1
  let g8 := arg8.view.writes (Elt F) G8 s.2.2.2
  (T.1 s.1 g7 g8, T.2.1 s.1 g7 g8 ++ s.2.1, T.2.2.1 s.1 g7 g8 ++ s.2.2.1,
    T.2.2.2.1 s.1 g7 g8 ++ s.2.2.2)

/-- The state before trip `k`. -/
def state (init : FVec F S512x1 .f32) : ℕ → State F
  | 0 => (init, [], [], [])
  | k + 1 =>
    if h : k < k0_t1_loop.trips then
      next (F := F) 𝒱 c bd i arg1 harg1 arg2 harg2 arg3 harg3 arg4 harg4 arg5 harg5 arg6 harg6 arg7 harg7
          arg8 harg8 arg9 harg9 arg0 X1 X2 X3 X4 X5 G7 G8
        ⟨k, h⟩ (state init k)
    else state init k

theorem state_succ (init : FVec F S512x1 .f32) (k : Fin k0_t1_loop.trips) :
    state (F := F) 𝒱 c bd i arg1 harg1 arg2 harg2 arg3 harg3 arg4 harg4 arg5 harg5 arg6 harg6 arg7 harg7
          arg8 harg8 arg9 harg9 arg0 X1 X2 X3 X4 X5 G7 G8
        init (k.val + 1)
      = next (F := F) 𝒱 c bd i arg1 harg1 arg2 harg2 arg3 harg3 arg4 harg4 arg5 harg5 arg6 harg6 arg7 harg7
          arg8 harg8 arg9 harg9 arg0 X1 X2 X3 X4 X5 G7 G8
          k (state (F := F) 𝒱 c bd i arg1 harg1 arg2 harg2 arg3 harg3 arg4 harg4 arg5 harg5 arg6 harg6 arg7 harg7
          arg8 harg8 arg9 harg9 arg0 X1 X2 X3 X4 X5
            G7 G8 init k.val) := by
  rw [state.eq_2]
  exact dif_pos k.isLt

/-- What holds before trip `k`: the arrays read at their contents, the arrays written at the pieces of the trips
    before over the contents at entry, and the value handed on. -/
abbrev inv (G6 : BufTy.Contents (Elt F) arg6.view.ty) (init : FVec F S512x1 .f32) (k : ℕ) (acc : FVec F S512x1 .f32) : sProp 𝕄 :=
  iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (∃ f, (arg6.view.loc (c : Thread nD τ) ↦[arg6.view.set]{fullShare} f)
        ∗ ⌜f = arg6.view.writes (Elt F) G6 (state (F := F) 𝒱 c bd i arg1 harg1 arg2 harg2 arg3 harg3 arg4 harg4 arg5 harg5 arg6 harg6 arg7 harg7
          arg8 harg8 arg9 harg9 arg0
            X1 X2 X3 X4 X5 G7 G8 init k).2.1⌝)
    ∗ (∃ f, (arg7.view.loc (c : Thread nD τ) ↦[arg7.view.set]{fullShare} f)
        ∗ ⌜f = arg7.view.writes (Elt F) G7 (state (F := F) 𝒱 c bd i arg1 harg1 arg2 harg2 arg3 harg3 arg4 harg4 arg5 harg5 arg6 harg6 arg7 harg7
          arg8 harg8 arg9 harg9 arg0
            X1 X2 X3 X4 X5 G7 G8 init k).2.2.1⌝)
    ∗ (∃ f, (arg8.view.loc (c : Thread nD τ) ↦[arg8.view.set]{fullShare} f)
        ∗ ⌜f = arg8.view.writes (Elt F) G8 (state (F := F) 𝒱 c bd i arg1 harg1 arg2 harg2 arg3 harg3 arg4 harg4 arg5 harg5 arg6 harg6 arg7 harg7
          arg8 harg8 arg9 harg9 arg0
            X1 X2 X3 X4 X5 G7 G8 init k).2.2.2⌝)
    ∗ ⌜acc = (state (F := F) 𝒱 c bd i arg1 harg1 arg2 harg2 arg3 harg3 arg4 harg4 arg5 harg5 arg6 harg6 arg7 harg7
          arg8 harg8 arg9 harg9 arg0
            X1 X2 X3 X4 X5 G7 G8 init k).1⌝)

set_option warn.classDefReducibility false in
/-- The loop by what holds before each trip. -/
@[sl_loop] def loopInv (E : Set ℕ) (G6 : BufTy.Contents (Elt F) arg6.view.ty) (init : FVec F S512x1 .f32) :
    LoopInvTy_k0_t1 (F := F) Unit ℕ (UR sig nD τ) ℕ 𝒱 c bd E i arg1 harg1 arg2 harg2 arg3 harg3 arg4 harg4 arg5 harg5 arg6 harg6 arg7 harg7
          arg8 harg8 arg9 harg9 arg0 init where
  inv := inv (F := F) 𝒱 c bd i arg1 harg1 arg2 harg2 arg3 harg3 arg4 harg4 arg5 harg5 arg6 harg6 arg7 harg7
          arg8 harg8 arg9 harg9 arg0 X1 X2 X3 X4 X5 G7 G8 G6 init
  step k acc := by
    iintro ⟨H1, H2, H3, H4, H5, ⟨%f6, H6, %h6⟩, ⟨%f7, H7, %h7⟩, ⟨%f8, H8, %h8⟩, %hacc⟩
    subst hacc
    iapply (wp_wand_r Idealize.ShloMosaic.frame (wpE (defs₀ (F := F)) 𝒱 (c : Thread nD τ) bd) E)
    isplitl [H1 H2 H3 H4 H5 H6 H7 H8]
    · iapply ((trip (F := F) 𝒱 c bd i arg1 harg1 arg2 harg2 arg3 harg3 arg4 harg4 arg5 harg5 arg6 harg6 arg7 harg7
          arg8 harg8 arg9 harg9 arg0 X1 X2 X3 X4 X5
        k).2.2.2.2 E (state (F := F) 𝒱 c bd i arg1 harg1 arg2 harg2 arg3 harg3 arg4 harg4 arg5 harg5 arg6 harg6 arg7 harg7
          arg8 harg8 arg9 harg9 arg0
          X1 X2 X3 X4 X5 G7 G8 init k).1 f6 f7 f8)
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iintro %yld ⟨%hr, H1, H2, H3, H4, H5, H6, H7, H8⟩
      isplitl [H1]; · iexact H1
      isplitl [H2]; · iexact H2
      isplitl [H3]; · iexact H3
      isplitl [H4]; · iexact H4
      isplitl [H5]; · iexact H5
      simp only [state_succ]
      unfold next
      isplitl [H6]
      · iexists _; isplitl [H6]; · iexact H6
        ipureintro; rw [h6, h7, h8, ← View.writes_append]
      isplitl [H7]
      · iexists _; isplitl [H7]; · iexact H7
        ipureintro; rw [h7, h8, ← View.writes_append]
      isplitl [H8]
      · iexists _; isplitl [H8]; · iexact H8
        ipureintro; rw [h7, h8, ← View.writes_append]
      ipureintro; rw [hr, h7, h8]

end Cert.KernelIdeal.Attention

end
-- ==== Proof.Attention.Softmax.lean ====
/-
  One row of the windowed softmax over the extended reals, and its derivative: the scores of a query against the
  128 keys of the block before, the 128 keys of its own block and the sink.
-/
module

public import Idealize.ShloMosaic.Lib.Pointwise
public import Idealize.ShloMosaic.Lib.IdealHost

@[expose] public section

noncomputable section

namespace Cert.Attn

open Idealize.ShloMosaic

/-! ## Sums of extended reals scaled by a real that is not negative -/

theorem sum_mul_real {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.2 hr) (EReal.coe_ne_top r), ih]

theorem add_mul_real (x y : EReal) {r : ℝ} (hr : 0 ≤ r) : (x + y) * (r : EReal) = x * r + y * r :=
  EReal.right_distrib_of_nonneg_of_ne_top (EReal.coe_nonneg.2 hr) (EReal.coe_ne_top r) x y

/-- The sum of reals is the real sum. -/
theorem sum_real {ι : Type} (s : Finset ι) (f : ι → EReal) (g : ι → ℝ) (h : ∀ i ∈ s, f i = (g i : EReal)) :
    ∑ i ∈ s, f i = ((∑ i ∈ s, g i : ℝ) : EReal) := by
  classical
  induction s using Finset.induction_on with
  | empty => simp
  | insert a s ha ih =>
    rw [Finset.sum_insert ha, Finset.sum_insert ha, h a (Finset.mem_insert_self a s),
      ih fun i hi => h i (Finset.mem_insert_of_mem hi), EReal.coe_add]

/-! ## The row -/

/-- The scores of one query: against the block before, its own block, and the sink. -/
structure Row where
  prev : Fin 128 → EReal
  own : Fin 128 → EReal
  sink : EReal

namespace Row
variable (ρ : Row)

/-- The greatest score. -/
def top : EReal := max (max (Finset.univ.fold max ⊥ ρ.own) (Finset.univ.fold max ⊥ ρ.prev)) ρ.sink

/-- The exponential of a score below the greatest. -/
def ex (x : EReal) : EReal := Ideal.exp (x - ρ.top)

/-- The sum of the exponentials. -/
def total : EReal := ∑ j, ρ.ex (ρ.own j) + ∑ j, ρ.ex (ρ.prev j) + ρ.ex ρ.sink

/-- The probability of a score. -/
def pr (x : EReal) : EReal := ρ.ex x * Ideal.div 1 ρ.total

/-- The mean of a cotangent under the probabilities: `u` against the block before, `v` against the row's own. -/
def mean (u v : Fin 128 → EReal) : EReal := ∑ j, ρ.pr (ρ.own j) * v j + ∑ j, ρ.pr (ρ.prev j) * u j

/-- The score's cotangent: the probability times how far the cotangent `y` lies above the mean. -/
def dscore (u v : Fin 128 → EReal) (x y : EReal) : EReal := ρ.pr x * (y - ρ.mean u v)

/-- The row's scores are real, or masked. -/
structure Finite : Prop where
  prev : ∀ j, ρ.prev j ≠ ⊤
  own : ∀ j, ρ.own j ≠ ⊤
  sink_top : ρ.sink ≠ ⊤
  sink_bot : ρ.sink ≠ ⊥

theorem fold_max_le {n : ℕ} (f : Fin n → EReal) (j : Fin n) : f j ≤ Finset.univ.fold max ⊥ f :=
  (Finset.fold_max_le (b := ⊥) (s := Finset.univ) (f := f) _).1 le_rfl |>.2 j (Finset.mem_univ j)

theorem fold_max_ne_top {n : ℕ} (f : Fin n → EReal) (h : ∀ j, f j ≠ ⊤) : Finset.univ.fold max ⊥ f ≠ ⊤ :=
  ((Finset.fold_max_lt (b := ⊥) (s := Finset.univ) (f := f) _).2 ⟨bot_lt_top, fun j _ => lt_top_iff_ne_top.2 (h j)⟩).ne

variable {ρ}

theorem own_le (j : Fin 128) : ρ.own j ≤ ρ.top := le_max_of_le_left (le_max_of_le_left (fold_max_le _ j))
theorem prev_le (j : Fin 128) : ρ.prev j ≤ ρ.top := le_max_of_le_left (le_max_of_le_right (fold_max_le _ j))
theorem sink_le : ρ.sink ≤ ρ.top := le_max_right _ _

/-- A masked score has no weight. -/
theorem ex_bot : ρ.ex ⊥ = 0 := by unfold ex; rw [EReal.bot_sub]; rfl
theorem pr_bot : ρ.pr ⊥ = 0 := by unfold pr; rw [ex_bot, zero_mul]
theorem dscore_bot (u v : Fin 128 → EReal) (y : EReal) : ρ.dscore u v ⊥ y = 0 := by unfold dscore; rw [pr_bot, zero_mul]

/-- The mean does not depend on the cotangent against masked scores. -/
theorem mean_congr (u u' v : Fin 128 → EReal) (h : ∀ j, ρ.prev j = ⊥ ∨ u j = u' j) : ρ.mean u v = ρ.mean u' v := by
  unfold mean
  refine congrArg _ (Finset.sum_congr rfl fun j _ => ?_)
  rcases h j with h | h
  · rw [h, pr_bot, zero_mul, zero_mul]
  · rw [h]

theorem Finite.top_real (h : ρ.Finite) : ∃ t : ℝ, ρ.top = t :=
  ⟨ρ.top.toReal, (EReal.coe_toReal
    (by unfold top
        exact (max_lt (max_lt (lt_top_iff_ne_top.2 (fold_max_ne_top _ h.own)) (lt_top_iff_ne_top.2 (fold_max_ne_top _ h.prev)))
          (lt_top_iff_ne_top.2 h.sink_top)).ne)
    (ne_bot_of_le_ne_bot h.sink_bot sink_le)).symm⟩

/-- A score's exponential is a real that is not negative. -/
theorem Finite.ex_real (h : ρ.Finite) {x : EReal} (hx : x ≠ ⊤) : ∃ e : ℝ, 0 ≤ e ∧ ρ.ex x = e := by
  obtain ⟨t, ht⟩ := h.top_real
  unfold ex
  rw [ht]
  induction x using EReal.rec with
  | bot => exact ⟨0, le_rfl, by rw [EReal.bot_sub]; rfl⟩
  | top => exact absurd rfl hx
  | coe r => exact ⟨Real.exp (r - t), (Real.exp_pos _).le, by rw [← EReal.coe_sub]; rfl⟩

/-- The greatest score's exponential is one. -/
theorem Finite.ex_top (h : ρ.Finite) : ρ.ex ρ.top = 1 := by
  obtain ⟨t, ht⟩ := h.top_real
  unfold ex
  rw [ht, ← EReal.coe_sub, sub_self]
  change ((Real.exp 0 : ℝ) : EReal) = 1
  rw [Real.exp_zero]; rfl

theorem fold_max_mem {n : ℕ} (f : Fin n → EReal) : Finset.univ.fold max ⊥ f = ⊥ ∨ ∃ j, Finset.univ.fold max ⊥ f = f j := by
  by_cases hb : Finset.univ.fold max ⊥ f = ⊥
  · exact Or.inl hb
  · right
    have := (Finset.le_fold_max (b := ⊥) (s := Finset.univ) (f := f) (Finset.univ.fold max ⊥ f)).1 le_rfl
    rcases this with h | ⟨j, _, hj⟩
    · exact absurd (le_bot_iff.1 h) hb
    · exact ⟨j, le_antisymm hj (fold_max_le f j)⟩

theorem top_mem (hs : ρ.sink ≠ ⊥) : (∃ j, ρ.top = ρ.own j) ∨ (∃ j, ρ.top = ρ.prev j) ∨ ρ.top = ρ.sink := by
  have hb : ρ.top ≠ ⊥ := ne_bot_of_le_ne_bot hs sink_le
  rcases max_choice (max (Finset.univ.fold max ⊥ ρ.own) (Finset.univ.fold max ⊥ ρ.prev)) ρ.sink with h | h
  · rcases max_choice (Finset.univ.fold max ⊥ ρ.own) (Finset.univ.fold max ⊥ ρ.prev) with h' | h'
    · have e : ρ.top = Finset.univ.fold max ⊥ ρ.own := h.trans h'
      rcases fold_max_mem ρ.own with h'' | ⟨j, hj⟩
      · exact absurd (e.trans h'') hb
      · exact Or.inl ⟨j, e.trans hj⟩
    · have e : ρ.top = Finset.univ.fold max ⊥ ρ.prev := h.trans h'
      rcases fold_max_mem ρ.prev with h'' | ⟨j, hj⟩
      · exact absurd (e.trans h'') hb
      · exact Or.inr (Or.inl ⟨j, e.trans hj⟩)
  · exact Or.inr (Or.inr h)

/-- The sum of the exponentials is a positive real. -/
theorem Finite.total_real (h : ρ.Finite) : ∃ z : ℝ, 0 < z ∧ ρ.total = z := by
  choose eo heo ho using fun j => h.ex_real (h.own j)
  choose ep hep hp using fun j => h.ex_real (h.prev j)
  obtain ⟨es, hes, hs⟩ := h.ex_real h.sink_top
  refine ⟨∑ j, eo j + ∑ j, ep j + es, ?_, ?_⟩
  · have so := Finset.sum_nonneg (s := Finset.univ) fun j _ => heo j
    have sp := Finset.sum_nonneg (s := Finset.univ) fun j _ => hep j
    have one : ∀ {e : ℝ} {x : EReal}, ρ.ex x = e → ρ.top = x → e = 1 := fun {e x} hx ht => by
      have := h.ex_top; rw [ht, hx] at this; exact_mod_cast this
    rcases top_mem h.sink_bot with ⟨j, hj⟩ | ⟨j, hj⟩ | hj
    · have := Finset.single_le_sum (s := Finset.univ) (f := eo) (fun j _ => heo j) (Finset.mem_univ j)
      have := one (ho j) hj; linarith
    · have := Finset.single_le_sum (s := Finset.univ) (f := ep) (fun j _ => hep j) (Finset.mem_univ j)
      have := one (hp j) hj; linarith
    · have := one hs hj; linarith
  · unfold total
    rw [sum_real _ _ eo fun j _ => ho j, sum_real _ _ ep fun j _ => hp j, hs]
    norm_cast

/-! ## The row as one array of 257 scores -/

/-- The two blocks and the sink in a row. -/
def cat (a b : Fin 128 → EReal) (s : EReal) (j : Fin 257) : EReal :=
  if h : j.val < 128 then a ⟨j, h⟩ else if h' : j.val < 256 then b ⟨j - 128, by omega⟩ else s

/-- A position in the block before, in the own block, and the sink's. -/
abbrev inPrev (j : Fin 128) : Fin 257 := ⟨j, by omega⟩
abbrev inOwn (j : Fin 128) : Fin 257 := ⟨128 + j, by omega⟩
abbrev atSink : Fin 257 := ⟨256, by omega⟩

theorem cat_prev (a b : Fin 128 → EReal) (s : EReal) (j : Fin 128) : cat a b s (inPrev j) = a j := by
  unfold cat; rw [dif_pos j.isLt]
theorem cat_own (a b : Fin 128 → EReal) (s : EReal) (j : Fin 128) : cat a b s (inOwn j) = b j := by
  unfold cat; rw [dif_neg (by simp), dif_pos (show 128 + j.val < 256 by omega)]; congr 1; ext; simp
theorem cat_sink (a b : Fin 128 → EReal) (s : EReal) : cat a b s atSink = s := by
  unfold cat; rw [dif_neg (by simp), dif_neg (by simp)]

/-- A sum over the row, cut in its three parts. -/
theorem sum_cat (F : Fin 257 → EReal) :
    ∑ j, F j = ∑ j, F (inOwn j) + ∑ j, F (inPrev j) + F atSink := by
  rw [Fin.sum_univ_castSucc]
  refine congrArg₂ (· + ·) ?_ rfl
  rw [Fin.sum_univ_two_halves 128 128 rfl, add_comm]
  rfl

/-- The greatest of the row. -/
theorem fold_cat (ρ : Row) : Finset.univ.fold max ⊥ (cat ρ.prev ρ.own ρ.sink) = ρ.top := by
  apply le_antisymm
  · refine (Finset.fold_max_le _).2 ⟨bot_le, fun j _ => ?_⟩
    unfold cat
    split_ifs
    · exact prev_le _
    · exact own_le _
    · exact sink_le
  · have hc := fold_max_le (cat ρ.prev ρ.own ρ.sink)
    refine max_le (max_le ?_ ?_) ?_
    · exact (Finset.fold_max_le _).2 ⟨bot_le, fun j _ => (cat_own ρ.prev ρ.own ρ.sink j) ▸ hc (inOwn j)⟩
    · exact (Finset.fold_max_le _).2 ⟨bot_le, fun j _ => (cat_prev ρ.prev ρ.own ρ.sink j) ▸ hc (inPrev j)⟩
    · exact (cat_sink ρ.prev ρ.own ρ.sink) ▸ hc atSink

/-- The sum of the row's exponentials. -/
theorem sum_ex_cat (ρ : Row) : ∑ j, ρ.ex (cat ρ.prev ρ.own ρ.sink j) = ρ.total := by
  rw [sum_cat]; simp only [cat_prev, cat_own, cat_sink]; rfl

/-! ## The derivative, as the quotient rule writes it -/

/-- An exponential over their sum is the probability. -/
theorem Finite.div_total (h : ρ.Finite) (x : EReal) : Ideal.div (ρ.ex x) ρ.total = ρ.pr x := by
  obtain ⟨z, hz, ez⟩ := h.total_real
  have hz' : (z : EReal) ≠ 0 := by exact_mod_cast hz.ne'
  unfold pr Ideal.div
  rw [ez, if_neg hz', if_neg hz', one_mul]

/-- The quotient rule's cotangent of an exponential, times the exponential, is the score's cotangent. -/
theorem Finite.quotient_rule (h : ρ.Finite) (u v : Fin 128 → EReal) {x : EReal} (hx : x ≠ ⊤) (y : EReal) :
    (Ideal.div y ρ.total
      + -(∑ l, cat u v 0 l * Ideal.div 1 (ρ.total * ρ.total) * ρ.ex (cat ρ.prev ρ.own ρ.sink l))) * ρ.ex x
      = ρ.dscore u v x y := by
  obtain ⟨z, hz, ez⟩ := h.total_real
  obtain ⟨e, he, ee⟩ := h.ex_real hx
  have hi : (0 : ℝ) ≤ z⁻¹ := (inv_pos.2 hz).le
  have hz' : (z : EReal) ≠ 0 := by exact_mod_cast hz.ne'
  have hz2 : (z : EReal) * z ≠ 0 := by rw [← EReal.coe_mul]; exact_mod_cast (mul_pos hz hz).ne'
  have e1 : ∀ y : EReal, Ideal.div y ρ.total = y * ((z⁻¹ : ℝ) : EReal) := fun y => by
    unfold Ideal.div; rw [ez, if_neg hz', EReal.coe_inv]
  have e2 : Ideal.div 1 (ρ.total * ρ.total) = ((z⁻¹ : ℝ) : EReal) * ((z⁻¹ : ℝ) : EReal) := by
    unfold Ideal.div
    rw [ez, if_neg hz2, one_mul, ← EReal.coe_mul, ← EReal.coe_inv, ← EReal.coe_mul, mul_inv]
  have e3 : ∑ l, cat u v 0 l * Ideal.div 1 (ρ.total * ρ.total) * ρ.ex (cat ρ.prev ρ.own ρ.sink l)
      = ρ.mean u v * ((z⁻¹ : ℝ) : EReal) := by
    rw [sum_cat]
    simp only [cat_prev, cat_own, cat_sink, zero_mul, add_zero]
    unfold mean pr
    rw [add_mul_real _ _ hi, sum_mul_real _ _ hi, sum_mul_real _ _ hi]
    refine congrArg₂ (· + ·) (Finset.sum_congr rfl fun j _ => ?_) (Finset.sum_congr rfl fun j _ => ?_) <;>
      · rw [e2, e1 1, one_mul]; ac_rfl
  unfold dscore pr
  rw [e3, e1, e1 1, one_mul, ee, ← EReal.neg_mul, ← add_mul_real _ _ hi, sub_eq_add_neg]
  ac_rfl

/-- The same of the sink, whose own cotangent is zero. -/
theorem Finite.quotient_rule_sink (h : ρ.Finite) (u v : Fin 128 → EReal) :
    (Ideal.div 0 ρ.total
      + -(∑ l, cat u v 0 l * Ideal.div 1 (ρ.total * ρ.total) * ρ.ex (cat ρ.prev ρ.own ρ.sink l))) * ρ.ex ρ.sink
      = -(ρ.pr ρ.sink * ρ.mean u v) := by
  rw [h.quotient_rule u v h.sink_top 0]
  unfold dscore
  rw [zero_sub, mul_neg]

end Row

end Cert.Attn

end
-- ==== Proof.Attention.Model.lean ====
/-
  The attention gradient of one block of 128 queries of the four heads that share their keys: what it is, in plain sums.
-/
module

public import proofs.«01_k».proof.Proof.Attention.Softmax

@[expose] public section

noncomputable section

namespace Cert.Attn

open Idealize.ShloMosaic

/-- An eighth: one over the root of the head's width. -/
abbrev eighth : EReal := ((1 / 8 : ℝ) : EReal)
theorem eighth_eq : Ideal.ofBits .f32 1040187392#32 = eighth := by
  simp [Ideal.ofBits, Ideal.ieee, -EReal.coe_mul]; norm_num

/-- What a block of queries sees: its number `n`, its queries `q` and the result's cotangent `o` by head, query and column,
    its own keys and values `kc`, `vc` and those of the block before, `kp`, `vp`, and the heads' sinks and slopes. -/
structure Block where
  n : ℕ
  q : Fin 4 → Fin 128 → Fin 64 → EReal
  o : Fin 4 → Fin 128 → Fin 64 → EReal
  kc : Fin 128 → Fin 64 → EReal
  kp : Fin 128 → Fin 64 → EReal
  vc : Fin 128 → Fin 64 → EReal
  vp : Fin 128 → Fin 64 → EReal
  sink : Fin 4 → EReal
  slope : Fin 4 → EReal

namespace Block
variable (B : Block)

/-- The scores of query `i` of head `h`: a query sees the keys up to itself in its own block, and in the block before, if
    there is one, those less than 128 positions back. -/
def row (h : Fin 4) (i : Fin 128) : Row where
  own j := if j.val ≤ i.val then (∑ d, B.q h i d * B.kc j d) * eighth - B.slope h * ((((i.val : ℤ) - j.val : ℤ) : ℝ) : EReal) else ⊥
  prev j := if i.val < j.val ∧ 0 < B.n then
      (∑ d, B.q h i d * B.kp j d) * eighth - B.slope h * ((((i.val : ℤ) + 128 - j.val : ℤ) : ℝ) : EReal) else ⊥
  sink := B.sink h

/-- The cotangents of the probabilities. -/
def gOwn (h : Fin 4) (i j : Fin 128) : EReal := ∑ d, B.o h i d * B.vc j d
@[inherit_doc gOwn] def gPrev (h : Fin 4) (i j : Fin 128) : EReal := ∑ d, B.o h i d * B.vp j d

/-- The probabilities. -/
def pOwn (h : Fin 4) (i j : Fin 128) : EReal := (B.row h i).pr ((B.row h i).own j)
@[inherit_doc pOwn] def pPrev (h : Fin 4) (i j : Fin 128) : EReal := (B.row h i).pr ((B.row h i).prev j)
@[inherit_doc pOwn] def pSink (h : Fin 4) (i : Fin 128) : EReal := (B.row h i).pr ((B.row h i).sink)

/-- The mean of their cotangents. -/
def mean (h : Fin 4) (i : Fin 128) : EReal := (B.row h i).mean (B.gPrev h i) (B.gOwn h i)

/-- The scores' cotangents. -/
def sOwn (h : Fin 4) (i j : Fin 128) : EReal := (B.row h i).dscore (B.gPrev h i) (B.gOwn h i) ((B.row h i).own j) (B.gOwn h i j)
@[inherit_doc sOwn] def sPrev (h : Fin 4) (i j : Fin 128) : EReal := (B.row h i).dscore (B.gPrev h i) (B.gOwn h i) ((B.row h i).prev j) (B.gPrev h i j)

/-- The queries' cotangents. -/
def dq (h : Fin 4) (i : Fin 128) (d : Fin 64) : EReal :=
  (∑ j, B.sOwn h i j * B.kc j d + ∑ j, B.sPrev h i j * B.kp j d) * eighth

/-- What the block adds to the cotangents of its own keys, and to those of the block before. -/
def dkOwn (j : Fin 128) (d : Fin 64) : EReal := (∑ h, ∑ i, B.sOwn h i j * B.q h i d) * eighth
@[inherit_doc dkOwn] def dkPrev (j : Fin 128) (d : Fin 64) : EReal := (∑ h, ∑ i, B.sPrev h i j * B.q h i d) * eighth

/-- The same of the values. -/
def dvOwn (j : Fin 128) (d : Fin 64) : EReal := ∑ h, ∑ i, B.pOwn h i j * B.o h i d
@[inherit_doc dvOwn] def dvPrev (j : Fin 128) (d : Fin 64) : EReal := ∑ h, ∑ i, B.pPrev h i j * B.o h i d

/-- What a query adds to its head's sink's cotangent. -/
def dsink (h : Fin 4) (i : Fin 128) : EReal := -(B.pSink h i * B.mean h i)

/-- Nothing is seen before the first block. -/
theorem prev_first (h0 : B.n = 0) (h : Fin 4) (i j : Fin 128) : (B.row h i).prev j = ⊥ :=
  if_neg fun hh => absurd hh.2 (by omega)
theorem sPrev_first (h0 : B.n = 0) (h : Fin 4) (i j : Fin 128) : B.sPrev h i j = 0 := by
  unfold sPrev; rw [B.prev_first h0, Row.dscore_bot]
theorem pPrev_first (h0 : B.n = 0) (h : Fin 4) (i j : Fin 128) : B.pPrev h i j = 0 := by
  unfold pPrev; rw [B.prev_first h0, Row.pr_bot]
theorem dkPrev_first (h0 : B.n = 0) (j : Fin 128) (d : Fin 64) : B.dkPrev j d = 0 := by
  unfold dkPrev; simp [B.sPrev_first h0]
theorem dvPrev_first (h0 : B.n = 0) (j : Fin 128) (d : Fin 64) : B.dvPrev j d = 0 := by
  unfold dvPrev; simp [B.pPrev_first h0]

end Block

end Cert.Attn

end
-- ==== Proof.Attention.Rows.lean ====
/-
  One block of queries as the kernel computes it: its stored values are the plain sums of `Model`.
-/
module

public import proofs.«01_k».proof.Proof.Attention.Model
public import proofs.«01_k».proof.Proof.Gen.KernelIdeal.Skeleton
public meta import Idealize.ShloMosaic.Lib.Tactic.WordOmega

@[expose] public section

set_option maxRecDepth 16384

noncomputable section

namespace Cert.KernelIdeal.Attention

open Cert.KernelIdeal Cert.KernelIdeal.Gen Cert.Attn
open Idealize.ShloMosaic Idealize.ShloMosaic.TcCoe

section Terms
variable {F : FTy → Type} [FloatOps F] [Named F]

/-- What a trip loads: the queries and the cotangents of its block, the keys and values of its own block and of the block
    before, the sinks and the slopes of the four heads; and the trip's number as the kernel counts it. -/
structure Loads (F : FTy → Type) where
  n : BitVec 32
  q : Vec F S4x128x64 .f32
  o : Vec F S4x128x64 .f32
  kc : Vec F S1x128x64 .f32
  kp : Vec F S1x128x64 .f32
  vc : Vec F S1x128x64 .f32
  vp : Vec F S1x128x64 .f32
  s : Fin 4 → Elt F .f32
  l : Fin 4 → Elt F .f32

namespace Loads
variable (ℒ : Loads F)

/-- The row and the column numbers. -/
abbrev rows : IVec S512x1 32 := iota .tc S512x1 32 [0] iota_S512x1_d0_w32
abbrev cols : IVec S512x128 32 := iota .tc S512x128 32 [1] iota_S512x128_d1_w32

/-- The sinks and the slopes, a row for each query. -/
def sinks : FVec F S512x1 .f32 := k0_pay6 k0_pay5 (ℒ.s 3) (ℒ.s 0) (ℒ.s 1) (ℒ.s 2)
def slopeA : FVec F S512x1 .f32 :=
  k0_pay10 rows 128#32 k0_pay7 k0_pay8 (Scalar.cmpi .sgt 128#32 0#32) (ℒ.l 3) (ℒ.l 0) (ℒ.l 1)
def slopeB : IVec S512x1 1 := k0_pay11 rows 128#32 k0_pay7 k0_pay8 (Scalar.cmpi .sgt 128#32 0#32)
def slopes : FVec F S512x1 .f32 := k0_pay12 ℒ.slopeA slopeB (ℒ.l 2)

/-- The scores against the block's own keys, and the parts of those against the block before. -/
def own : FVec F S512x128 .f32 := k0_pay16 k0_pay3 cols k0_pay4 ℒ.slopeA slopeB (ℒ.l 2) ℒ.q ℒ.kc
def seen : IVec S512x128 1 := k0_pay17 ℒ.n k0_pay3 cols
def prod : FVec F S512x128 .f32 := k0_pay18 ℒ.q ℒ.kp

/-- The probabilities, and for the sink the exponential and the reciprocal of the sum. -/
def pOwn : FVec F S512x128 .f32 := k0_pay26 k0_pay4 ℒ.sinks ℒ.slopes ℒ.own ℒ.seen ℒ.prod k0_pay19
def pPrev : FVec F S512x128 .f32 := k0_pay27 k0_pay4 ℒ.sinks ℒ.slopes ℒ.own ℒ.seen ℒ.prod k0_pay19
def eSink : FVec F S512x1 .f32 := k0_pay24 k0_pay4 ℒ.sinks ℒ.slopes ℒ.own ℒ.seen ℒ.prod k0_pay19
def recip : FVec F S512x1 .f32 := k0_pay25 k0_pay4 ℒ.sinks ℒ.slopes ℒ.own ℒ.seen ℒ.prod k0_pay19

/-- The cotangents of the probabilities. -/
def gOwn : FVec F S512x128 .f32 := k0_pay29 ℒ.o ℒ.vc

/-- What the trip hands on, and what it stores. -/
def carry (acc : FVec F S512x1 .f32) : FVec F S512x1 .f32 :=
  k0_pay44 acc ℒ.eSink ℒ.recip (k0_pay33 ℒ.pOwn ℒ.pPrev ℒ.gOwn (k0_pay30 ℒ.o) (k0_pay31 ℒ.vp))
def dq : FVec F S4x128x64 .bf16 :=
  k0_pay36 (k0_pay14 ℒ.kc) (k0_pay15 ℒ.kp) ℒ.pOwn ℒ.pPrev ℒ.gOwn (k0_pay30 ℒ.o) (k0_pay31 ℒ.vp)
def dkOwn (old : Vec F S1x128x64 .f32) : FVec F S1x128x64 .f32 :=
  k0_pay37 (k0_pay13 ℒ.q) ℒ.pOwn ℒ.pPrev ℒ.gOwn (k0_pay30 ℒ.o) (k0_pay31 ℒ.vp) old
def dkPrev (old : Vec F S1x128x64 .f32) : FVec F S1x128x64 .f32 :=
  k0_pay41 (k0_pay13 ℒ.q) (k0_pay35 ℒ.pOwn ℒ.pPrev ℒ.gOwn (k0_pay30 ℒ.o) (k0_pay31 ℒ.vp)) old
def dvOwn (old : Vec F S1x128x64 .f32) : FVec F S1x128x64 .f32 := k0_pay42 ℒ.pOwn (k0_pay28 ℒ.o) old
def dvPrev (old : Vec F S1x128x64 .f32) : FVec F S1x128x64 .f32 := k0_pay43 ℒ.pPrev (k0_pay28 ℒ.o) old

end Loads
end Terms

/-! ## Words -/

theorem pay3_apply (r : Fin 512) (j : Fin 128) : k0_pay3 (ix2 r j) = BitVec.ofNat 32 (r.val % 128) := by
  pointwise [k0_pay3]
  revert r; decide +kernel
theorem pay5_apply (r : Fin 512) : k0_pay5 (ix2 r 0) = BitVec.ofNat 32 (r.val / 128) := by
  pointwise [k0_pay5]
  revert r; decide +kernel

/-- A row's head, and its query in the block. -/
abbrev hd (r : Fin 512) : Fin 4 := ⟨r.val / 128, by omega⟩
abbrev qi (r : Fin 512) : Fin 128 := ⟨r.val % 128, by omega⟩

theorem mask_eq : (Named.named κ "mask" 4048155338#32 : Ideal .f32) = (⊥ : EReal) :=
  IdealRules.named_const.ideal_named_scalar _ _ _ _ rfl
theorem block_eq : Ideal.ofBits .f32 1124073472#32 = ((128 : ℝ) : EReal) := by
  simp [Ideal.ofBits, Ideal.ieee, -EReal.coe_mul]; norm_num

theorem sub_toInt (a b : Fin 128) : (IntOp.subi (BitVec.ofNat 32 a.val) (BitVec.ofNat 32 b.val)).toInt = (a.val : ℤ) - b.val := by
  have ha := a.isLt
  have hb := b.isLt
  show (BitVec.ofNat 32 a.val - BitVec.ofNat 32 b.val).toInt = _
  rw [BitVec.toInt_sub, BitVec.toInt_eq_toNat_of_lt (by simp; omega), BitVec.toInt_eq_toNat_of_lt (by simp; omega), BitVec.toNat_ofNat, BitVec.toNat_ofNat]
  simp only [Int.bmod]
  omega
theorem sle_iff (a b : Fin 128) : (IntOp.cmpi .sle (BitVec.ofNat 32 a.val) (BitVec.ofNat 32 b.val) = 1) = (a.val ≤ b.val) :=
  propext (by word_omega)
theorem sgt_iff (n : Fin 16) (a b : Fin 128) :
    (IntOp.cmpi .sgt (BitVec.ofNat 32 a.val) (IntOp.addi (BitVec.ofNat 32 b.val)
      (Scalar.select (Scalar.cmpi .sge (BitVec.ofNat 32 n.val) 1#32) 0#32 128#32)) = 1) = (b.val < a.val ∧ 0 < n.val) :=
  propext (by unfold Scalar.cmpi; word_omega)

/-- The head's own scalar, chosen among the four. -/
theorem choose_apply (t : Fin 4 → EReal) (r : Fin 512) :
    Scalar.select (IntOp.cmpi .eq (BitVec.ofNat 32 (r.val / 128)) 2#32) (t 2)
      (Scalar.select (IntOp.cmpi .eq (BitVec.ofNat 32 (r.val / 128)) 1#32) (t 1)
        (Scalar.select (IntOp.cmpi .eq (BitVec.ofNat 32 (r.val / 128)) 0#32) (t 0) (t 3))) = t (hd r) := by
  show _ = t ⟨r.val / 128, by omega⟩
  generalize hx : (⟨r.val / 128, by omega⟩ : Fin 4) = x
  have hv : r.val / 128 = x.val := congrArg Fin.val hx
  rw [hv]
  fin_cases x <;> rfl

theorem dist_apply (a b : Fin 128) :
    (FloatOps.sitofp .f32 (IntOp.subi (BitVec.ofNat 32 a.val) (BitVec.ofNat 32 b.val)) : Ideal .f32)
      = ((((a.val : ℤ) - b.val : ℤ) : ℝ) : EReal) := by
  rw [← sub_toInt a b]; rfl

namespace Loads
variable (ℒ : Loads Ideal)

/-- The block the loads are of. -/
def block (n : Fin 16) : Block where
  n := n.val
  q h i d := ℒ.q (ix3 h i d)
  o h i d := ℒ.o (ix3 h i d)
  kc j d := ℒ.kc (ix3 0 j d)
  kp j d := ℒ.kp (ix3 0 j d)
  vc j d := ℒ.vc (ix3 0 j d)
  vp j d := ℒ.vp (ix3 0 j d)
  sink := ℒ.s
  slope := ℒ.l

theorem sinks_apply (r : Fin 512) : ℒ.sinks (ix2 r 0) = ℒ.s (hd r) := by
  pointwise [sinks, k0_pay6, pay5_apply]
  exact choose_apply ℒ.s r

theorem slopes_apply (r : Fin 512) : ℒ.slopes (ix2 r 0) = ℒ.l (hd r) := by
  have h9 (r : Fin 512) : k0_pay9 rows 128#32 k0_pay7 k0_pay8 (Scalar.cmpi .sgt 128#32 0#32) (ix2 r 0) = BitVec.ofNat 32 (r.val / 128) := by
    pointwise [k0_pay9, k0_pay7, k0_pay8]
    revert r; decide +kernel
  pointwise [slopes, k0_pay12, slopeA, slopeB, k0_pay10, k0_pay11, h9]
  exact choose_apply ℒ.l r

theorem own_apply (n : Fin 16) (r : Fin 512) (j : Fin 128) : ℒ.own (ix2 r j) = ((ℒ.block n).row (hd r) (qi r)).own j := by
  pointwise [own, k0_pay16, k0_pay4, pay3_apply, k0_pay13, k0_pay14, mask_eq, eighth_eq]
  rw [show k0_pay12 ℒ.slopeA slopeB (ℒ.l 2) (ix2 r 0) = _ from ℒ.slopes_apply r]
  unfold Scalar.select
  simp only [sle_iff j (qi r), dist_apply (qi r) j]
  rfl

variable {ℒ}

theorem prev_apply (n : Fin 16) (hn : ℒ.n = BitVec.ofNat 32 n.val) (r : Fin 512) (j : Fin 128) :
    k0_pay20 k0_pay4 ℒ.slopes ℒ.seen ℒ.prod k0_pay19 (ix2 r j) = ((ℒ.block n).row (hd r) (qi r)).prev j := by
  pointwise [k0_pay20, k0_pay4, pay3_apply, seen, k0_pay17, prod, k0_pay18, k0_pay19, k0_pay13, k0_pay15, mask_eq, eighth_eq, block_eq,
    ℒ.slopes_apply]
  rw [hn]
  have hs := sgt_iff n j (qi r)
  have hd := dist_apply (qi r) j
  unfold Scalar.select at hs ⊢
  simp only [hs, hd]
  unfold Block.row
  simp only [block]
  congr 3
  rw [show (((r.val % 128 : ℕ) : ℤ) + 128 - j.val : ℤ) = ((r.val % 128 : ℕ) : ℤ) - j.val + 128 by ring]
  generalize ((r.val % 128 : ℕ) : ℤ) - j.val = z
  push_cast
  exact (EReal.coe_add _ _).symm

theorem top_apply (n : Fin 16) (hn : ℒ.n = BitVec.ofNat 32 n.val) (r : Fin 512) :
    k0_pay21 k0_pay4 ℒ.sinks ℒ.slopes ℒ.own ℒ.seen ℒ.prod k0_pay19 (ix2 r 0) = ((ℒ.block n).row (hd r) (qi r)).top := by
  pointwise [k0_pay21, ℒ.own_apply n, prev_apply n hn, ℒ.sinks_apply]
  rfl

theorem exOwn_apply (n : Fin 16) (hn : ℒ.n = BitVec.ofNat 32 n.val) (r : Fin 512) (j : Fin 128) :
    k0_pay22 k0_pay4 ℒ.sinks ℒ.slopes ℒ.own ℒ.seen ℒ.prod k0_pay19 (ix2 r j)
      = ((ℒ.block n).row (hd r) (qi r)).ex (((ℒ.block n).row (hd r) (qi r)).own j) := by
  pointwise [k0_pay22, top_apply n hn, ℒ.own_apply n]
  rfl
theorem exPrev_apply (n : Fin 16) (hn : ℒ.n = BitVec.ofNat 32 n.val) (r : Fin 512) (j : Fin 128) :
    k0_pay23 k0_pay4 ℒ.sinks ℒ.slopes ℒ.own ℒ.seen ℒ.prod k0_pay19 (ix2 r j)
      = ((ℒ.block n).row (hd r) (qi r)).ex (((ℒ.block n).row (hd r) (qi r)).prev j) := by
  pointwise [k0_pay23, top_apply n hn, prev_apply n hn]
  rfl
theorem exSink_apply (n : Fin 16) (hn : ℒ.n = BitVec.ofNat 32 n.val) (r : Fin 512) :
    ℒ.eSink (ix2 r 0) = ((ℒ.block n).row (hd r) (qi r)).ex (ℒ.s (hd r)) := by
  pointwise [eSink, k0_pay24, top_apply n hn, ℒ.sinks_apply]
  rfl
theorem recip_apply (n : Fin 16) (hn : ℒ.n = BitVec.ofNat 32 n.val) (r : Fin 512) :
    ℒ.recip (ix2 r 0) = Ideal.div 1 ((ℒ.block n).row (hd r) (qi r)).total := by
  pointwise [recip, k0_pay25, exOwn_apply n hn, exPrev_apply n hn]
  rw [show k0_pay24 k0_pay4 ℒ.sinks ℒ.slopes ℒ.own ℒ.seen ℒ.prod k0_pay19 (ix2 r 0) = _ from exSink_apply n hn r]
  rfl

theorem pOwn_apply (n : Fin 16) (hn : ℒ.n = BitVec.ofNat 32 n.val) (r : Fin 512) (j : Fin 128) :
    ℒ.pOwn (ix2 r j) = (ℒ.block n).pOwn (hd r) (qi r) j := by
  pointwise [pOwn, k0_pay26, exOwn_apply n hn]
  rw [show k0_pay25 k0_pay4 ℒ.sinks ℒ.slopes ℒ.own ℒ.seen ℒ.prod k0_pay19 (ix2 r 0) = _ from recip_apply n hn r]
  rfl
theorem pPrev_apply (n : Fin 16) (hn : ℒ.n = BitVec.ofNat 32 n.val) (r : Fin 512) (j : Fin 128) :
    ℒ.pPrev (ix2 r j) = (ℒ.block n).pPrev (hd r) (qi r) j := by
  pointwise [pPrev, k0_pay27, exPrev_apply n hn]
  rw [show k0_pay25 k0_pay4 ℒ.sinks ℒ.slopes ℒ.own ℒ.seen ℒ.prod k0_pay19 (ix2 r 0) = _ from recip_apply n hn r]
  rfl
theorem gOwn_apply (n : Fin 16) (r : Fin 512) (j : Fin 128) : ℒ.gOwn (ix2 r j) = (ℒ.block n).gOwn (hd r) (qi r) j := by
  pointwise [gOwn, k0_pay29, k0_pay28]
  rfl
theorem gPrev_apply (n : Fin 16) (r : Fin 512) (j : Fin 128) :
    k0_pay32 (k0_pay30 ℒ.o) (k0_pay31 ℒ.vp) (ix2 r j) = (ℒ.block n).gPrev (hd r) (qi r) j := by
  pointwise [k0_pay32, k0_pay30, k0_pay31, k0_pay28]
  rfl
theorem mean_apply (n : Fin 16) (hn : ℒ.n = BitVec.ofNat 32 n.val) (r : Fin 512) :
    k0_pay33 ℒ.pOwn ℒ.pPrev ℒ.gOwn (k0_pay30 ℒ.o) (k0_pay31 ℒ.vp) (ix2 r 0) = (ℒ.block n).mean (hd r) (qi r) := by
  pointwise [k0_pay33, pOwn_apply n hn, pPrev_apply n hn, gOwn_apply n, gPrev_apply n]
  rfl
theorem sOwn_apply (n : Fin 16) (hn : ℒ.n = BitVec.ofNat 32 n.val) (r : Fin 512) (j : Fin 128) :
    k0_pay34 ℒ.pOwn ℒ.pPrev ℒ.gOwn (k0_pay30 ℒ.o) (k0_pay31 ℒ.vp) (ix2 r j) = (ℒ.block n).sOwn (hd r) (qi r) j := by
  pointwise [k0_pay34, mean_apply n hn, pOwn_apply n hn, gOwn_apply n]
  rfl
theorem sPrev_apply (n : Fin 16) (hn : ℒ.n = BitVec.ofNat 32 n.val) (r : Fin 512) (j : Fin 128) :
    k0_pay35 ℒ.pOwn ℒ.pPrev ℒ.gOwn (k0_pay30 ℒ.o) (k0_pay31 ℒ.vp) (ix2 r j) = (ℒ.block n).sPrev (hd r) (qi r) j := by
  pointwise [k0_pay35, mean_apply n hn, pPrev_apply n hn, gPrev_apply n]
  rfl

/-! ## What the trip hands on and stores -/

theorem carry_apply (n : Fin 16) (hn : ℒ.n = BitVec.ofNat 32 n.val) (acc : FVec Ideal S512x1 .f32) (r : Fin 512) :
    ℒ.carry acc (ix2 r 0) = acc (ix2 r 0) + (ℒ.block n).dsink (hd r) (qi r) := by
  pointwise [carry, k0_pay44, mean_apply n hn, exSink_apply n hn, recip_apply n hn]
  rfl

theorem dq_apply (n : Fin 16) (hn : ℒ.n = BitVec.ofNat 32 n.val) (h : Fin 4) (i : Fin 128) (d : Fin 64) :
    ℒ.dq (ix3 h i d) = (ℒ.block n).dq h i d := by
  pointwise [dq, k0_pay36, k0_pay14, k0_pay15, sOwn_apply n hn, sPrev_apply n hn, eighth_eq]
  rw [show hd ⟨h.val * 128 + i.val, _⟩ = h from Fin.ext (by show (h.val * 128 + i.val) / 128 = h.val; omega),
    show qi ⟨h.val * 128 + i.val, _⟩ = i from Fin.ext (by show (h.val * 128 + i.val) % 128 = i.val; omega)]
  rfl

/-- The rows of a block are the queries of the four heads. -/
theorem sum_rows (f : Fin 4 → Fin 128 → EReal) : ∑ r, f (hd r) (qi r) = ∑ h, ∑ i, f h i := by
  rw [Fin.sum_univ_tiles 4 128 rfl]
  refine Finset.sum_congr rfl fun h _ => Finset.sum_congr rfl fun i _ => ?_
  congr 1
  · exact Fin.ext (by show (h.val * 128 + i.val) / 128 = h.val; omega)
  · exact Fin.ext (by show (h.val * 128 + i.val) % 128 = i.val; omega)

theorem dkOwn_apply (n : Fin 16) (hn : ℒ.n = BitVec.ofNat 32 n.val) (old : Vec Ideal S1x128x64 .f32) (j : Fin 128) (d : Fin 64) :
    ℒ.dkOwn old (ix3 0 j d) = old (ix3 0 j d) + (ℒ.block n).dkOwn j d := by
  pointwise [dkOwn, k0_pay37, k0_pay13, sOwn_apply n hn, eighth_eq]
  unfold Block.dkOwn
  rw [← sum_rows fun h i => (ℒ.block n).sOwn h i j * (ℒ.block n).q h i d]
  rfl
theorem dkPrev_apply (n : Fin 16) (hn : ℒ.n = BitVec.ofNat 32 n.val) (old : Vec Ideal S1x128x64 .f32) (j : Fin 128) (d : Fin 64) :
    ℒ.dkPrev old (ix3 0 j d) = old (ix3 0 j d) + (ℒ.block n).dkPrev j d := by
  pointwise [dkPrev, k0_pay41, k0_pay13, sPrev_apply n hn, eighth_eq]
  unfold Block.dkPrev
  rw [← sum_rows fun h i => (ℒ.block n).sPrev h i j * (ℒ.block n).q h i d]
  rfl
theorem dvOwn_apply (n : Fin 16) (hn : ℒ.n = BitVec.ofNat 32 n.val) (old : Vec Ideal S1x128x64 .f32) (j : Fin 128) (d : Fin 64) :
    ℒ.dvOwn old (ix3 0 j d) = old (ix3 0 j d) + (ℒ.block n).dvOwn j d := by
  pointwise [dvOwn, k0_pay42, k0_pay28, pOwn_apply n hn]
  unfold Block.dvOwn
  rw [← sum_rows fun h i => (ℒ.block n).pOwn h i j * (ℒ.block n).o h i d]
  rfl
theorem dvPrev_apply (n : Fin 16) (hn : ℒ.n = BitVec.ofNat 32 n.val) (old : Vec Ideal S1x128x64 .f32) (j : Fin 128) (d : Fin 64) :
    ℒ.dvPrev old (ix3 0 j d) = old (ix3 0 j d) + (ℒ.block n).dvPrev j d := by
  pointwise [dvPrev, k0_pay43, k0_pay28, pPrev_apply n hn]
  unfold Block.dvPrev
  rw [← sum_rows fun h i => (ℒ.block n).pPrev h i j * (ℒ.block n).o h i d]
  rfl

end Loads

end Cert.KernelIdeal.Attention

end
-- ==== Proof.Attention.Reads.lean ====
/-
  What a trip hands on and stores, as the block's terms of what it loads.
-/
module

public import proofs.«01_k».proof.Proof.Attention.Loop
public import proofs.«01_k».proof.Proof.Attention.Rows
public import proofs.«01_k».proof.Proof.Gen.KernelIdeal.Frame
public import Idealize.ShloMosaic.Lib.Pointwise

@[expose] public section

set_option maxRecDepth 16384
set_option maxHeartbeats 4000000

noncomputable section

namespace Cert.KernelIdeal.Attention

open Cert.KernelIdeal Cert.KernelIdeal.Gen
open Idealize.ShloMosaic Idealize.ShloMosaic.TcCoe Idealize.ShloMosaic.Tactic
open Idealize.SL.Sem

theorem inb5 (k : Fin k0_t1_loop.trips) : ∀ a, k0_off5 k a + ![4, 128, 64] a ≤ S4x2048x64.size a := by
  revert k; decide +kernel
theorem inb6 (k : Fin k0_t1_loop.trips) : ∀ a, k0_off6 k a + ![1, 128, 64] a ≤ S1x2048x64.size a := by
  revert k; decide +kernel
theorem inb7 (k : Fin k0_t1_loop.trips) : ∀ a, k0_off7 k a + ![1, 128, 64] a ≤ S1x2048x64.size a := by
  revert k; decide +kernel
theorem inb1 (i : grid0.Coords) : ∀ a, k0_off1 i a + ![1, 1] a ≤ S2x8.size a := by
  revert i; decide +kernel
theorem inb2 (i : grid0.Coords) (h : Fin 3) : ∀ a, k0_off2 i (BitVec.ofNat 32 h.val) a + ![1, 1] a ≤ S2x8.size a := by
  revert i h; decide +kernel
theorem inb3 (i : grid0.Coords) : ∀ a, k0_off3 i a + ![1, 1] a ≤ S2x8.size a := by
  revert i; decide +kernel
theorem inb4 (i : grid0.Coords) (h : Fin 3) : ∀ a, k0_off4 i (BitVec.ofNat 32 h.val) a + ![1, 1] a ≤ S2x8.size a := by
  revert i h; decide +kernel

/-- The rectangles of trip `k`: its block of the arrays of four heads, and its block and the one before of the others. -/
abbrev rect5 (k : Fin k0_t1_loop.trips) : Rect S4x2048x64 := Rect.unit (k0_off5 k) ![4, 128, 64] (inb5 k)
@[inherit_doc rect5] abbrev rect6 (k : Fin k0_t1_loop.trips) : Rect S1x2048x64 := Rect.unit (k0_off6 k) ![1, 128, 64] (inb6 k)
@[inherit_doc rect5] abbrev rect7 (k : Fin k0_t1_loop.trips) : Rect S1x2048x64 := Rect.unit (k0_off7 k) ![1, 128, 64] (inb7 k)

variable {F : FTy → Type} [FloatOps F] [Named F]

/-- What trip `k` loads. -/
def loads (i : grid0.Coords) (x1 : Vec F S4x2048x64 .f32) (x2 x3 : Vec F S1x2048x64 .f32) (x4 : Vec F S4x2048x64 .f32)
    (x5 : Vec F S2x8 .f32) (k : Fin k0_t1_loop.trips) : Loads F where
  n := Scf.iv 0#32 1#32 k.val
  q y := x1 ((rect5 k).idx y)
  o y := x4 ((rect5 k).idx y)
  kc y := x2 ((rect6 k).idx y)
  kp y := x2 ((rect7 k).idx y)
  vc y := x3 ((rect6 k).idx y)
  vp y := x3 ((rect7 k).idx y)
  s := ![x5 ((Rect.unit (s := S2x8) (k0_off2 i 0#32) ![1, 1] (inb2 i 0)).idx (Shape.Idx.first Nat.one_pos)),
    x5 ((Rect.unit (s := S2x8) (k0_off2 i 1#32) ![1, 1] (inb2 i 1)).idx (Shape.Idx.first Nat.one_pos)),
    x5 ((Rect.unit (s := S2x8) (k0_off2 i 2#32) ![1, 1] (inb2 i 2)).idx (Shape.Idx.first Nat.one_pos)),
    x5 ((Rect.unit (s := S2x8) (k0_off1 i) ![1, 1] (inb1 i)).idx (Shape.Idx.first Nat.one_pos))]
  l := ![x5 ((Rect.unit (s := S2x8) (k0_off4 i 0#32) ![1, 1] (inb4 i 0)).idx (Shape.Idx.first Nat.one_pos)),
    x5 ((Rect.unit (s := S2x8) (k0_off4 i 1#32) ![1, 1] (inb4 i 1)).idx (Shape.Idx.first Nat.one_pos)),
    x5 ((Rect.unit (s := S2x8) (k0_off4 i 2#32) ![1, 1] (inb4 i 2)).idx (Shape.Idx.first Nat.one_pos)),
    x5 ((Rect.unit (s := S2x8) (k0_off3 i) ![1, 1] (inb3 i)).idx (Shape.Idx.first Nat.one_pos))]

section Trips
variable (𝒱 : Variants) (c : Dev nD) (bd : Option 𝒱.V) (i : grid0.Coords)
  (arg1 : Memref sig .tc .vmem S4x2048x64 .f32) (harg1 : arg1.IsWhole)
  (arg2 : Memref sig .tc .vmem S1x2048x64 .f32) (harg2 : arg2.IsWhole)
  (arg3 : Memref sig .tc .vmem S1x2048x64 .f32) (harg3 : arg3.IsWhole)
  (arg4 : Memref sig .tc .vmem S4x2048x64 .f32) (harg4 : arg4.IsWhole)
  (arg5 : Memref sig .tc .smem S2x8 .f32) (harg5 : arg5.IsWhole)
  (arg6 : Memref sig .tc .vmem S4x2048x64 .bf16) (harg6 : arg6.IsWhole)
  (arg7 : Memref sig .tc .vmem S1x2048x64 .f32) (harg7 : arg7.IsWhole)
  (arg8 : Memref sig .tc .vmem S1x2048x64 .f32) (harg8 : arg8.IsWhole)
  (arg9 : Memref sig .tc .vmem S4x8x128 .f32) (harg9 : arg9.IsWhole) (arg0 : BitVec 32)
  (x1 : Vec F S4x2048x64 .f32) (x2 x3 : Vec F S1x2048x64 .f32) (x4 : Vec F S4x2048x64 .f32) (x5 : Vec F S2x8 .f32)
  (k : Fin k0_t1_loop.trips) (acc : FVec F S512x1 .f32)
  (f7 : BufTy.Contents (Elt F) arg7.view.ty) (f8 : BufTy.Contents (Elt F) arg8.view.ty)

/-- What a trip stores in the keys' gradient, from what it finds there: its own block, then the block before. -/
def stores7 (ℒ : Loads F) : List (View.Piece (Elt F) S1x2048x64 .f32) :=
  let own : List (View.Piece (Elt F) S1x2048x64 .f32) := [⟨rect6 k, ℒ.dkOwn fun y => arg7.view.read (Elt F) f7 ((rect6 k).idx y)⟩]
  ⟨rect7 k, ℒ.dkPrev fun y => arg7.view.read (Elt F) (arg7.view.writes (Elt F) f7 own) ((rect7 k).idx y)⟩ :: own
/-- The same of the values' gradient. -/
def stores8 (ℒ : Loads F) : List (View.Piece (Elt F) S1x2048x64 .f32) :=
  let own : List (View.Piece (Elt F) S1x2048x64 .f32) := [⟨rect6 k, ℒ.dvOwn fun y => arg8.view.read (Elt F) f8 ((rect6 k).idx y)⟩]
  ⟨rect7 k, ℒ.dvPrev fun y => arg8.view.read (Elt F) (arg8.view.writes (Elt F) f8 own) ((rect7 k).idx y)⟩ :: own

theorem tripLater_1 (hk0 : 0 < k.val) :
    (tripLater (F := F) 𝒱 c bd i arg1 harg1 arg2 harg2 arg3 harg3 arg4 harg4 arg5 harg5 arg6 harg6 arg7 harg7
      arg8 harg8 arg9 harg9 arg0 (harg1.unread x1) (harg2.unread x2) (harg3.unread x3) (harg4.unread x4) (harg5.unread x5) k hk0).1 acc f7 f8
      = (loads i x1 x2 x3 x4 x5 k).carry acc := by
  unfold tripLater
  dsimp only
  sl_unfold_words
  simp only [View.readAt_eq_ld, harg1.read_unread, harg2.read_unread, harg3.read_unread, harg4.read_unread, harg5.read_unread]
  rfl

theorem tripLater_2 (hk0 : 0 < k.val) :
    (tripLater (F := F) 𝒱 c bd i arg1 harg1 arg2 harg2 arg3 harg3 arg4 harg4 arg5 harg5 arg6 harg6 arg7 harg7
      arg8 harg8 arg9 harg9 arg0 (harg1.unread x1) (harg2.unread x2) (harg3.unread x3) (harg4.unread x4) (harg5.unread x5) k hk0).2.1 acc f7 f8
      = [⟨rect5 k, (loads i x1 x2 x3 x4 x5 k).dq⟩] := by
  unfold tripLater
  dsimp only
  sl_unfold_words
  simp only [View.readAt_eq_ld, harg1.read_unread, harg2.read_unread, harg3.read_unread, harg4.read_unread, harg5.read_unread]
  rfl

theorem tripLater_3 (hk0 : 0 < k.val) :
    (tripLater (F := F) 𝒱 c bd i arg1 harg1 arg2 harg2 arg3 harg3 arg4 harg4 arg5 harg5 arg6 harg6 arg7 harg7
      arg8 harg8 arg9 harg9 arg0 (harg1.unread x1) (harg2.unread x2) (harg3.unread x3) (harg4.unread x4) (harg5.unread x5) k hk0).2.2.1 acc f7 f8
      = stores7 arg7 k f7 (loads i x1 x2 x3 x4 x5 k) := by
  unfold tripLater
  dsimp only
  sl_unfold_words
  simp only [View.readAt_eq_ld, harg1.read_unread, harg2.read_unread, harg3.read_unread, harg4.read_unread, harg5.read_unread]
  rfl

theorem tripLater_4 (hk0 : 0 < k.val) :
    (tripLater (F := F) 𝒱 c bd i arg1 harg1 arg2 harg2 arg3 harg3 arg4 harg4 arg5 harg5 arg6 harg6 arg7 harg7
      arg8 harg8 arg9 harg9 arg0 (harg1.unread x1) (harg2.unread x2) (harg3.unread x3) (harg4.unread x4) (harg5.unread x5) k hk0).2.2.2.1 acc f7 f8
      = stores8 arg8 k f8 (loads i x1 x2 x3 x4 x5 k) := by
  unfold tripLater
  dsimp only
  sl_unfold_words
  simp only [View.readAt_eq_ld, harg1.read_unread, harg2.read_unread, harg3.read_unread, harg4.read_unread, harg5.read_unread]
  rfl

theorem tripFirst_1 (hk0 : k.val = 0) :
    (tripFirst (F := F) 𝒱 c bd i arg1 harg1 arg2 harg2 arg3 harg3 arg4 harg4 arg5 harg5 arg6 harg6 arg7 harg7
      arg8 harg8 arg9 harg9 arg0 (harg1.unread x1) (harg2.unread x2) (harg3.unread x3) (harg4.unread x4) (harg5.unread x5) k hk0).1 acc f7 f8
      = (loads i x1 x2 x3 x4 x5 k).carry acc := by
  unfold tripFirst
  dsimp only
  sl_unfold_words
  simp only [View.readAt_eq_ld, harg1.read_unread, harg2.read_unread, harg3.read_unread, harg4.read_unread, harg5.read_unread]
  rfl

theorem tripFirst_2 (hk0 : k.val = 0) :
    (tripFirst (F := F) 𝒱 c bd i arg1 harg1 arg2 harg2 arg3 harg3 arg4 harg4 arg5 harg5 arg6 harg6 arg7 harg7
      arg8 harg8 arg9 harg9 arg0 (harg1.unread x1) (harg2.unread x2) (harg3.unread x3) (harg4.unread x4) (harg5.unread x5) k hk0).2.1 acc f7 f8
      = [⟨rect5 k, (loads i x1 x2 x3 x4 x5 k).dq⟩] := by
  unfold tripFirst
  dsimp only
  sl_unfold_words
  simp only [View.readAt_eq_ld, harg1.read_unread, harg2.read_unread, harg3.read_unread, harg4.read_unread, harg5.read_unread]
  rfl

theorem tripFirst_3 (hk0 : k.val = 0) :
    (tripFirst (F := F) 𝒱 c bd i arg1 harg1 arg2 harg2 arg3 harg3 arg4 harg4 arg5 harg5 arg6 harg6 arg7 harg7
      arg8 harg8 arg9 harg9 arg0 (harg1.unread x1) (harg2.unread x2) (harg3.unread x3) (harg4.unread x4) (harg5.unread x5) k hk0).2.2.1 acc f7 f8
      = stores7 arg7 k f7 (loads i x1 x2 x3 x4 x5 k) := by
  unfold tripFirst
  dsimp only
  sl_unfold_words
  simp only [View.readAt_eq_ld, harg1.read_unread, harg2.read_unread, harg3.read_unread, harg4.read_unread, harg5.read_unread]
  rfl

theorem tripFirst_4 (hk0 : k.val = 0) :
    (tripFirst (F := F) 𝒱 c bd i arg1 harg1 arg2 harg2 arg3 harg3 arg4 harg4 arg5 harg5 arg6 harg6 arg7 harg7
      arg8 harg8 arg9 harg9 arg0 (harg1.unread x1) (harg2.unread x2) (harg3.unread x3) (harg4.unread x4) (harg5.unread x5) k hk0).2.2.2.1 acc f7 f8
      = stores8 arg8 k f8 (loads i x1 x2 x3 x4 x5 k) := by
  unfold tripFirst
  dsimp only
  sl_unfold_words
  simp only [View.readAt_eq_ld, harg1.read_unread, harg2.read_unread, harg3.read_unread, harg4.read_unread, harg5.read_unread]
  rfl

end Trips

end Cert.KernelIdeal.Attention

end
-- ==== Proof.Attention.Whole.lean ====
/-
  The attention gradient of the whole sequence: its sixteen blocks, and the four results in terms of them.
-/
module

public import proofs.«01_k».proof.Proof.Attention.Model

@[expose] public section

noncomputable section

namespace Cert.Attn

open Idealize.ShloMosaic

/-- Position `t` of block `j`. -/
abbrev pos (j : Fin 16) (t : Fin 128) : Fin 2048 := ⟨128 * j.val + t.val, by omega⟩
/-- Head `h` of the group `g` that shares its keys. -/
abbrev head (g : Fin 2) (h : Fin 4) : Fin 8 := ⟨4 * g.val + h.val, by omega⟩
/-- Column `d` of a head among all columns, and of a group's keys among all of theirs. -/
abbrev colq (r : Fin 8) (d : Fin 64) : Fin 512 := ⟨r.val * 64 + d.val, by omega⟩
@[inherit_doc colq] abbrev colk (g : Fin 2) (d : Fin 64) : Fin 128 := ⟨g.val * 64 + d.val, by omega⟩
/-- The block before block `n`; before the first, the first. -/
abbrev before (n : Fin 16) : Fin 16 := ⟨n.val - 1, by omega⟩

theorem exists_pos (s : Fin 2048) : ∃ j t, s = pos j t := ⟨⟨s.val / 128, by omega⟩, ⟨s.val % 128, by omega⟩, Fin.ext (by show s.val = 128 * (s.val / 128) + s.val % 128; omega)⟩
theorem exists_head (r : Fin 8) : ∃ g h, r = head g h := ⟨⟨r.val / 4, by omega⟩, ⟨r.val % 4, by omega⟩, Fin.ext (by show r.val = 4 * (r.val / 4) + r.val % 4; omega)⟩

/-- The slope of head `r`. -/
def headSlope (r : Fin 8) : EReal := (((1 / 2) ^ (r.val + 1) : ℝ) : EReal)
theorem slope_word (r : Fin 8) : Ideal.ofBits .f32 (BitVec.ofNat 32 (0x3F000000 - r.val * 0x800000)) = headSlope r := by
  fin_cases r <;> simp [headSlope, Ideal.ofBits, Ideal.ieee, -EReal.coe_mul] <;> norm_num

/-- The arguments: queries, keys, values, sinks and the result's cotangent. -/
structure Args where
  q : Fin 2048 → Fin 512 → EReal
  k : Fin 2048 → Fin 128 → EReal
  v : Fin 2048 → Fin 128 → EReal
  sink : Fin 8 → EReal
  o : Fin 2048 → Fin 512 → EReal

/-- What the blocks leave together for the keys of block `j`: its own queries' part and the following block's. -/
def dkAll (B : Fin 16 → Block) (j : Fin 16) (t : Fin 128) (d : Fin 64) : EReal :=
  ∑ n : Fin 16, ((if j.val = n.val then (B n).dkOwn t d else 0) + if j.val = n.val - 1 then (B n).dkPrev t d else 0)
@[inherit_doc dkAll] def dvAll (B : Fin 16 → Block) (j : Fin 16) (t : Fin 128) (d : Fin 64) : EReal :=
  ∑ n : Fin 16, ((if j.val = n.val then (B n).dvOwn t d else 0) + if j.val = n.val - 1 then (B n).dvPrev t d else 0)

/-- Two terms of such a sum, where the first block's second term is zero. -/
theorem sum_two (f g : Fin 16 → EReal) (h0 : g 0 = 0) (j : Fin 16) :
    ∑ n : Fin 16, ((if j.val = n.val then f n else 0) + if j.val = n.val - 1 then g n else 0)
      = f j + if h : j.val + 1 < 16 then g ⟨j.val + 1, h⟩ else 0 := by
  rw [Finset.sum_add_distrib]
  congr 1
  · rw [Finset.sum_eq_single j (fun n _ hn => if_neg fun h => hn (Fin.ext h.symm)) (fun h => absurd (Finset.mem_univ _) h), if_pos rfl]
  · have hz (n : Fin 16) (hn : n.val ≠ j.val + 1) : (if j.val = n.val - 1 then g n else 0) = 0 := by
      by_cases h : j.val = n.val - 1
      · obtain rfl : n = 0 := Fin.ext (by show n.val = 0; omega)
        rw [h0, ite_self]
      · exact if_neg h
    by_cases h : j.val + 1 < 16
    · rw [dif_pos h, Finset.sum_eq_single ⟨j.val + 1, h⟩ (fun n _ hn => hz n fun e => hn (Fin.ext e)) (fun h => absurd (Finset.mem_univ _) h)]
      exact if_pos (by simp)
    · rw [dif_neg h]
      exact Finset.sum_eq_zero fun n _ => hz n (by omega)

theorem dkAll_eq (B : Fin 16 → Block) (h0 : (B 0).n = 0) (j : Fin 16) (t : Fin 128) (d : Fin 64) :
    dkAll B j t d = (B j).dkOwn t d + if h : j.val + 1 < 16 then (B ⟨j.val + 1, h⟩).dkPrev t d else 0 :=
  sum_two (fun n => (B n).dkOwn t d) (fun n => (B n).dkPrev t d) ((B 0).dkPrev_first h0 t d) j
theorem dvAll_eq (B : Fin 16 → Block) (h0 : (B 0).n = 0) (j : Fin 16) (t : Fin 128) (d : Fin 64) :
    dvAll B j t d = (B j).dvOwn t d + if h : j.val + 1 < 16 then (B ⟨j.val + 1, h⟩).dvPrev t d else 0 :=
  sum_two (fun n => (B n).dvOwn t d) (fun n => (B n).dvPrev t d) ((B 0).dvPrev_first h0 t d) j

namespace Args
variable (A : Args)

/-- Block `n` of group `g`. -/
def block (g : Fin 2) (n : Fin 16) : Block where
  n := n.val
  q h i d := A.q (pos n i) (colq (head g h) d)
  o h i d := A.o (pos n i) (colq (head g h) d)
  kc j d := A.k (pos n j) (colk g d)
  kp j d := A.k (pos (before n) j) (colk g d)
  vc j d := A.v (pos n j) (colk g d)
  vp j d := A.v (pos (before n) j) (colk g d)
  sink h := A.sink (head g h)
  slope h := headSlope (head g h)

/-- The four results at an index: the cotangents of queries, keys, values and sinks. -/
def dq (r : Fin 8) (s : Fin 2048) (d : Fin 64) : EReal :=
  (A.block ⟨r.val / 4, by omega⟩ ⟨s.val / 128, by omega⟩).dq ⟨r.val % 4, by omega⟩ ⟨s.val % 128, by omega⟩ d
@[inherit_doc dq] def dk (g : Fin 2) (s : Fin 2048) (d : Fin 64) : EReal := dkAll (A.block g) ⟨s.val / 128, by omega⟩ ⟨s.val % 128, by omega⟩ d
@[inherit_doc dq] def dv (g : Fin 2) (s : Fin 2048) (d : Fin 64) : EReal := dvAll (A.block g) ⟨s.val / 128, by omega⟩ ⟨s.val % 128, by omega⟩ d
@[inherit_doc dq] def ds (r : Fin 8) : EReal := ∑ t, ∑ n, (A.block ⟨r.val / 4, by omega⟩ n).dsink ⟨r.val % 4, by omega⟩ t

theorem head_div (g : Fin 2) (h : Fin 4) (p) : (⟨(head g h).val / 4, p⟩ : Fin 2) = g := Fin.ext (by show (4 * g.val + h.val) / 4 = g.val; omega)
theorem head_mod (g : Fin 2) (h : Fin 4) (p) : (⟨(head g h).val % 4, p⟩ : Fin 4) = h := Fin.ext (by show (4 * g.val + h.val) % 4 = h.val; omega)
theorem pos_div (j : Fin 16) (t : Fin 128) (p) : (⟨(pos j t).val / 128, p⟩ : Fin 16) = j := Fin.ext (by show (128 * j.val + t.val) / 128 = j.val; omega)
theorem pos_mod (j : Fin 16) (t : Fin 128) (p) : (⟨(pos j t).val % 128, p⟩ : Fin 128) = t := Fin.ext (by show (128 * j.val + t.val) % 128 = t.val; omega)

theorem dq_at (g : Fin 2) (h : Fin 4) (j : Fin 16) (t : Fin 128) (d : Fin 64) : A.dq (head g h) (pos j t) d = (A.block g j).dq h t d := by
  unfold dq; rw [head_div, head_mod, pos_div, pos_mod]
theorem dk_at (g : Fin 2) (j : Fin 16) (t : Fin 128) (d : Fin 64) : A.dk g (pos j t) d = dkAll (A.block g) j t d := by
  unfold dk; rw [pos_div, pos_mod]
theorem dv_at (g : Fin 2) (j : Fin 16) (t : Fin 128) (d : Fin 64) : A.dv g (pos j t) d = dvAll (A.block g) j t d := by
  unfold dv; rw [pos_div, pos_mod]
theorem ds_at (g : Fin 2) (h : Fin 4) : A.ds (head g h) = ∑ t, ∑ n, (A.block g n).dsink h t := by
  refine Finset.sum_congr rfl fun t _ => Finset.sum_congr rfl fun n _ => ?_
  rw [head_div, head_mod]

end Args

end Cert.Attn

end
-- ==== Proof.Attention.State.lean ====
/-
  What the loop has done before each trip: the sums in the two arrays it adds into, the queries' blocks, and the value
  it hands on.
-/
module

public import proofs.«01_k».proof.Proof.Attention.Reads
public import proofs.«01_k».proof.Proof.Attention.Whole
public import Idealize.ShloMosaic.Lib.Pointwise
public import Idealize.ShloMosaic.Lib.WritesUnit
public import Idealize.ShloMosaic.Lib.Pipeline.ValueKit.Tiles

@[expose] public section

set_option maxRecDepth 16384
set_option maxHeartbeats 4000000

noncomputable section

namespace Cert.KernelIdeal.Attention

open Cert.KernelIdeal Cert.KernelIdeal.Gen Cert.Attn
open Idealize.ShloMosaic Idealize.ShloMosaic.TcCoe Idealize.ShloMosaic.Tactic
open Idealize.SL.Sem

theorem off5_eq : ∀ k : Fin k0_t1_loop.trips, k0_off5 k = ![0, 128 * k.val, 0] := by decide +kernel
theorem off6_eq : ∀ k : Fin k0_t1_loop.trips, k0_off6 k = ![0, 128 * k.val, 0] := by decide +kernel

section Pieces
variable {sp : Space} {e : EltTy} {Val : EltTy → Type}

/-- A piece that is one block of 128 positions, read back. -/
theorem read_block (v : View sig .tc sp S1x2048x64 e) (f : v.ty.Contents Val) (b : ℕ) {off : Fin 3 → ℕ}
    (inb : ∀ a, off a + ![1, 128, 64] a ≤ S1x2048x64.size a) (hoff : off = ![0, 128 * b, 0])
    (w : S1x128x64.Idx → Val e) (L : List (View.Piece Val S1x2048x64 e)) (j : Fin 16) (t : Fin 128) (d : Fin 64) :
    v.read Val (v.writes Val f ((⟨Rect.unit (s := S1x2048x64) off ![1, 128, 64] inb, w⟩ : View.Piece Val S1x2048x64 e) :: L)) (ix3 0 (pos j t) d)
      = if j.val = b then w (ix3 0 t d) else v.read Val (v.writes Val f L) (ix3 0 (pos j t) d) := by
  split_ifs with h
  · refine View.read_writes_cons_unit_of_mem v f inb w L _ (ix3 0 t d) hoff fun a => ?_
    fin_cases a
    · rfl
    · show 128 * j.val + t.val = 128 * b + t.val; rw [h]
    · show d.val = 0 + d.val; omega
  · refine View.read_writes_cons_unit_of_not_mem v f inb w L _ hoff (1 : Fin 3) ?_
    show 128 * j.val + t.val < 128 * b ∨ 128 * b + 128 ≤ 128 * j.val + t.val
    omega

/-- The same of the arrays of four heads. -/
theorem read_block4 (v : View sig .tc sp S4x2048x64 e) (f : v.ty.Contents Val) (b : ℕ) {off : Fin 3 → ℕ}
    (inb : ∀ a, off a + ![4, 128, 64] a ≤ S4x2048x64.size a) (hoff : off = ![0, 128 * b, 0])
    (w : S4x128x64.Idx → Val e) (L : List (View.Piece Val S4x2048x64 e)) (h : Fin 4) (j : Fin 16) (t : Fin 128) (d : Fin 64) :
    v.read Val (v.writes Val f ((⟨Rect.unit (s := S4x2048x64) off ![4, 128, 64] inb, w⟩ : View.Piece Val S4x2048x64 e) :: L)) (ix3 h (pos j t) d)
      = if j.val = b then w (ix3 h t d) else v.read Val (v.writes Val f L) (ix3 h (pos j t) d) := by
  split_ifs with hj
  · refine View.read_writes_cons_unit_of_mem v f inb w L _ (ix3 h t d) hoff fun a => ?_
    fin_cases a
    · show h.val = 0 + h.val; omega
    · show 128 * j.val + t.val = 128 * b + t.val; rw [hj]
    · show d.val = 0 + d.val; omega
  · refine View.read_writes_cons_unit_of_not_mem v f inb w L _ hoff (1 : Fin 3) ?_
    show 128 * j.val + t.val < 128 * b ∨ 128 * b + 128 ≤ 128 * j.val + t.val
    omega

theorem idx_block (b : Fin 16) {off : Fin 3 → ℕ} (inb : ∀ a, off a + ![1, 128, 64] a ≤ S1x2048x64.size a)
    (hoff : off = ![0, 128 * b.val, 0]) (t : Fin 128) (d : Fin 64) :
    (Rect.unit (s := S1x2048x64) off ![1, 128, 64] inb).idx (ix3 0 t d) = ix3 0 (pos b t) d := by
  subst hoff
  funext a
  refine Fin.ext ?_
  rw [Rect.idx_unit_val]
  fin_cases a
  · rfl
  · rfl
  · show 0 + d.val = d.val; omega

theorem idx_block4 (b : Fin 16) {off : Fin 3 → ℕ} (inb : ∀ a, off a + ![4, 128, 64] a ≤ S4x2048x64.size a)
    (hoff : off = ![0, 128 * b.val, 0]) (h : Fin 4) (t : Fin 128) (d : Fin 64) :
    (Rect.unit (s := S4x2048x64) off ![4, 128, 64] inb).idx (ix3 h t d) = ix3 h (pos b t) d := by
  subst hoff
  funext a
  refine Fin.ext ?_
  rw [Rect.idx_unit_val]
  fin_cases a
  · show 0 + h.val = h.val; omega
  · rfl
  · show 0 + d.val = d.val; omega

end Pieces

/-- The trips are the sixteen blocks. -/
abbrev bk (k : Fin k0_t1_loop.trips) : Fin 16 := ⟨k.val, Nat.lt_of_lt_of_le k.isLt k0_t1_abs.2.1⟩
abbrev tr (n : Fin 16) : Fin k0_t1_loop.trips := ⟨n.val, by have := n.isLt; exact this⟩

/-- What trip `k` leaves in the keys' gradient: its own block's addition and the one of the block before. -/
theorem read_stores7 (arg7 : Memref sig .tc .vmem S1x2048x64 .f32) (k : Fin k0_t1_loop.trips) (f : BufTy.Contents (Elt Ideal) arg7.view.ty)
    (ℒ : Loads Ideal) (hn : ℒ.n = BitVec.ofNat 32 (bk k).val) (j : Fin 16) (t : Fin 128) (d : Fin 64) :
    (arg7.view.read (Elt Ideal) (arg7.view.writes (Elt Ideal) f (stores7 arg7 k f ℒ)) (ix3 0 (pos j t) d) : EReal)
      = (arg7.view.read (Elt Ideal) f (ix3 0 (pos j t) d) + if j.val = k.val then (ℒ.block (bk k)).dkOwn t d else 0)
        + if j.val = k.val - 1 then (ℒ.block (bk k)).dkPrev t d else 0 := by
  unfold stores7
  have h1 (j : Fin 16) (t : Fin 128) (w : S1x128x64.Idx → EReal)
      (hw : w (ix3 0 t d) = (arg7.view.read (Elt Ideal) f (ix3 0 (pos (bk k) t) d) + (ℒ.block (bk k)).dkOwn t d : EReal)) :
      (arg7.view.read (Elt Ideal) (arg7.view.writes (Elt Ideal) f [⟨rect6 k, w⟩]) (ix3 0 (pos j t) d) : EReal)
        = arg7.view.read (Elt Ideal) f (ix3 0 (pos j t) d) + if j.val = k.val then (ℒ.block (bk k)).dkOwn t d else 0 := by
    rw [read_block _ _ k.val _ (off6_eq k)]
    split_ifs with h
    · obtain rfl : j = bk k := Fin.ext h
      exact hw
    · rw [add_zero]; rfl
  have h2 (t : Fin 128) : (ℒ.dkOwn fun y => arg7.view.read (Elt Ideal) f ((rect6 k).idx y)) (ix3 0 t d)
      = (arg7.view.read (Elt Ideal) f (ix3 0 (pos (bk k) t) d) + (ℒ.block (bk k)).dkOwn t d : EReal) := by
    rw [ℒ.dkOwn_apply (bk k) hn, idx_block (bk k) _ (off6_eq k)]
  rw [read_block _ _ (k.val - 1) _ (k0_off7_eq k)]
  by_cases h : j.val = k.val - 1
  · rw [if_pos h, if_pos h, ℒ.dkPrev_apply (bk k) hn, idx_block j _ (by rw [k0_off7_eq, h]), h1 j t _ (h2 t)]
  · rw [if_neg h, if_neg h, add_zero, h1 j t _ (h2 t)]

/-- What trip `k` leaves in the values' gradient: its own block's addition and the one of the block before. -/
theorem read_stores8 (arg8 : Memref sig .tc .vmem S1x2048x64 .f32) (k : Fin k0_t1_loop.trips) (f : BufTy.Contents (Elt Ideal) arg8.view.ty)
    (ℒ : Loads Ideal) (hn : ℒ.n = BitVec.ofNat 32 (bk k).val) (j : Fin 16) (t : Fin 128) (d : Fin 64) :
    (arg8.view.read (Elt Ideal) (arg8.view.writes (Elt Ideal) f (stores8 arg8 k f ℒ)) (ix3 0 (pos j t) d) : EReal)
      = (arg8.view.read (Elt Ideal) f (ix3 0 (pos j t) d) + if j.val = k.val then (ℒ.block (bk k)).dvOwn t d else 0)
        + if j.val = k.val - 1 then (ℒ.block (bk k)).dvPrev t d else 0 := by
  unfold stores8
  have h1 (j : Fin 16) (t : Fin 128) (w : S1x128x64.Idx → EReal)
      (hw : w (ix3 0 t d) = (arg8.view.read (Elt Ideal) f (ix3 0 (pos (bk k) t) d) + (ℒ.block (bk k)).dvOwn t d : EReal)) :
      (arg8.view.read (Elt Ideal) (arg8.view.writes (Elt Ideal) f [⟨rect6 k, w⟩]) (ix3 0 (pos j t) d) : EReal)
        = arg8.view.read (Elt Ideal) f (ix3 0 (pos j t) d) + if j.val = k.val then (ℒ.block (bk k)).dvOwn t d else 0 := by
    rw [read_block _ _ k.val _ (off6_eq k)]
    split_ifs with h
    · obtain rfl : j = bk k := Fin.ext h
      exact hw
    · rw [add_zero]; rfl
  have h2 (t : Fin 128) : (ℒ.dvOwn fun y => arg8.view.read (Elt Ideal) f ((rect6 k).idx y)) (ix3 0 t d)
      = (arg8.view.read (Elt Ideal) f (ix3 0 (pos (bk k) t) d) + (ℒ.block (bk k)).dvOwn t d : EReal) := by
    rw [ℒ.dvOwn_apply (bk k) hn, idx_block (bk k) _ (off6_eq k)]
  rw [read_block _ _ (k.val - 1) _ (k0_off7_eq k)]
  by_cases h : j.val = k.val - 1
  · rw [if_pos h, if_pos h, ℒ.dvPrev_apply (bk k) hn, idx_block j _ (by rw [k0_off7_eq, h]), h1 j t _ (h2 t)]
  · rw [if_neg h, if_neg h, add_zero, h1 j t _ (h2 t)]

/-- The trip's number as the kernel counts it. -/
theorem loads_n (i : grid0.Coords) (x1 : Vec Ideal S4x2048x64 .f32) (x2 x3 : Vec Ideal S1x2048x64 .f32) (x4 : Vec Ideal S4x2048x64 .f32)
    (x5 : Vec Ideal S2x8 .f32) (k : Fin k0_t1_loop.trips) : (loads i x1 x2 x3 x4 x5 k).n = BitVec.ofNat 32 (bk k).val := by
  show Scf.iv 0#32 1#32 k.val = BitVec.ofNat 32 k.val
  revert k; decide +kernel

/-- Block `n`, of what the kernel is given. -/
def blockOf (i : grid0.Coords) (x1 : Vec Ideal S4x2048x64 .f32) (x2 x3 : Vec Ideal S1x2048x64 .f32) (x4 : Vec Ideal S4x2048x64 .f32)
    (x5 : Vec Ideal S2x8 .f32) (n : Fin 16) : Block := (loads i x1 x2 x3 x4 x5 (tr n)).block n

/-- The sum of the blocks before trip `k`. -/
abbrev upto (k : ℕ) (f : Fin 16 → EReal) : EReal := ∑ n : Fin 16, if n.val < k then f n else 0

theorem upto_zero (f : Fin 16 → EReal) : upto 0 f = 0 := Finset.sum_eq_zero fun n _ => if_neg (by omega)
theorem upto_succ (n : Fin 16) (f : Fin 16 → EReal) : upto (n.val + 1) f = upto n.val f + f n := by
  unfold upto
  rw [show f n = ∑ i : Fin 16, if i = n then f i else 0 by simp, ← Finset.sum_add_distrib]
  refine Finset.sum_congr rfl fun i _ => ?_
  by_cases h : i = n
  · subst h; simp
  · have : i.val ≠ n.val := fun hh => h (Fin.ext hh)
    by_cases h' : i.val < n.val
    · rw [if_pos (by omega), if_pos h', if_neg h, add_zero]
    · rw [if_neg (by omega), if_neg h', if_neg h, add_zero]
theorem upto_all (f : Fin 16 → EReal) : upto 16 f = ∑ n, f n := Finset.sum_congr rfl fun n _ => if_pos n.isLt

section States
variable (𝒱 : Variants) (c : Dev nD) (bd : Option 𝒱.V) (i : grid0.Coords)
  (arg1 : Memref sig .tc .vmem S4x2048x64 .f32) (harg1 : arg1.IsWhole)
  (arg2 : Memref sig .tc .vmem S1x2048x64 .f32) (harg2 : arg2.IsWhole)
  (arg3 : Memref sig .tc .vmem S1x2048x64 .f32) (harg3 : arg3.IsWhole)
  (arg4 : Memref sig .tc .vmem S4x2048x64 .f32) (harg4 : arg4.IsWhole)
  (arg5 : Memref sig .tc .smem S2x8 .f32) (harg5 : arg5.IsWhole)
  (arg6 : Memref sig .tc .vmem S4x2048x64 .bf16) (harg6 : arg6.IsWhole)
  (arg7 : Memref sig .tc .vmem S1x2048x64 .f32) (harg7 : arg7.IsWhole)
  (arg8 : Memref sig .tc .vmem S1x2048x64 .f32) (harg8 : arg8.IsWhole)
  (arg9 : Memref sig .tc .vmem S4x8x128 .f32) (harg9 : arg9.IsWhole) (arg0 : BitVec 32)
  (x1 : Vec Ideal S4x2048x64 .f32) (x2 x3 : Vec Ideal S1x2048x64 .f32) (x4 : Vec Ideal S4x2048x64 .f32) (x5 : Vec Ideal S2x8 .f32)
  (G7 : BufTy.Contents (Elt Ideal) arg7.view.ty) (G8 : BufTy.Contents (Elt Ideal) arg8.view.ty) (init : FVec Ideal S512x1 .f32)

/-- One trip more: the value handed on, and the pieces the trip adds. -/
theorem next_eq (k : Fin k0_t1_loop.trips) (s : State Ideal) :
    next (F := Ideal) 𝒱 c bd i arg1 harg1 arg2 harg2 arg3 harg3 arg4 harg4 arg5 harg5 arg6 harg6 arg7 harg7
      arg8 harg8 arg9 harg9 arg0 (harg1.unread x1) (harg2.unread x2) (harg3.unread x3) (harg4.unread x4) (harg5.unread x5) G7 G8 k s
      = ((loads i x1 x2 x3 x4 x5 k).carry s.1, [⟨rect5 k, (loads i x1 x2 x3 x4 x5 k).dq⟩] ++ s.2.1,
        stores7 arg7 k (arg7.view.writes (Elt Ideal) G7 s.2.2.1) (loads i x1 x2 x3 x4 x5 k) ++ s.2.2.1,
        stores8 arg8 k (arg8.view.writes (Elt Ideal) G8 s.2.2.2) (loads i x1 x2 x3 x4 x5 k) ++ s.2.2.2) := by
  unfold next
  dsimp only
  by_cases h : k.val = 0
  · have hT : trip (F := Ideal) 𝒱 c bd i arg1 harg1 arg2 harg2 arg3 harg3 arg4 harg4 arg5 harg5 arg6 harg6 arg7 harg7
      arg8 harg8 arg9 harg9 arg0 (harg1.unread x1) (harg2.unread x2) (harg3.unread x3) (harg4.unread x4) (harg5.unread x5) k = tripFirst 𝒱 c bd i arg1 harg1 arg2 harg2 arg3 harg3 arg4 harg4 arg5 harg5 arg6 harg6 arg7 harg7
      arg8 harg8 arg9 harg9 arg0 (harg1.unread x1) (harg2.unread x2) (harg3.unread x3) (harg4.unread x4) (harg5.unread x5) k h := by
      unfold trip; exact dif_pos h
    rw [hT, tripFirst_1, tripFirst_2, tripFirst_3, tripFirst_4]
  · have hT : trip (F := Ideal) 𝒱 c bd i arg1 harg1 arg2 harg2 arg3 harg3 arg4 harg4 arg5 harg5 arg6 harg6 arg7 harg7
      arg8 harg8 arg9 harg9 arg0 (harg1.unread x1) (harg2.unread x2) (harg3.unread x3) (harg4.unread x4) (harg5.unread x5) k = tripLater 𝒱 c bd i arg1 harg1 arg2 harg2 arg3 harg3 arg4 harg4 arg5 harg5 arg6 harg6 arg7 harg7
      arg8 harg8 arg9 harg9 arg0 (harg1.unread x1) (harg2.unread x2) (harg3.unread x3) (harg4.unread x4) (harg5.unread x5) k
        (Nat.pos_of_ne_zero h) := by
      unfold trip; exact dif_neg h
    rw [hT, tripLater_1, tripLater_2, tripLater_3, tripLater_4]

/-- What has been done before trip `k`. -/
theorem state_reads (k : ℕ) (hk : k ≤ 16) :
    let S := state (F := Ideal) 𝒱 c bd i arg1 harg1 arg2 harg2 arg3 harg3 arg4 harg4 arg5 harg5 arg6 harg6 arg7 harg7
      arg8 harg8 arg9 harg9 arg0 (harg1.unread x1) (harg2.unread x2) (harg3.unread x3) (harg4.unread x4) (harg5.unread x5) G7 G8 init k
    let B := blockOf i x1 x2 x3 x4 x5
    (∀ r, (S.1 (ix2 r 0) : EReal) = init (ix2 r 0) + upto k fun n => (B n).dsink (hd r) (qi r))
    ∧ (∀ f6 h (j : Fin 16) t d, j.val < k →
        arg6.view.read (Elt Ideal) (arg6.view.writes (Elt Ideal) f6 S.2.1) (ix3 h (pos j t) d) = (B j).dq h t d)
    ∧ (∀ (j : Fin 16) t d, (arg7.view.read (Elt Ideal) (arg7.view.writes (Elt Ideal) G7 S.2.2.1) (ix3 0 (pos j t) d) : EReal)
        = arg7.view.read (Elt Ideal) G7 (ix3 0 (pos j t) d)
          + upto k fun n => (if j.val = n.val then (B n).dkOwn t d else 0) + if j.val = n.val - 1 then (B n).dkPrev t d else 0)
    ∧ (∀ (j : Fin 16) t d, (arg8.view.read (Elt Ideal) (arg8.view.writes (Elt Ideal) G8 S.2.2.2) (ix3 0 (pos j t) d) : EReal)
        = arg8.view.read (Elt Ideal) G8 (ix3 0 (pos j t) d)
          + upto k fun n => (if j.val = n.val then (B n).dvOwn t d else 0) + if j.val = n.val - 1 then (B n).dvPrev t d else 0) := by
  induction k with
  | zero =>
    refine ⟨fun r => ?_, fun f6 h j t d hj => absurd hj (by omega), fun j t d => ?_, fun j t d => ?_⟩
    all_goals rw [upto_zero, add_zero]; rfl
  | succ k ih =>
    have hk' : k < 16 := by omega
    obtain ⟨h1, h2, h3, h4⟩ := ih (by omega)
    dsimp only
    rw [state_succ (F := Ideal) 𝒱 c bd i arg1 harg1 arg2 harg2 arg3 harg3 arg4 harg4 arg5 harg5 arg6 harg6 arg7 harg7
      arg8 harg8 arg9 harg9 arg0 (harg1.unread x1) (harg2.unread x2) (harg3.unread x3) (harg4.unread x4) (harg5.unread x5) G7 G8 init (tr ⟨k, hk'⟩), next_eq]
    have hn := loads_n i x1 x2 x3 x4 x5 (tr ⟨k, hk'⟩)
    refine ⟨fun r => ?_, fun f6 h j t d hj => ?_, fun j t d => ?_, fun j t d => ?_⟩
    · rw [upto_succ ⟨k, hk'⟩, ← add_assoc, ← h1 r]
      exact Loads.carry_apply ⟨k, hk'⟩ hn _ r
    · rw [List.singleton_append]
      refine (read_block4 _ _ k _ (off5_eq (tr ⟨k, hk'⟩)) _ _ h j t d).trans ?_
      split_ifs with hjk
      · obtain rfl : j = ⟨k, hk'⟩ := Fin.ext hjk
        exact Loads.dq_apply ⟨k, hk'⟩ hn h t d
      · exact h2 f6 h j t d (by omega)
    · rw [upto_succ ⟨k, hk'⟩, ← add_assoc, ← h3 j t d, View.writes_append]
      exact (read_stores7 arg7 (tr ⟨k, hk'⟩) _ _ hn j t d).trans (add_assoc _ _ _)
    · rw [upto_succ ⟨k, hk'⟩, ← add_assoc, ← h4 j t d, View.writes_append]
      exact (read_stores8 arg8 (tr ⟨k, hk'⟩) _ _ hn j t d).trans (add_assoc _ _ _)

end States

end Cert.KernelIdeal.Attention

end
-- ==== Proof.Attention.Body.lean ====
/-
  One grid point of the attention gradient's call: a run of its body on any nine whole arrays, with the pieces the
  run leaves in the four it writes.
-/
module

public import proofs.«01_k».proof.Proof.Attention.Loop
public import proofs.«01_k».proof.Proof.Gen.KernelIdeal.Frame

@[expose] public section

set_option maxRecDepth 16384
set_option maxHeartbeats 4000000

noncomputable section

namespace Cert.KernelIdeal.Attention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg1 : Memref sig .tc .vmem S4x2048x64 .f32) (harg1 : arg1.IsWhole)
  (arg2 : Memref sig .tc .vmem S1x2048x64 .f32) (harg2 : arg2.IsWhole)
  (arg3 : Memref sig .tc .vmem S1x2048x64 .f32) (harg3 : arg3.IsWhole)
  (arg4 : Memref sig .tc .vmem S4x2048x64 .f32) (harg4 : arg4.IsWhole)
  (arg5 : Memref sig .tc .smem S2x8 .f32) (harg5 : arg5.IsWhole)
  (arg6 : Memref sig .tc .vmem S4x2048x64 .bf16) (harg6 : arg6.IsWhole)
  (arg7 : Memref sig .tc .vmem S1x2048x64 .f32) (harg7 : arg7.IsWhole)
  (arg8 : Memref sig .tc .vmem S1x2048x64 .f32) (harg8 : arg8.IsWhole)
  (arg9 : Memref sig .tc .vmem S4x8x128 .f32) (harg9 : arg9.IsWhole)
  (x1 : Vec F S4x2048x64 .f32) (x2 x3 : Vec F S1x2048x64 .f32) (x4 : Vec F S4x2048x64 .f32) (x5 : Vec F S2x8 .f32)

set_option maxHeartbeats 1600000 in
/-- The body runs, keeping what it reads and leaving the pieces `L6`, `L7`, `L8`, `L9` in what it writes. -/
noncomputable def bodyRun :
    Σ' (L6 : List (View.Piece (Elt F) S4x2048x64 .bf16)) (L7 L8 : List (View.Piece (Elt F) S1x2048x64 .f32)),
      { L9 : List (View.Piece (Elt F) S4x8x128 .f32) // ∀ (E : Set ℕ) (K : PUnit → sProp 𝕄),
        iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ (∃ f, arg6.view.loc (c : Thread nD τ) ↦[arg6.view.set]{fullShare} arg6.view.writes (Elt F) f L6)
            ∗ (∃ f, arg7.view.loc (c : Thread nD τ) ↦[arg7.view.set]{fullShare} arg7.view.writes (Elt F) f L7)
            ∗ (∃ f, arg8.view.loc (c : Thread nD τ) ↦[arg8.view.set]{fullShare} arg8.view.writes (Elt F) f L8)
            ∗ (∃ f, arg9.view.loc (c : Thread nD τ) ↦[arg9.view.set]{fullShare} arg9.view.writes (Elt F) f L9)) -∗ K ⟨⟩))
        ⊢ wp frame (wpE (defs₀ (F := F)) Variants.none c none) E
            (cc0_attn_bwd i arg1 harg1 arg2 harg2 arg3 harg3 arg4 harg4 arg5 harg5
              arg6 harg6 arg7 harg7 arg8 harg8 arg9 harg9) K } := by
  refine ⟨?_, ?_, ?_, ?_, fun E K => ?run⟩
  case run =>
    simp only [cc0_attn_bwd_eq_skeleton]; unfold cc0_attn_bwd_skel
    simp only [k0_part7_eq_skeleton]
    unfold owns
    iintro ⟨⟨%f1, %hf1, H1⟩, ⟨%f2, %hf2, H2⟩, ⟨%f3, %hf3, H3⟩, ⟨%f4, %hf4, H4⟩, ⟨%f5, %hf5, H5⟩,
      ⟨%d6, %f6, -, H6⟩, ⟨%d7, %f7, -, H7⟩, ⟨%d8, %f8, -, H8⟩, ⟨%d9, %f9, -, H9⟩, Hk⟩
    obtain rfl := harg1.eq_unread hf1
    obtain rfl := harg2.eq_unread hf2
    obtain rfl := harg3.eq_unread hf3
    obtain rfl := harg4.eq_unread hf4
    obtain rfl := harg5.eq_unread hf5
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H9

end Cert.KernelIdeal.Attention

end
-- ==== Proof.Attention.Frame.lean ====
/-
  The attention gradient's call ends and leaves its arguments as they were: the body's pieces cover each array it
  writes, so what each holds afterwards is one value, and the launch follows.
-/
module

public import proofs.«01_k».proof.Proof.Attention.Body
public import Idealize.ShloMosaic.Lib.Claim
public import proofs.«01_k».proof.Proof.Gen.KernelIdeal.Frame

@[expose] public section

set_option maxRecDepth 16384
set_option maxHeartbeats 4000000

noncomputable section

namespace Cert.KernelIdeal.Attention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (c : Dev nD) (i : grid0.Coords)
  (arg1 : Memref sig .tc .vmem S4x2048x64 .f32) (harg1 : arg1.IsWhole)
  (arg2 : Memref sig .tc .vmem S1x2048x64 .f32) (harg2 : arg2.IsWhole)
  (arg3 : Memref sig .tc .vmem S1x2048x64 .f32) (harg3 : arg3.IsWhole)
  (arg4 : Memref sig .tc .vmem S4x2048x64 .f32) (harg4 : arg4.IsWhole)
  (arg5 : Memref sig .tc .smem S2x8 .f32) (harg5 : arg5.IsWhole)
  (arg6 : Memref sig .tc .vmem S4x2048x64 .bf16) (harg6 : arg6.IsWhole)
  (arg7 : Memref sig .tc .vmem S1x2048x64 .f32) (harg7 : arg7.IsWhole)
  (arg8 : Memref sig .tc .vmem S1x2048x64 .f32) (harg8 : arg8.IsWhole)
  (arg9 : Memref sig .tc .vmem S4x8x128 .f32) (harg9 : arg9.IsWhole)
  (x1 : Vec F S4x2048x64 .f32) (x2 x3 : Vec F S1x2048x64 .f32) (x4 : Vec F S4x2048x64 .f32) (x5 : Vec F S2x8 .f32)

theorem cover6 (y : S4x2048x64.Idx) :
    ∃ q ∈ (bodyRun (F := F) c i arg1 harg1 arg2 harg2 arg3 harg3 arg4 harg4 arg5 harg5
        arg6 harg6 arg7 harg7 arg8 harg8 arg9 harg9 x1 x2 x3 x4 x5).1,
      y ∈ q.1.set :=
  View.cover_of_tiledL ((bodyRun (F := F) c i arg1 harg1 arg2 harg2 arg3 harg3 arg4 harg4 arg5 harg5
        arg6 harg6 arg7 harg7 arg8 harg8 arg9 harg9 x1 x2 x3 x4 x5).1) S4x128x64.size (by sl_kernel_rfl) y

/-- The gradient of the queries, as one run leaves it. -/
def left6 : Vec F S4x2048x64 .bf16 :=
  arg6.view.read (Elt F) (arg6.view.writes (Elt F) arg6.view.junk
    (bodyRun (F := F) c i arg1 harg1 arg2 harg2 arg3 harg3 arg4 harg4 arg5 harg5
        arg6 harg6 arg7 harg7 arg8 harg8 arg9 harg9 x1 x2 x3 x4 x5).1)

theorem cover7 (y : S1x2048x64.Idx) :
    ∃ q ∈ (bodyRun (F := F) c i arg1 harg1 arg2 harg2 arg3 harg3 arg4 harg4 arg5 harg5
        arg6 harg6 arg7 harg7 arg8 harg8 arg9 harg9 x1 x2 x3 x4 x5).2.1,
      y ∈ q.1.set :=
  View.cover_of_tiledBy ((bodyRun (F := F) c i arg1 harg1 arg2 harg2 arg3 harg3 arg4 harg4 arg5 harg5
        arg6 harg6 arg7 harg7 arg8 harg8 arg9 harg9 x1 x2 x3 x4 x5).2.1) ![1, 128, 64] (by sl_kernel_rfl) y

/-- The gradient of the keys, as one run leaves it. -/
def left7 : Vec F S1x2048x64 .f32 :=
  arg7.view.read (Elt F) (arg7.view.writes (Elt F) arg7.view.junk
    (bodyRun (F := F) c i arg1 harg1 arg2 harg2 arg3 harg3 arg4 harg4 arg5 harg5
        arg6 harg6 arg7 harg7 arg8 harg8 arg9 harg9 x1 x2 x3 x4 x5).2.1)

theorem cover8 (y : S1x2048x64.Idx) :
    ∃ q ∈ (bodyRun (F := F) c i arg1 harg1 arg2 harg2 arg3 harg3 arg4 harg4 arg5 harg5
        arg6 harg6 arg7 harg7 arg8 harg8 arg9 harg9 x1 x2 x3 x4 x5).2.2.1,
      y ∈ q.1.set :=
  View.cover_of_tiledBy ((bodyRun (F := F) c i arg1 harg1 arg2 harg2 arg3 harg3 arg4 harg4 arg5 harg5
        arg6 harg6 arg7 harg7 arg8 harg8 arg9 harg9 x1 x2 x3 x4 x5).2.2.1) ![1, 128, 64] (by sl_kernel_rfl) y

/-- The gradient of the values, as one run leaves it. -/
def left8 : Vec F S1x2048x64 .f32 :=
  arg8.view.read (Elt F) (arg8.view.writes (Elt F) arg8.view.junk
    (bodyRun (F := F) c i arg1 harg1 arg2 harg2 arg3 harg3 arg4 harg4 arg5 harg5
        arg6 harg6 arg7 harg7 arg8 harg8 arg9 harg9 x1 x2 x3 x4 x5).2.2.1)

theorem cover9 (y : S4x8x128.Idx) :
    ∃ q ∈ (bodyRun (F := F) c i arg1 harg1 arg2 harg2 arg3 harg3 arg4 harg4 arg5 harg5
        arg6 harg6 arg7 harg7 arg8 harg8 arg9 harg9 x1 x2 x3 x4 x5).2.2.2.1,
      y ∈ q.1.set :=
  View.cover_of_tiledL ((bodyRun (F := F) c i arg1 harg1 arg2 harg2 arg3 harg3 arg4 harg4 arg5 harg5
        arg6 harg6 arg7 harg7 arg8 harg8 arg9 harg9 x1 x2 x3 x4 x5).2.2.2.1) S1x8x128.size (by sl_kernel_rfl) y

/-- The gradient of the sinks, as one run leaves it. -/
def left9 : Vec F S4x8x128 .f32 :=
  arg9.view.read (Elt F) (arg9.view.writes (Elt F) arg9.view.junk
    (bodyRun (F := F) c i arg1 harg1 arg2 harg2 arg3 harg3 arg4 harg4 arg5 harg5
        arg6 harg6 arg7 harg7 arg8 harg8 arg9 harg9 x1 x2 x3 x4 x5).2.2.2.1)

end

variable (m : (ℓ : Loc nD τ sig) → Buf (Elt F) ℓ) (ρ : Dev nD → PrngReg)

abbrev stg0 (t : Fin cfg0.N) : Memref sig .tc .vmem S4x2048x64 .f32 := win0_0.stage (cfg0.slots t 0)
abbrev whole0 (t : Fin cfg0.N) : (stg0 t).IsWhole := hstage0_0 ((cfg0.slots t 0).cast nbuf0_0)
abbrev stg1 (t : Fin cfg0.N) : Memref sig .tc .vmem S1x2048x64 .f32 := win0_1.stage (cfg0.slots t 1)
abbrev whole1 (t : Fin cfg0.N) : (stg1 t).IsWhole := hstage0_1 ((cfg0.slots t 1).cast nbuf0_1)
abbrev stg2 (t : Fin cfg0.N) : Memref sig .tc .vmem S1x2048x64 .f32 := win0_2.stage (cfg0.slots t 2)
abbrev whole2 (t : Fin cfg0.N) : (stg2 t).IsWhole := hstage0_2 ((cfg0.slots t 2).cast nbuf0_2)
abbrev stg3 (t : Fin cfg0.N) : Memref sig .tc .vmem S4x2048x64 .f32 := win0_3.stage (cfg0.slots t 3)
abbrev whole3 (t : Fin cfg0.N) : (stg3 t).IsWhole := hstage0_3 ((cfg0.slots t 3).cast nbuf0_3)
abbrev stg4 (t : Fin cfg0.N) : Memref sig .tc .smem S2x8 .f32 := win0_4.stage (cfg0.slots t 4)
abbrev whole4 (t : Fin cfg0.N) : (stg4 t).IsWhole := hstage0_4 ((cfg0.slots t 4).cast nbuf0_4)
abbrev stg5 (t : Fin cfg0.N) : Memref sig .tc .vmem S4x2048x64 .bf16 := win0_5.stage (cfg0.slots t 5)
abbrev whole5 (t : Fin cfg0.N) : (stg5 t).IsWhole := hstage0_5 ((cfg0.slots t 5).cast nbuf0_5)
abbrev stg6 (t : Fin cfg0.N) : Memref sig .tc .vmem S1x2048x64 .f32 := win0_6.stage (cfg0.slots t 6)
abbrev whole6 (t : Fin cfg0.N) : (stg6 t).IsWhole := hstage0_6 ((cfg0.slots t 6).cast nbuf0_6)
abbrev stg7 (t : Fin cfg0.N) : Memref sig .tc .vmem S1x2048x64 .f32 := win0_7.stage (cfg0.slots t 7)
abbrev whole7 (t : Fin cfg0.N) : (stg7 t).IsWhole := hstage0_7 ((cfg0.slots t 7).cast nbuf0_7)
abbrev stg8 (t : Fin cfg0.N) : Memref sig .tc .vmem S4x8x128 .f32 := win0_8.stage (cfg0.slots t 8)
abbrev whole8 (t : Fin cfg0.N) : (stg8 t).IsWhole := hstage0_8 ((cfg0.slots t 8).cast nbuf0_8)

/-- The gradient of the queries after grid point `t`. -/
def point5 (c : Dev nD) (t : Fin cfg0.N) : Vec F S4x2048x64 .bf16 :=
  left6 c (grid0.coords t) (stg0 t) (whole0 t) (stg1 t) (whole1 t) (stg2 t) (whole2 t) (stg3 t) (whole3 t) (stg4 t) (whole4 t)
    (stg5 t) (whole5 t) (stg6 t) (whole6 t) (stg7 t) (whole7 t) (stg8 t) (whole8 t)
    (iblk m c 0 t) (iblk m c 1 t) (iblk m c 2 t) (iblk m c 3 t) (iblk m c 4 t)

/-- The gradient of the keys after grid point `t`. -/
def point6 (c : Dev nD) (t : Fin cfg0.N) : Vec F S1x2048x64 .f32 :=
  left7 c (grid0.coords t) (stg0 t) (whole0 t) (stg1 t) (whole1 t) (stg2 t) (whole2 t) (stg3 t) (whole3 t) (stg4 t) (whole4 t)
    (stg5 t) (whole5 t) (stg6 t) (whole6 t) (stg7 t) (whole7 t) (stg8 t) (whole8 t)
    (iblk m c 0 t) (iblk m c 1 t) (iblk m c 2 t) (iblk m c 3 t) (iblk m c 4 t)

/-- The gradient of the values after grid point `t`. -/
def point7 (c : Dev nD) (t : Fin cfg0.N) : Vec F S1x2048x64 .f32 :=
  left8 c (grid0.coords t) (stg0 t) (whole0 t) (stg1 t) (whole1 t) (stg2 t) (whole2 t) (stg3 t) (whole3 t) (stg4 t) (whole4 t)
    (stg5 t) (whole5 t) (stg6 t) (whole6 t) (stg7 t) (whole7 t) (stg8 t) (whole8 t)
    (iblk m c 0 t) (iblk m c 1 t) (iblk m c 2 t) (iblk m c 3 t) (iblk m c 4 t)

/-- The gradient of the sinks after grid point `t`. -/
def point8 (c : Dev nD) (t : Fin cfg0.N) : Vec F S4x8x128 .f32 :=
  left9 c (grid0.coords t) (stg0 t) (whole0 t) (stg1 t) (whole1 t) (stg2 t) (whole2 t) (stg3 t) (whole3 t) (stg4 t) (whole4 t)
    (stg5 t) (whole5 t) (stg6 t) (whole6 t) (stg7 t) (whole7 t) (stg8 t) (whole8 t)
    (iblk m c 0 t) (iblk m c 1 t) (iblk m c 2 t) (iblk m c 3 t) (iblk m c 4 t)

/-- The call's data: the arrays as found, each read window's block kept, each written window's block as the body leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => point5 m c t
    | ⟨6, _⟩ => point6 m c t
    | ⟨7, _⟩ => point7 m c t
    | ⟨8, _⟩ => point8 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = point5 m c t := by dsimp only [dats]
theorem after6 (c : Dev nD) (t : Fin cfg0.N) : (dats m 0 c).after 6 t = point6 m c t := by dsimp only [dats]
theorem after7 (c : Dev nD) (t : Fin cfg0.N) : (dats m 0 c).after 7 t = point7 m c t := by dsimp only [dats]
theorem after8 (c : Dev nD) (t : Fin cfg0.N) : (dats m 0 c).after 8 t = point8 m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is run from at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t))

theorem sound_body (c : Dev nD) (t : Fin cfg0.N) :
    bodyPre m c t ⊢ wp frame (wpE (defs₀ (F := F)) Variants.none c none) Set.univ (bodyAt0 t)
      (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  unfold point5 point6 point7 point8 left6 left7 left8 left9
  (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((bodyRun c (grid0.coords t) _ _ _ _ _ _ _ _ _ _ _ _ _ _ _ _ _ _ (iblk m c 0 t) (iblk m c 1 t) (iblk m c 2 t) (iblk m c 3 t) (iblk m c 4 t)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, ⟨%e5, H5⟩, ⟨%e6, H6⟩, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro
    exact View.read_writes_of_cover _ _ _ _ _ (cover6 c _ _ _ _ _ _ _ _ _ _ _ _ _ _ _ _ _ _ _ _ _ _ _ _)
  isplitl [H6]
  · unfold owns; iexists _; isplitr
    swap; · iexact H6
    ipureintro
    exact View.read_writes_of_cover _ _ _ _ _ (cover7 c _ _ _ _ _ _ _ _ _ _ _ _ _ _ _ _ _ _ _ _ _ _ _ _)
  isplitl [H7]
  · unfold owns; iexists _; isplitr
    swap; · iexact H7
    ipureintro
    exact View.read_writes_of_cover _ _ _ _ _ (cover8 c _ _ _ _ _ _ _ _ _ _ _ _ _ _ _ _ _ _ _ _ _ _ _ _)
  · unfold owns; iexists _; isplitr
    swap; · iexact H8
    ipureintro
    exact View.read_writes_of_cover _ _ _ _ _ (cover9 c _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends with each array at what the call's data say, and every counter at zero. -/
theorem run_main_quiescent :
    θ_run defs (onTc (τ := τ) (main (F := F))) (s₀ m ρ)
      (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main :
    θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ))
    ((θ_run defs _ _).mono (fun _ h => h.2) (run_main_quiescent m ρ))

end Cert.KernelIdeal.Attention

end
-- ==== Proof.Attention.Left.lean ====
/-
  One grid point's results at an index.
-/
module

public import proofs.«01_k».proof.Proof.Attention.State
public import proofs.«01_k».proof.Proof.Attention.Frame
public import Idealize.ShloMosaic.Lib.Pointwise

@[expose] public section

set_option maxRecDepth 16384
set_option maxHeartbeats 4000000

noncomputable section

namespace Cert.KernelIdeal.Attention

open Cert.KernelIdeal Cert.KernelIdeal.Gen Cert.Attn
open Idealize.ShloMosaic Idealize.ShloMosaic.TcCoe Idealize.ShloMosaic.Tactic
open Idealize.SL.Sem

theorem trips_eq : Scf.trips 0#32 (Scalar.addi 0#32 16#32) 1#32 = 16 := by decide +kernel

/-- A piece that is one head's tile, read back. -/
theorem read_head {sp : Space} {e : EltTy} {Val : EltTy → Type} (v : View sig .tc sp S4x8x128 e) (f : v.ty.Contents Val) (b : ℕ) {off : Fin 3 → ℕ}
    (inb : ∀ a, off a + ![1, 8, 128] a ≤ S4x8x128.size a) (hoff : off = ![b, 0, 0])
    (w : S1x8x128.Idx → Val e) (L : List (View.Piece Val S4x8x128 e)) (h : Fin 4) (a : Fin 8) (l : Fin 128) :
    v.read Val (v.writes Val f ((⟨Rect.unit (s := S4x8x128) off ![1, 8, 128] inb, w⟩ : View.Piece Val S4x8x128 e) :: L)) (ix3 h a l)
      = if h.val = b then w (ix3 0 a l) else v.read Val (v.writes Val f L) (ix3 h a l) := by
  split_ifs with hh
  · refine View.read_writes_cons_unit_of_mem v f inb w L _ (ix3 0 a l) hoff fun x => ?_
    fin_cases x
    · show h.val = b + 0; omega
    · show a.val = 0 + a.val; omega
    · show l.val = 0 + l.val; omega
  · refine View.read_writes_cons_unit_of_not_mem v f inb w L _ hoff (0 : Fin 3) ?_
    show h.val < b ∨ b + 1 ≤ h.val
    omega

/-- The rows of head `h`. -/
abbrev rowOf (h : Fin 4) (i : Fin 128) : Fin 512 := ⟨h.val * 128 + i.val, by omega⟩
theorem hd_rowOf (h : Fin 4) (i : Fin 128) : hd (rowOf h i) = h := Fin.ext (by show (h.val * 128 + i.val) / 128 = h.val; omega)
theorem qi_rowOf (h : Fin 4) (i : Fin 128) : qi (rowOf h i) = i := Fin.ext (by show (h.val * 128 + i.val) % 128 = i.val; omega)

theorem pay45_apply (acc : FVec Ideal S512x1 .f32) (a : Fin 8) (l : Fin 128) :
    k0_pay45 acc (ix3 0 a l) = ∑ i, acc (ix2 (rowOf 0 i) 0) := by
  pointwise [k0_pay45]
  refine Finset.sum_congr rfl fun t _ => (Fin.sum_univ_one _).trans ?_
  congr 3; show t.val = 0 * 128 + t.val; omega
theorem pay46_apply (acc : FVec Ideal S512x1 .f32) (a : Fin 8) (l : Fin 128) :
    k0_pay46 acc (ix3 0 a l) = ∑ i, acc (ix2 (rowOf 1 i) 0) := by
  pointwise [k0_pay46]
  refine Finset.sum_congr rfl fun t _ => (Fin.sum_univ_one _).trans ?_
  congr 3
theorem pay47_apply (acc : FVec Ideal S512x1 .f32) (a : Fin 8) (l : Fin 128) :
    k0_pay1 (k0_pay47 acc) (ix3 0 a l) = ∑ i, acc (ix2 (rowOf 2 i) 0) := by
  pointwise [k0_pay1, k0_pay47]
  refine Finset.sum_congr rfl fun t _ => (Fin.sum_univ_one _).trans ?_
  congr 3
theorem pay2_apply (acc : FVec Ideal S512x1 .f32) (a : Fin 8) (l : Fin 128) :
    k0_pay2 acc (ix3 0 a l) = ∑ i, acc (ix2 (rowOf 3 i) 0) := by
  pointwise [k0_pay2]
  refine Finset.sum_congr rfl fun t _ => (Fin.sum_univ_one _).trans ?_
  congr 3

variable (c : Dev nD) (i : grid0.Coords)
  (arg1 : Memref sig .tc .vmem S4x2048x64 .f32) (harg1 : arg1.IsWhole)
  (arg2 : Memref sig .tc .vmem S1x2048x64 .f32) (harg2 : arg2.IsWhole)
  (arg3 : Memref sig .tc .vmem S1x2048x64 .f32) (harg3 : arg3.IsWhole)
  (arg4 : Memref sig .tc .vmem S4x2048x64 .f32) (harg4 : arg4.IsWhole)
  (arg5 : Memref sig .tc .smem S2x8 .f32) (harg5 : arg5.IsWhole)
  (arg6 : Memref sig .tc .vmem S4x2048x64 .bf16) (harg6 : arg6.IsWhole)
  (arg7 : Memref sig .tc .vmem S1x2048x64 .f32) (harg7 : arg7.IsWhole)
  (arg8 : Memref sig .tc .vmem S1x2048x64 .f32) (harg8 : arg8.IsWhole)
  (arg9 : Memref sig .tc .vmem S4x8x128 .f32) (harg9 : arg9.IsWhole)
  (x1 : Vec Ideal S4x2048x64 .f32) (x2 x3 : Vec Ideal S1x2048x64 .f32) (x4 : Vec Ideal S4x2048x64 .f32) (x5 : Vec Ideal S2x8 .f32)

theorem left6_apply (h : Fin 4) (j : Fin 16) (t : Fin 128) (d : Fin 64) :
    left6 (F := Ideal) c i arg1 harg1 arg2 harg2 arg3 harg3 arg4 harg4 arg5 harg5 arg6 harg6 arg7 harg7
      arg8 harg8 arg9 harg9 x1 x2 x3 x4 x5 (ix3 h (pos j t) d)
      = (blockOf i x1 x2 x3 x4 x5 j).dq h t d := by
  unfold left6 bodyRun
  dsimp only
  sl_unfold_words
  rw [trips_eq]
  exact (state_reads Variants.none c none i arg1 harg1 arg2 harg2 arg3 harg3 arg4 harg4 arg5 harg5 arg6 harg6 arg7 harg7
      arg8 harg8 arg9 harg9 (BitVec.ofNat 32 (i 0).val) x1 x2 x3 x4 x5 _ _ _ 16 le_rfl).2.1 _ h j t d j.isLt

theorem left7_apply (j : Fin 16) (t : Fin 128) (d : Fin 64) :
    left7 (F := Ideal) c i arg1 harg1 arg2 harg2 arg3 harg3 arg4 harg4 arg5 harg5 arg6 harg6 arg7 harg7
      arg8 harg8 arg9 harg9 x1 x2 x3 x4 x5 (ix3 0 (pos j t) d)
      = dkAll (blockOf i x1 x2 x3 x4 x5) j t d := by
  unfold left7 bodyRun
  dsimp only
  sl_unfold_words
  rw [trips_eq, View.writes_append]
  refine ((state_reads Variants.none c none i arg1 harg1 arg2 harg2 arg3 harg3 arg4 harg4 arg5 harg5 arg6 harg6 arg7 harg7
      arg8 harg8 arg9 harg9 (BitVec.ofNat 32 (i 0).val) x1 x2 x3 x4 x5 _ _ _ 16 le_rfl).2.2.1 j t d).trans ?_
  have hz : (arg7.view.read (Elt Ideal) (arg7.view.writes (Elt Ideal) arg7.view.junk
      [⟨Rect.unit ![0, 0, 0] S1x2048x64.size inb_S1x2048x64_S1x2048x64_0_0_0, k0_pay38 (F := Ideal)⟩]) (ix3 0 (pos j t) d) : EReal) = 0 := by
    refine (View.read_writes_cons_unit_of_mem arg7.view _ _ _ [] _ (ix3 0 (pos j t) d) rfl ?_).trans ?_
    · intro a
      fin_cases a
      · rfl
      · show 128 * j.val + t.val = 0 + (128 * j.val + t.val); omega
      · show d.val = 0 + d.val; omega
    · pointwise [k0_pay38]
  rw [upto_all, hz, zero_add]
  rfl

theorem left8_apply (j : Fin 16) (t : Fin 128) (d : Fin 64) :
    left8 (F := Ideal) c i arg1 harg1 arg2 harg2 arg3 harg3 arg4 harg4 arg5 harg5 arg6 harg6 arg7 harg7
      arg8 harg8 arg9 harg9 x1 x2 x3 x4 x5 (ix3 0 (pos j t) d)
      = dvAll (blockOf i x1 x2 x3 x4 x5) j t d := by
  unfold left8 bodyRun
  dsimp only
  sl_unfold_words
  rw [trips_eq, View.writes_append]
  refine ((state_reads Variants.none c none i arg1 harg1 arg2 harg2 arg3 harg3 arg4 harg4 arg5 harg5 arg6 harg6 arg7 harg7
      arg8 harg8 arg9 harg9 (BitVec.ofNat 32 (i 0).val) x1 x2 x3 x4 x5 _ _ _ 16 le_rfl).2.2.2 j t d).trans ?_
  have hz : (arg8.view.read (Elt Ideal) (arg8.view.writes (Elt Ideal) arg8.view.junk
      [⟨Rect.unit ![0, 0, 0] S1x2048x64.size inb_S1x2048x64_S1x2048x64_0_0_0, k0_pay39 (F := Ideal)⟩]) (ix3 0 (pos j t) d) : EReal) = 0 := by
    refine (View.read_writes_cons_unit_of_mem arg8.view _ _ _ [] _ (ix3 0 (pos j t) d) rfl ?_).trans ?_
    · intro a
      fin_cases a
      · rfl
      · show 128 * j.val + t.val = 0 + (128 * j.val + t.val); omega
      · show d.val = 0 + d.val; omega
    · pointwise [k0_pay39]
  rw [upto_all, hz, zero_add]
  rfl

theorem left9_apply (h : Fin 4) (a : Fin 8) (l : Fin 128) :
    left9 (F := Ideal) c i arg1 harg1 arg2 harg2 arg3 harg3 arg4 harg4 arg5 harg5 arg6 harg6 arg7 harg7
      arg8 harg8 arg9 harg9 x1 x2 x3 x4 x5 (ix3 h a l)
      = ∑ t, ∑ n, (blockOf i x1 x2 x3 x4 x5 n).dsink h t := by
  have hS (h : Fin 4) (t : Fin 128) (G7) (G8) : ((state (F := Ideal) Variants.none c none i arg1 harg1 arg2 harg2 arg3 harg3 arg4 harg4 arg5 harg5 arg6 harg6 arg7 harg7
      arg8 harg8 arg9 harg9 (BitVec.ofNat 32 (i 0).val) (harg1.unread x1) (harg2.unread x2)
      (harg3.unread x3) (harg4.unread x4) (harg5.unread x5) G7 G8 k0_pay40 16).1 (ix2 (rowOf h t) 0) : EReal)
      = ∑ n, (blockOf i x1 x2 x3 x4 x5 n).dsink h t := by
    rw [(state_reads Variants.none c none i arg1 harg1 arg2 harg2 arg3 harg3 arg4 harg4 arg5 harg5 arg6 harg6 arg7 harg7
      arg8 harg8 arg9 harg9 (BitVec.ofNat 32 (i 0).val) x1 x2 x3 x4 x5 G7 G8 k0_pay40 16 le_rfl).1 (rowOf h t), upto_all, hd_rowOf, qi_rowOf]
    pointwise [k0_pay40]
  unfold left9 bodyRun
  dsimp only
  sl_unfold_words
  have ht : Scf.trips k0_t1_loop.lb k0_t1_loop.ub k0_t1_loop.st = 16 := trips_eq
  rw [ht]
  fin_cases h
  · refine (read_head arg9.view _ 3 _ rfl _ _ _ a l).trans ((if_neg (by decide)).trans ?_)
    refine (read_head arg9.view _ 2 _ rfl _ _ _ a l).trans ((if_neg (by decide)).trans ?_)
    refine (read_head arg9.view _ 1 _ rfl _ _ _ a l).trans ((if_neg (by decide)).trans ?_)
    refine (read_head arg9.view _ 0 _ rfl _ _ _ a l).trans ((if_pos rfl).trans ?_)
    exact (pay45_apply _ a l).trans (Finset.sum_congr rfl fun t _ => hS 0 t _ _)
  · refine (read_head arg9.view _ 3 _ rfl _ _ _ a l).trans ((if_neg (by decide)).trans ?_)
    refine (read_head arg9.view _ 2 _ rfl _ _ _ a l).trans ((if_neg (by decide)).trans ?_)
    refine (read_head arg9.view _ 1 _ rfl _ _ _ a l).trans ((if_pos rfl).trans ?_)
    exact (pay46_apply _ a l).trans (Finset.sum_congr rfl fun t _ => hS 1 t _ _)
  · refine (read_head arg9.view _ 3 _ rfl _ _ _ a l).trans ((if_neg (by decide)).trans ?_)
    refine (read_head arg9.view _ 2 _ rfl _ _ _ a l).trans ((if_pos rfl).trans ?_)
    exact (pay47_apply _ a l).trans (Finset.sum_congr rfl fun t _ => hS 2 t _ _)
  · refine (read_head arg9.view _ 3 _ rfl _ _ _ a l).trans ((if_pos rfl).trans ?_)
    exact (pay2_apply _ a l).trans (Finset.sum_congr rfl fun t _ => hS 3 t _ _)

end Cert.KernelIdeal.Attention

end
-- ==== Proof.Attention.Array.lean ====
/-
  The result arrays of the attention's backward call after the run, as formulas over its argument arrays.
-/
module

public import proofs.«01_k».proof.Proof.Attention.Left
public import Idealize.ShloMosaic.Lib.Claim
public import Idealize.ShloMosaic.Lib.Pipeline.ValueKit
public meta import Idealize.ShloMosaic.Lib.Tactic.WordOmega

@[expose] public section

set_option maxRecDepth 16384
set_option maxHeartbeats 1600000

noncomputable section

open Idealize.ShloMosaic Idealize.ShloMosaic.TcCoe Idealize.SL.Sem

namespace Cert.KernelIdeal.Attention
open Cert.KernelIdeal Cert.KernelIdeal.Gen Cert.Attn

variable (m : (ℓ : Loc nD τ sig) → Buf (Elt Ideal) ℓ) (c : Dev nD)

/-- The arguments device `c` starts with. -/
def args : Args where
  q s j := (m ((c : Thread nD τ).loc main_arg0) : FVec Ideal S2048x512 .f32) (ix2 s j)
  k s j := (m ((c : Thread nD τ).loc main_arg1) : FVec Ideal S2048x128 .f32) (ix2 s j)
  v s j := (m ((c : Thread nD τ).loc main_arg2) : FVec Ideal S2048x128 .f32) (ix2 s j)
  sink r := (m ((c : Thread nD τ).loc main_arg3) : FVec Ideal S8 .f32) (ix1 r)
  o s j := (m ((c : Thread nD τ).loc main_arg4) : FVec Ideal S2048x512 .f32) (ix2 s j)

/-- The slopes the host prepares. -/
theorem slope_eq (r : Fin 8) : Ideal.ofBits .f32 (lit0 r) = headSlope r := by
  rw [(by decide +kernel : ∀ r : Fin 8, lit0 r = BitVec.ofNat 32 (0x3F000000 - r.val * 0x800000)) r]
  exact slope_word r

/-- The arrays the host prepares: each head's columns apart, and the sinks above the slopes. -/
theorem host_q (r : Fin 8) (s : Fin 2048) (d : Fin 64) : (V m c main_v4 : FVec Ideal S8x2048x64 .f32) (ix3 r s d) = (args m c).q s (colq r d) := by
  unfold V; after_results; pointwise; rfl
@[inherit_doc host_q] theorem host_k (g : Fin 2) (s : Fin 2048) (d : Fin 64) : (V m c main_v6 : FVec Ideal S2x2048x64 .f32) (ix3 g s d) = (args m c).k s (colk g d) := by
  unfold V; after_results; pointwise; rfl
@[inherit_doc host_q] theorem host_v (g : Fin 2) (s : Fin 2048) (d : Fin 64) : (V m c main_v8 : FVec Ideal S2x2048x64 .f32) (ix3 g s d) = (args m c).v s (colk g d) := by
  unfold V; after_results; pointwise; rfl
@[inherit_doc host_q] theorem host_o (r : Fin 8) (s : Fin 2048) (d : Fin 64) : (V m c main_v10 : FVec Ideal S8x2048x64 .f32) (ix3 r s d) = (args m c).o s (colq r d) := by
  unfold V; after_results; pointwise; rfl
@[inherit_doc host_q] theorem host_sink (r : Fin 8) : (V m c main_v2 : FVec Ideal S2x8 .f32) (ix2 0 r) = (args m c).sink r := by
  unfold V; after_results; pointwise; rfl
@[inherit_doc host_q] theorem host_slope (r : Fin 8) : (V m c main_v2 : FVec Ideal S2x8 .f32) (ix2 1 r) = headSlope r := by
  unfold V; after_results; pointwise
  exact (congrArg (fun k => Ideal.ofBits .f32 (lit0 k)) (Fin.ext ((by decide +kernel : ∀ r : Fin 8, (S8.rowMajor (ix1 r)).val = r.val) r))).trans (slope_eq r)

/-- Where each window's block lies: the point's group of heads. -/
theorem idx : ∀ t : Fin cfg0.N, win0_0.index t = ![t.val, 0, 0] ∧ win0_1.index t = ![t.val, 0, 0] ∧ win0_2.index t = ![t.val, 0, 0] ∧ win0_3.index t = ![t.val, 0, 0]
    ∧ win0_4.index t = ![0, 0] ∧ win0_5.index t = ![t.val, 0, 0] ∧ win0_6.index t = ![t.val, 0, 0] ∧ win0_7.index t = ![t.val, 0, 0] ∧ win0_8.index t = ![t.val, 0, 0] :=
  (by decide +kernel : ∀ t : Fin grid0.N, _)

variable (t : Fin cfg0.N)
/-- The point's group. -/
abbrev grp : Fin 2 := ⟨t.val, lt_of_lt_of_eq t.isLt N_0⟩

theorem rd0 (h : Fin 4) (s : Fin 2048) (d : Fin 64) : iblk m c 0 t (ix3 h s d) = (V m c main_v4 : FVec Ideal S8x2048x64 .f32) (ix3 (head (grp t) h) s d) := by
  blk_ext [iblk, idx t, grp]
theorem rd1 (s : Fin 2048) (d : Fin 64) : iblk m c 1 t (ix3 0 s d) = (V m c main_v6 : FVec Ideal S2x2048x64 .f32) (ix3 (grp t) s d) := by
  blk_ext [iblk, idx t, grp]
theorem rd2 (s : Fin 2048) (d : Fin 64) : iblk m c 2 t (ix3 0 s d) = (V m c main_v8 : FVec Ideal S2x2048x64 .f32) (ix3 (grp t) s d) := by
  blk_ext [iblk, idx t, grp]
theorem rd3 (h : Fin 4) (s : Fin 2048) (d : Fin 64) : iblk m c 3 t (ix3 h s d) = (V m c main_v10 : FVec Ideal S8x2048x64 .f32) (ix3 (head (grp t) h) s d) := by
  blk_ext [iblk, idx t, grp]
theorem rd4 (a : Fin 2) (r : Fin 8) : iblk m c 4 t (ix2 a r) = (V m c main_v2 : FVec Ideal S2x8 .f32) (ix2 a r) := by
  blk_ext [iblk, idx t, grp]
/-- Where a block's index lies in the result arrays. -/
theorem emb5 (h : Fin 4) (s : Fin 2048) (d : Fin 64) : ((cfg0.win 5).blk t).view.emb (ix3 h s d) = (ix3 (head (grp t) h) s d : S8x2048x64.Idx) := by
  blk_ext [idx t, grp]
@[inherit_doc emb5] theorem emb6 (s : Fin 2048) (d : Fin 64) : ((cfg0.win 6).blk t).view.emb (ix3 0 s d) = (ix3 (grp t) s d : S2x2048x64.Idx) := by
  blk_ext [idx t, grp]
@[inherit_doc emb5] theorem emb7 (s : Fin 2048) (d : Fin 64) : ((cfg0.win 7).blk t).view.emb (ix3 0 s d) = (ix3 (grp t) s d : S2x2048x64.Idx) := by
  blk_ext [idx t, grp]
@[inherit_doc emb5] theorem emb8 (h : Fin 4) (a : Fin 8) (l : Fin 128) : ((cfg0.win 8).blk t).view.emb (ix3 h a l) = (ix3 (head (grp t) h) a l : S8x8x128.Idx) := by
  blk_ext [idx t, grp]

/-- One entry of the sinks and slopes, read where the kernel computes it to be. -/
theorem idx_word {off : Fin 2 → ℕ} (inb : ∀ a, off a + ![1, 1] a ≤ S2x8.size a) (a : Fin 2) (r : Fin 8) (hoff : off = ![a.val, r.val]) :
    (Rect.unit (s := S2x8) off ![1, 1] inb).idx (Shape.Idx.first Nat.one_pos) = ix2 a r := by
  subst hoff
  funext x
  refine Fin.ext ?_
  rw [Rect.idx_unit_val]
  fin_cases x <;> rfl

theorem coords_eq : ∀ t : Fin cfg0.N, ((grid0.coords t) 0).val = t.val := (by decide +kernel : ∀ t : Fin grid0.N, _)

theorem offs : ∀ t : Fin cfg0.N, (∀ r : Fin 3, k0_off2 (grid0.coords t) (BitVec.ofNat 32 r.val) = ![0, 4 * t.val + r.val])
    ∧ k0_off1 (grid0.coords t) = ![0, 4 * t.val + 3] ∧ (∀ r : Fin 3, k0_off4 (grid0.coords t) (BitVec.ofNat 32 r.val) = ![1, 4 * t.val + r.val])
    ∧ k0_off3 (grid0.coords t) = ![1, 4 * t.val + 3] := (by decide +kernel : ∀ t : Fin grid0.N, _)

/-- What the point's trips work on are the blocks of the point's group. -/
theorem block_eq_args (n : Fin 16) : blockOf (grid0.coords t) (iblk m c 0 t) (iblk m c 1 t) (iblk m c 2 t) (iblk m c 3 t) (iblk m c 4 t) n = (args m c).block (grp t) n := by
  obtain ⟨h2, h1, h4, h3⟩ := offs t
  have hw (a : Fin 2) (r : Fin 8) {off : Fin 2 → ℕ} (inb : ∀ a, off a + ![1, 1] a ≤ S2x8.size a) (hoff : off = ![a.val, r.val]) :
      iblk m c 4 t ((Rect.unit (s := S2x8) off ![1, 1] inb).idx (Shape.Idx.first Nat.one_pos)) = (V m c main_v2 : FVec Ideal S2x8 .f32) (ix2 a r) :=
    (congrArg (iblk m c 4 t) (idx_word inb a r hoff)).trans (rd4 m c t a r)
  unfold blockOf Loads.block Args.block
  congr 1
  · funext h i d
    exact (congrArg (iblk m c 0 t) (idx_block4 n _ (off5_eq (tr n)) h i d)).trans ((rd0 m c t h _ d).trans (host_q m c _ _ d))
  · funext h i d
    exact (congrArg (iblk m c 3 t) (idx_block4 n _ (off5_eq (tr n)) h i d)).trans ((rd3 m c t h _ d).trans (host_o m c _ _ d))
  · funext j d
    exact (congrArg (iblk m c 1 t) (idx_block n _ (off6_eq (tr n)) j d)).trans ((rd1 m c t _ d).trans (host_k m c _ _ d))
  · funext j d
    exact (congrArg (iblk m c 1 t) (idx_block (before n) _ (k0_off7_eq (tr n)) j d)).trans ((rd1 m c t _ d).trans (host_k m c _ _ d))
  · funext j d
    exact (congrArg (iblk m c 2 t) (idx_block n _ (off6_eq (tr n)) j d)).trans ((rd2 m c t _ d).trans (host_v m c _ _ d))
  · funext j d
    exact (congrArg (iblk m c 2 t) (idx_block (before n) _ (k0_off7_eq (tr n)) j d)).trans ((rd2 m c t _ d).trans (host_v m c _ _ d))
  · funext h
    refine .trans ?_ (host_sink m c (head (grp t) h))
    fin_cases h
    · exact hw 0 (head (grp t) 0) _ (h2 0)
    · exact hw 0 (head (grp t) 1) _ (h2 1)
    · exact hw 0 (head (grp t) 2) _ (h2 2)
    · exact hw 0 (head (grp t) 3) _ h1
  · funext h
    refine .trans ?_ (host_slope m c (head (grp t) h))
    fin_cases h
    · exact hw 1 (head (grp t) 0) _ (h4 0)
    · exact hw 1 (head (grp t) 1) _ (h4 1)
    · exact hw 1 (head (grp t) 2) _ (h4 2)
    · exact hw 1 (head (grp t) 3) _ h3

/-- The four result arrays. -/
def dQ : FVec Ideal S8x2048x64 .bf16 := fun i => (args m c).dq (i 0) (i 1) (i 2)
@[inherit_doc dQ] def dK : FVec Ideal S2x2048x64 .f32 := fun i => (args m c).dk (i 0) (i 1) (i 2)
@[inherit_doc dQ] def dV : FVec Ideal S2x2048x64 .f32 := fun i => (args m c).dv (i 0) (i 1) (i 2)
@[inherit_doc dQ] def dS : FVec Ideal S8x8x128 .f32 := fun i => (args m c).ds (i 0)

/-- The result arrays after the run. -/
theorem final5 : (dats m 0 c).arrAt 5 (cfgs 0).N = dQ m c := by
  refine (dats m 0 c).arrAt_eq_of_covers 5 _ (by decide +kernel) fun t _ y => ?_
  blk_simp
  rw [after5]
  idx_vars y
  refine .trans ?_ (congrArg (dQ m c) (emb5 t y0 y1 y2)).symm
  obtain ⟨j, s, rfl⟩ := exists_pos y1
  refine (left6_apply _ _ _ _ _ _ _ _ _ _ _ _ _ _ _ _ _ _ _ _ _ _ _ _ _ y0 j s y2).trans ?_
  rw [block_eq_args]
  exact ((args m c).dq_at (grp t) y0 j s y2).symm

@[inherit_doc final5] theorem final6 : (dats m 0 c).arrAt 6 (cfgs 0).N = dK m c := by
  refine (dats m 0 c).arrAt_eq_of_covers 6 _ (by decide +kernel) fun t _ y => ?_
  blk_simp
  rw [after6]
  idx_vars y
  obtain rfl : y0 = 0 := Subsingleton.elim _ _
  refine .trans ?_ (congrArg (dK m c) (emb6 t y1 y2)).symm
  obtain ⟨j, s, rfl⟩ := exists_pos y1
  refine (left7_apply _ _ _ _ _ _ _ _ _ _ _ _ _ _ _ _ _ _ _ _ _ _ _ _ _ j s y2).trans ?_
  rw [funext (block_eq_args m c t)]
  exact ((args m c).dk_at (grp t) j s y2).symm

@[inherit_doc final5] theorem final7 : (dats m 0 c).arrAt 7 (cfgs 0).N = dV m c := by
  refine (dats m 0 c).arrAt_eq_of_covers 7 _ (by decide +kernel) fun t _ y => ?_
  blk_simp
  rw [after7]
  idx_vars y
  obtain rfl : y0 = 0 := Subsingleton.elim _ _
  refine .trans ?_ (congrArg (dV m c) (emb7 t y1 y2)).symm
  obtain ⟨j, s, rfl⟩ := exists_pos y1
  refine (left8_apply _ _ _ _ _ _ _ _ _ _ _ _ _ _ _ _ _ _ _ _ _ _ _ _ _ j s y2).trans ?_
  rw [funext (block_eq_args m c t)]
  exact ((args m c).dv_at (grp t) j s y2).symm

@[inherit_doc final5] theorem final8 : (dats m 0 c).arrAt 8 (cfgs 0).N = dS m c := by
  refine (dats m 0 c).arrAt_eq_of_covers 8 _ (by decide +kernel) fun t _ y => ?_
  blk_simp
  rw [after8]
  idx_vars y
  refine .trans ?_ (congrArg (dS m c) (emb8 t y0 y1 y2)).symm
  refine (left9_apply _ _ _ _ _ _ _ _ _ _ _ _ _ _ _ _ _ _ _ _ _ _ _ _ _ y0 y1 y2).trans ?_
  rw [funext (block_eq_args m c t)]
  exact ((args m c).ds_at (grp t) y0).symm

end Cert.KernelIdeal.Attention

end
-- ==== Proof.Attention.Reference.lean ====
/-
  The reference's intermediate arrays at an index: the scores, the probabilities and their cotangents.
-/
module

public import proofs.«01_k».proof.Proof.Attention.Whole
public import proofs.«01_k».proof.Proof.Gen.ReferenceIdeal.Run
public import Idealize.ShloMosaic.Lib.Pointwise
public meta import Idealize.ShloMosaic.Lib.Tactic.WordOmega

@[expose] public section

set_option maxRecDepth 16384
set_option maxHeartbeats 1600000

noncomputable section

open Idealize.ShloMosaic Idealize.ShloMosaic.TcCoe Idealize.SL.Sem

namespace Cert.ReferenceIdeal.Attention
open Cert.ReferenceIdeal Cert.ReferenceIdeal.Gen Cert.ReferenceIdeal.Value Cert.Attn Cert.Attn.Row

variable (V0 : Valuation τ sig (Elt Ideal))

/-- The arguments the reference starts with. -/
def args : Args where
  q s j := (V0 (Proc.devRef .tc main_arg0) : FVec Ideal S2048x512 .f32) (ix2 s j)
  k s j := (V0 (Proc.devRef .tc main_arg1) : FVec Ideal S2048x128 .f32) (ix2 s j)
  v s j := (V0 (Proc.devRef .tc main_arg2) : FVec Ideal S2048x128 .f32) (ix2 s j)
  sink r := (V0 (Proc.devRef .tc main_arg3) : FVec Ideal S8 .f32) (ix1 r)
  o s j := (V0 (Proc.devRef .tc main_arg4) : FVec Ideal S2048x512 .f32) (ix2 s j)

/-- Block `n` of group `g`. -/
abbrev blk (n : Fin 16) (g : Fin 2) : Block := (args V0).block g n

/-- A position of the block before, and one of the own block, among the two blocks' 256. -/
abbrev lo (j : Fin 128) : Fin 256 := ⟨j.val, by omega⟩
@[inherit_doc lo] abbrev hi (j : Fin 128) : Fin 256 := ⟨128 + j.val, by omega⟩

theorem minus_inf : (id (constant (F := Ideal) S_ .f32 0xFF800000#32) ix0 : EReal) = ⊥ := by
  show Ideal.ofBits .f32 0xFF800000#32 = ⊥
  simp [Ideal.ofBits, Ideal.ieee, -EReal.coe_mul]

theorem slope_eq (r : Fin 8) : Ideal.ofBits .f32 (lit0 (S8.rowMajor (ix1 r))) = headSlope r := by
  refine (congrArg (fun k => Ideal.ofBits .f32 (lit0 k)) (Fin.ext ((by decide +kernel : ∀ r : Fin 8, (S8.rowMajor (ix1 r)).val = r.val) r))).trans ?_
  exact (congrArg (Ideal.ofBits .f32) ((by decide +kernel : ∀ r : Fin 8, lit0 r = BitVec.ofNat 32 (0x3F000000 - r.val * 0x800000)) r)).trans (slope_word r)

section Words
variable (n : Fin 16) (i j : Fin 128)

/-- The distance back to a key, as the reference counts it. -/
theorem dist_toInt (l : ℕ) (hl : l < 256) : (IntOp.subi (IntOp.addi (BitVec.ofNat 32 i.val) 128#32) (BitVec.ofNat 32 l)).toInt = (i.val : ℤ) + 128 - l := by
  have := i.isLt
  show (BitVec.ofNat 32 i.val + 128#32 - BitVec.ofNat 32 l).toInt = _
  rw [← BitVec.ofNat_add, BitVec.toInt_sub, BitVec.toInt_eq_toNat_of_lt (by simp; omega), BitVec.toInt_eq_toNat_of_lt (by simp; omega), BitVec.toNat_ofNat, BitVec.toNat_ofNat]
  simp only [Int.bmod]
  omega
/-- The first of the two blocks' positions, as the reference counts it. -/
theorem start_toInt (l : ℕ) (hl : l < 256) :
    (IntOp.addi (IntOp.muli (IntOp.subi (BitVec.ofNat 32 n.val) 1#32) 128#32) (BitVec.ofNat 32 l)).toInt = ((n.val : ℤ) - 1) * 128 + l := by
  have e := (by decide +kernel : ∀ n : Fin 16, (IntOp.muli (IntOp.subi (BitVec.ofNat 32 n.val) 1#32) 128#32).toInt = ((n.val : ℤ) - 1) * 128) n
  have := n.isLt
  show (IntOp.muli (IntOp.subi (BitVec.ofNat 32 n.val) 1#32) 128#32 + BitVec.ofNat 32 l).toInt = _
  rw [BitVec.toInt_add, e, BitVec.toInt_eq_toNat_of_lt (x := BitVec.ofNat 32 l) (by simp; omega), BitVec.toNat_ofNat]
  simp only [Int.bmod]
  omega
theorem and_one (a b : BitVec 1) : (IntOp.andi a b = 1) = (a = 1 ∧ b = 1) := by revert a b; decide
theorem sge_one (a b : BitVec 32) : (IntOp.cmpi .sge a b = 1) = (b.toInt ≤ a.toInt) := by
  show (BitVec.ofBool (b.sle a) = 1) = _
  rw [BitVec.sle_eq_decide]
  by_cases h : b.toInt ≤ a.toInt <;> simp [h]
theorem slt_one (a b : BitVec 32) : (IntOp.cmpi .slt a b = 1) = (a.toInt < b.toInt) := by
  show (BitVec.ofBool (a.slt b) = 1) = _
  rw [BitVec.slt_eq_decide]
  by_cases h : a.toInt < b.toInt <;> simp [h]
/-- Which keys the reference lets a query see: by the distance, and none before the sequence's first. -/
theorem seen (l : ℕ) (hl : l < 256) : (IntOp.andi
      (IntOp.andi (IntOp.cmpi .sge (IntOp.subi (IntOp.addi (BitVec.ofNat 32 i.val) 128#32) (BitVec.ofNat 32 l)) 0#32)
        (IntOp.cmpi .slt (IntOp.subi (IntOp.addi (BitVec.ofNat 32 i.val) 128#32) (BitVec.ofNat 32 l)) 128#32))
      (IntOp.cmpi .sge (IntOp.addi (IntOp.muli (IntOp.subi (BitVec.ofNat 32 n.val) 1#32) 128#32) (BitVec.ofNat 32 l)) 0#32) = 1)
    = ((l ≤ i.val + 128 ∧ i.val < l) ∧ 128 ≤ n.val * 128 + l) := by
  rw [and_one, and_one, sge_one, slt_one, sge_one, dist_toInt i l hl, start_toInt n l hl]
  show ((0 ≤ (i.val : ℤ) + 128 - l ∧ (i.val : ℤ) + 128 - l < 128) ∧ 0 ≤ ((n.val : ℤ) - 1) * 128 + l) = _
  refine propext ?_
  omega

end Words

variable (n : Fin 16) (g : Fin 2) (h : Fin 4) (i j : Fin 128) (d : Fin 64)

theorem q_pos : (⟨n.val * 128 + i.val, by omega⟩ : Fin 2048) = pos n i := Fin.ext (by show n.val * 128 + i.val = 128 * n.val + i.val; omega)
theorem q_col : (⟨g.val * 256 + h.val * 64 + d.val, by omega⟩ : Fin 512) = colq (head g h) d := Fin.ext (by show g.val * 256 + h.val * 64 + d.val = (4 * g.val + h.val) * 64 + d.val; omega)
theorem q_head : (⟨g.val * 4 + h.val, by omega⟩ : Fin 8) = head g h := Fin.ext (by show g.val * 4 + h.val = 4 * g.val + h.val; omega)

/-- The queries, and the keys of the two blocks: zeros before the first. -/
theorem v0_apply : (res_main_v0 V0 (ix5 n i g h d) : EReal) = (blk V0 n g).q h i d := by
  pointwise [res_main_v0]
  exact congrArg₂ (args V0).q (q_pos n i) (q_col g h d)
theorem v8_lo : (res_main_v8 V0 (ix4 n (lo j) g d) : EReal) = if 0 < n.val then (blk V0 n g).kp j d else 0 := by
  pointwise [res_main_v8, res_main_v4, res_main_v1]
  by_cases hn : 0 < n.val
  · rw [dif_neg (by omega), if_pos hn]
    exact congrArg ((args V0).k · _) (q_pos (before n) j)
  · rw [dif_pos (by omega), if_neg hn]
theorem v8_hi : (res_main_v8 V0 (ix4 n (hi j) g d) : EReal) = (blk V0 n g).kc j d := by
  pointwise [res_main_v8, res_main_v4, res_main_v1]
  exact congrArg ((args V0).k · _) (q_pos n j)
theorem v12_lo : (res_main_v12 V0 (ix4 n (lo j) g d) : EReal) = if 0 < n.val then (blk V0 n g).vp j d else 0 := by
  pointwise [res_main_v12, res_main_v4, res_main_v2]
  by_cases hn : 0 < n.val
  · rw [dif_neg (by omega), if_pos hn]
    exact congrArg ((args V0).v · _) (q_pos (before n) j)
  · rw [dif_pos (by omega), if_neg hn]
theorem v12_hi : (res_main_v12 V0 (ix4 n (hi j) g d) : EReal) = (blk V0 n g).vc j d := by
  pointwise [res_main_v12, res_main_v4, res_main_v2]
  exact congrArg ((args V0).v · _) (q_pos n j)
theorem v96_apply : (res_main_v96 V0 (ix5 n g d h i) : EReal) = (blk V0 n g).o h i d := by
  pointwise [res_main_v96]
  exact congrArg₂ (args V0).o (q_pos n i) (q_col g h d)

/-- Which keys a query sees. -/
theorem v59_lo : (@Eq (BitVec 1) (res_main_v59_1 V0 (ix5 n g h i (lo j))) 1) = (i.val < j.val ∧ 0 < n.val) := by
  pointwise [res_main_v59_1, res_main_v25, res_main_v20]
  exact (seen n i j.val (by omega)).trans (propext (by omega))
theorem v59_hi : (@Eq (BitVec 1) (res_main_v59_1 V0 (ix5 n g h i (hi j))) 1) = (j.val ≤ i.val) := by
  pointwise [res_main_v59_1, res_main_v25, res_main_v20]
  exact (seen n i (128 + j.val) (by omega)).trans (propext (by omega))

theorem v25_lo : (FloatOps.sitofp .f32 (res_main_v25 V0 (ix2 i (lo j)) : BitVec 32) : Ideal .f32) = ((((i.val : ℤ) + 128 - j.val : ℤ) : ℝ) : EReal) := by
  pointwise [res_main_v25, res_main_v20]
  rw [← dist_toInt i j.val (by omega)]; rfl
theorem v25_hi : (FloatOps.sitofp .f32 (res_main_v25 V0 (ix2 i (hi j)) : BitVec 32) : Ideal .f32) = ((((i.val : ℤ) - j.val : ℤ) : ℝ) : EReal) := by
  pointwise [res_main_v25, res_main_v20]
  rw [show (i.val : ℤ) - j.val = (i.val : ℤ) + 128 - ((128 + j.val : ℕ) : ℤ) by push_cast; omega, ← dist_toInt i (128 + j.val) (by omega)]; rfl

/-- The scores. -/
theorem v62_lo : (res_main_v62 V0 (ix5 n g h i (inPrev j)) : EReal) = ((blk V0 n g).row h i).prev j := by
  pointwise [res_main_v62]
  rw [dif_pos (by omega)]
  unfold Scalar.select
  rw [minus_inf, slope_eq, q_head]
  refine Eq.trans (b := if i.val < j.val ∧ 0 < n.val then ((∑ d, (blk V0 n g).q h i d * (if 0 < n.val then (blk V0 n g).kp j d else 0)) * eighth - headSlope (head g h) * ((((i.val : ℤ) + 128 - j.val : ℤ) : ℝ) : EReal)) else ⊥) (if_congr (iff_of_eq (v59_lo V0 n g h i j)) ?_ rfl) ?_
  · refine congrArg₂ (· - ·) (congrArg₂ (· * ·) (Finset.sum_congr rfl fun d _ => ?_) eighth_eq) (congrArg _ (v25_lo V0 i j))
    exact (mul_comm _ _).trans (congrArg₂ (· * ·) (v0_apply V0 n g h i d) (v8_lo V0 n g j d))
  · refine ite_congr rfl (fun hh => ?_) fun _ => rfl
    exact congrArg (· - _) (congrArg (· * eighth) (Finset.sum_congr rfl fun d _ => congrArg (_ * ·) (if_pos hh.2)))
theorem v62_hi : (res_main_v62 V0 (ix5 n g h i (inOwn j)) : EReal) = ((blk V0 n g).row h i).own j := by
  pointwise [res_main_v62]
  rw [dif_pos (by omega)]
  unfold Scalar.select
  rw [minus_inf, slope_eq, q_head]
  refine if_congr (iff_of_eq (v59_hi V0 n g h i j)) ?_ rfl
  refine congrArg₂ (· - ·) (congrArg₂ (· * ·) (Finset.sum_congr rfl fun d _ => ?_) eighth_eq) (congrArg _ (v25_hi V0 i j))
  exact (mul_comm _ _).trans (congrArg₂ (· * ·) (v0_apply V0 n g h i d) (v8_hi V0 n g j d))
theorem v62_sink : (res_main_v62 V0 (ix5 n g h i atSink) : EReal) = ((blk V0 n g).row h i).sink := by
  pointwise [res_main_v62]
  exact congrArg (args V0).sink (q_head g h)

/-- A property of the row's 257 positions, by parts. -/
theorem by_parts {p : Fin 257 → Prop} (hp : ∀ j, p (inPrev j)) (ho : ∀ j, p (inOwn j)) (hs : p atSink) (l : Fin 257) : p l := by
  by_cases h1 : l.val < 128
  · exact hp ⟨l, h1⟩
  · by_cases h2 : l.val < 256
    · have := ho ⟨l.val - 128, by omega⟩
      rwa [show inOwn ⟨l.val - 128, by omega⟩ = l from Fin.ext (by show 128 + (l.val - 128) = l.val; omega)] at this
    · rwa [show l = atSink from Fin.ext (by show l.val = 256; omega)]

theorem v62_apply (l : Fin 257) : (res_main_v62 V0 (ix5 n g h i l) : EReal)
    = cat ((blk V0 n g).row h i).prev ((blk V0 n g).row h i).own ((blk V0 n g).row h i).sink l := by
  refine by_parts (p := fun l => (res_main_v62 V0 (ix5 n g h i l) : EReal) = cat _ _ _ l) (fun j => ?_) (fun j => ?_) ?_ l
  · rw [cat_prev, v62_lo]
  · rw [cat_own, v62_hi]
  · rw [cat_sink, v62_sink]

end Cert.ReferenceIdeal.Attention

end
-- ==== Proof.Attention.Weights.lean ====
/-
  The reference attention gradient read at an index: the exponentials of the scores, their sum and the probabilities.
-/
module

public import proofs.«01_k».proof.Proof.Attention.Reference

@[expose] public section

set_option maxRecDepth 16384
set_option maxHeartbeats 400000

noncomputable section

open Idealize.ShloMosaic Idealize.ShloMosaic.TcCoe Idealize.SL.Sem

namespace Cert.ReferenceIdeal.Attention
open Cert.ReferenceIdeal Cert.ReferenceIdeal.Gen Cert.ReferenceIdeal.Value Cert.Attn Cert.Attn.Row

variable (V0 : Valuation τ sig (Elt Ideal)) (n : Fin 16) (g : Fin 2) (h : Fin 4) (i j : Fin 128) (d : Fin 64)

/-! ## The greatest score -/

theorem red : S16x2x4x128x257.Reduces [4] S16x2x4x128 := by decide
theorem lift_row (l : Fin 257) : red.lift (ix4 n g h i) l = ix5 n g h i l := by
  funext a
  refine Fin.ext ?_
  fin_cases a <;> rfl
theorem max_row (X : FVec Ideal S16x2x4x128x257 .f32) :
    @Eq EReal ((Host.reduce (FloatOps.maximumf (F := Ideal) (φ := .f32)) X (constant (F := Ideal) S_ .f32 0xFF800000#32) reducesTo_S16x2x4x128x257_S16x2x4x128_d4 h_S_) (ix4 n g h i))
      (Finset.univ.fold max ⊥ fun l : Fin 257 => (X (ix5 n g h i l) : EReal)) := by
  refine (Host.reduce_eq_fold_single (FloatOps.maximumf (F := Ideal) (φ := .f32)) X (constant (F := Ideal) S_ .f32 0xFF800000#32) reducesTo_S16x2x4x128x257_S16x2x4x128_d4 red h_S_ (ix4 n g h i)).trans ?_
  exact congrArg₂ (fun b f => Finset.univ.fold max b f) minus_inf (funext fun l => congrArg X (lift_row n g h i l))
theorem v63_apply : (res_main_v63 V0 (ix4 n g h i) : EReal) = ((blk V0 n g).row h i).top := by
  refine (max_row n g h i (res_main_v62 V0)).trans ?_
  rw [← fold_cat]
  exact congrArg (Finset.univ.fold max ⊥) (funext fun l => v62_apply V0 n g h i l)

/-! ## The exponentials -/

theorem exps (X : FVec Ideal S16x2x4x128x257 .f32) (M : FVec Ideal S16x2x4x128 .f32) (l : Fin 257) :
    (Host.exp (subf X (broadcastInDim S16x2x4x128x257 ![0, 1, 2, 3, 4] bcast_S16x2x4x128x1_S16x2x4x128x257_0_1_2_3_4 (broadcastInDim S16x2x4x128x1 ![0, 1, 2, 3] bcast_S16x2x4x128_S16x2x4x128x1_0_1_2_3 (maximumf (broadcastInDim S16x2x4x128 ![] bcast_S_S16x2x4x128 (constant S_ .f32 0xFF800000#32)) M)))) (ix5 n g h i l) : EReal)
      = Ideal.exp (X (ix5 n g h i l) - max (Ideal.ofBits .f32 0xFF800000#32) (M (ix4 n g h i))) := by
  pointwise
theorem v83_apply (l : Fin 257) : (res_main_v83 V0 (ix5 n g h i l) : EReal)
    = ((blk V0 n g).row h i).ex (cat ((blk V0 n g).row h i).prev ((blk V0 n g).row h i).own ((blk V0 n g).row h i).sink l) := by
  refine (exps n g h i (res_main_v62 V0) (res_main_v63 V0) l).trans ?_
  refine congrArg Ideal.exp (congrArg₂ (fun a b : EReal => a - b) (v62_apply V0 n g h i l) ?_)
  refine (congrArg₂ max (minus_inf : (Ideal.ofBits .f32 0xFF800000#32 : EReal) = ⊥) (v63_apply V0 n g h i)).trans ?_
  exact max_eq_right bot_le
theorem v83_lo : (res_main_v83 V0 (ix5 n g h i (inPrev j)) : EReal) = ((blk V0 n g).row h i).ex (((blk V0 n g).row h i).prev j) := by
  rw [v83_apply, cat_prev]
theorem v83_hi : (res_main_v83 V0 (ix5 n g h i (inOwn j)) : EReal) = ((blk V0 n g).row h i).ex (((blk V0 n g).row h i).own j) := by
  rw [v83_apply, cat_own]
theorem v83_sink : (res_main_v83 V0 (ix5 n g h i atSink) : EReal) = ((blk V0 n g).row h i).ex ((blk V0 n g).row h i).sink := by
  rw [v83_apply, cat_sink]
theorem v85_apply : (res_main_v85 V0 (ix5 n g h i 0) : EReal) = ((blk V0 n g).row h i).total := by
  pointwise [res_main_v85]
  refine Eq.trans (b := (∑ l : Fin 257, ((blk V0 n g).row h i).ex (cat ((blk V0 n g).row h i).prev ((blk V0 n g).row h i).own ((blk V0 n g).row h i).sink l) : EReal)) ?_ (sum_ex_cat _)
  exact Finset.sum_congr rfl fun l _ => v83_apply V0 n g h i l

/-! ## The probabilities -/

variable (hF : ((blk V0 n g).row h i).Finite)
include hF
theorem v91_lo : (res_main_v91 V0 (ix5 n g h i (lo j)) : EReal) = (blk V0 n g).pPrev h i j := by
  pointwise [res_main_v91]
  exact (congrArg₂ Ideal.div (v83_lo V0 n g h i j) (v85_apply V0 n g h i)).trans (hF.div_total _)
theorem v91_hi : (res_main_v91 V0 (ix5 n g h i (hi j)) : EReal) = (blk V0 n g).pOwn h i j := by
  pointwise [res_main_v91]
  exact (congrArg₂ Ideal.div (v83_hi V0 n g h i j) (v85_apply V0 n g h i)).trans (hF.div_total _)

end Cert.ReferenceIdeal.Attention

end
-- ==== Proof.Attention.Derivative.lean ====
/-
  The reference attention gradient read at an index: the cotangents of the probabilities and of the scores.
-/
module

public import proofs.«01_k».proof.Proof.Attention.Weights

@[expose] public section

set_option maxRecDepth 16384
set_option maxHeartbeats 400000

noncomputable section

open Idealize.ShloMosaic Idealize.ShloMosaic.TcCoe Idealize.SL.Sem

namespace Cert.ReferenceIdeal.Attention
open Cert.ReferenceIdeal Cert.ReferenceIdeal.Gen Cert.ReferenceIdeal.Value Cert.Attn Cert.Attn.Row

variable (V0 : Valuation τ sig (Elt Ideal)) (n : Fin 16) (g : Fin 2) (h : Fin 4) (i j : Fin 128) (d : Fin 64)

theorem sum_same {ι : Type} [Fintype ι] {f f' : ι → EReal} (e : ∀ i, f i = f' i) : ∑ i, f i = ∑ i, f' i := Finset.sum_congr rfl fun i _ => e i
theorem sum_none {ι : Type} [Fintype ι] {f : ι → EReal} (e : ∀ i, f i = 0) : ∑ i, f i = 0 := Finset.sum_eq_zero fun i _ => e i
theorem times {a a' b b' : EReal} (ea : a = a') (eb : b = b') : a * b = a' * b' := congrArg₂ (· * ·) ea eb

/-- The cotangents of the probabilities against the block before, zeros where there is none. -/
def before0 : EReal := if 0 < n.val then (blk V0 n g).gPrev h i j else 0

theorem v100_apply (l : Fin 257) : (res_main_v100 V0 (ix5 n g h i l) : EReal)
    = cat (before0 V0 n g h i) ((blk V0 n g).gOwn h i) 0 l := by
  refine by_parts (p := fun l => (res_main_v100 V0 (ix5 n g h i l) : EReal) = cat _ _ _ l) (fun j => ?_) (fun j => ?_) ?_ l
  · rw [cat_prev]
    pointwise [res_main_v100]
    rw [dif_pos (by omega)]
    unfold before0
    by_cases hn : 0 < n.val
    · rw [if_pos hn]
      exact sum_same fun d => times (v96_apply V0 n g h i d) ((v12_lo V0 n g j d).trans (if_pos hn))
    · rw [if_neg hn]
      exact sum_none fun d => (times rfl ((v12_lo V0 n g j d).trans (if_neg hn))).trans (mul_zero _)
  · rw [cat_own]
    pointwise [res_main_v100]
    rw [dif_pos (by omega)]
    exact sum_same fun d => times (v96_apply V0 n g h i d) (v12_hi V0 n g j d)
  · rw [cat_sink]
    pointwise [res_main_v100]

/-- Where the reference has zeros for the block before, nothing is seen. -/
theorem mean_before0 : ((blk V0 n g).row h i).mean (before0 V0 n g h i) ((blk V0 n g).gOwn h i) = (blk V0 n g).mean h i := by
  apply Row.mean_congr; intro j
  by_cases hn : 0 < n.val
  · exact Or.inr (if_pos hn)
  · exact Or.inl (Block.prev_first _ (Nat.eq_zero_of_not_pos hn) h i j)

variable (hF : ((blk V0 n g).row h i).Finite)
include hF

/-- The cotangents of the exponentials times the exponentials: the scores' cotangents. -/
theorem v112_apply (l : Fin 257) : (res_main_v112 V0 (ix5 n g h i l) : EReal)
    = (Ideal.div (cat (before0 V0 n g h i) ((blk V0 n g).gOwn h i) 0 l) ((blk V0 n g).row h i).total
        + -(∑ l, cat (before0 V0 n g h i) ((blk V0 n g).gOwn h i) 0 l * Ideal.div 1 (((blk V0 n g).row h i).total * ((blk V0 n g).row h i).total)
            * ((blk V0 n g).row h i).ex (cat ((blk V0 n g).row h i).prev ((blk V0 n g).row h i).own ((blk V0 n g).row h i).sink l)))
      * ((blk V0 n g).row h i).ex (cat ((blk V0 n g).row h i).prev ((blk V0 n g).row h i).own ((blk V0 n g).row h i).sink l) := by
  pointwise [res_main_v112]
  rw [Fin.sum_univ_one]
  refine congrArg₂ (fun a b : EReal => a * b) (congrArg₂ (fun a b : EReal => a + b)
    (congrArg₂ Ideal.div (v100_apply V0 n g h i l) (v85_apply V0 n g h i)) (congrArg (fun a : EReal => -a) (sum_same fun l => ?_))) (v83_apply V0 n g h i l)
  exact congrArg₂ (fun a b : EReal => a * b) (congrArg₂ (fun a b : EReal => a * b) (v100_apply V0 n g h i l)
    (congrArg (fun z : EReal => Ideal.div 1 (z * z)) (v85_apply V0 n g h i))) (v83_apply V0 n g h i l)

theorem v112_lo : (res_main_v112 V0 (ix5 n g h i (inPrev j)) : EReal) = (blk V0 n g).sPrev h i j := by
  rw [v112_apply V0 n g h i hF, cat_prev, cat_prev]
  refine (hF.quotient_rule _ _ (hF.prev j) _).trans ?_
  unfold Block.sPrev Row.dscore
  by_cases hn : 0 < n.val
  · exact times rfl (congrArg₂ (fun a b : EReal => a - b) (if_pos hn) (mean_before0 V0 n g h i))
  · rw [Block.prev_first _ (Nat.eq_zero_of_not_pos hn) h i j, pr_bot, zero_mul, zero_mul]
theorem v112_hi : (res_main_v112 V0 (ix5 n g h i (inOwn j)) : EReal) = (blk V0 n g).sOwn h i j := by
  rw [v112_apply V0 n g h i hF, cat_own, cat_own]
  refine (hF.quotient_rule _ _ (hF.own j) _).trans ?_
  exact times rfl (congrArg (fun b : EReal => _ - b) (mean_before0 V0 n g h i))
theorem v112_sink : (res_main_v112 V0 (ix5 n g h i atSink) : EReal) = (blk V0 n g).dsink h i := by
  rw [v112_apply V0 n g h i hF, cat_sink, cat_sink]
  refine (hF.quotient_rule_sink _ _).trans ?_
  exact congrArg (fun a : EReal => -a) (times rfl (mean_before0 V0 n g h i))

/-- Under the mask nothing changes: an unseen score's cotangent is zero already. -/
theorem v121_lo : (res_main_v121 V0 (ix5 n g (lo j) i h) : EReal) = (blk V0 n g).sPrev h i j * eighth := by
  pointwise [res_main_v121]
  by_cases hv : i.val < j.val ∧ 0 < n.val
  · exact (if_pos ((v59_lo V0 n g h i j).mpr hv)).trans (times (v112_lo V0 n g h i j hF) eighth_eq)
  · refine (if_neg (mt (v59_lo V0 n g h i j).mp hv)).trans ?_
    unfold Block.sPrev
    rw [show ((blk V0 n g).row h i).prev j = ⊥ from if_neg hv, dscore_bot, zero_mul]
theorem v121_hi : (res_main_v121 V0 (ix5 n g (hi j) i h) : EReal) = (blk V0 n g).sOwn h i j * eighth := by
  pointwise [res_main_v121]
  by_cases hv : j.val ≤ i.val
  · exact (if_pos ((v59_hi V0 n g h i j).mpr hv)).trans (times (v112_hi V0 n g h i j hF) eighth_eq)
  · refine (if_neg (mt (v59_hi V0 n g h i j).mp hv)).trans ?_
    unfold Block.sOwn
    rw [show ((blk V0 n g).row h i).own j = ⊥ from if_neg hv, dscore_bot, zero_mul]

end Cert.ReferenceIdeal.Attention

end
-- ==== Proof.Attention.Results.lean ====
/-
  The reference attention gradient read at an index: its four results.
-/
module

public import proofs.«01_k».proof.Proof.Attention.Derivative

@[expose] public section

set_option maxRecDepth 16384
set_option maxHeartbeats 400000

noncomputable section

open Idealize.ShloMosaic Idealize.ShloMosaic.TcCoe Idealize.SL.Sem

namespace Cert.ReferenceIdeal.Attention
open Cert.ReferenceIdeal Cert.ReferenceIdeal.Gen Cert.ReferenceIdeal.Value Cert.Attn Cert.Attn.Row

variable (V0 : Valuation τ sig (Elt Ideal)) (n : Fin 16) (g : Fin 2) (h : Fin 4) (i j : Fin 128) (d : Fin 64)

/-- An eighth taken out of a block's sum. -/
theorem eighth_out (s q : Fin 4 → Fin 128 → EReal) : ∑ i, ∑ h, s h i * eighth * q h i = (∑ h, ∑ i, s h i * q h i) * eighth := by
  rw [Finset.sum_comm, sum_mul_real _ _ (by norm_num)]
  refine sum_same fun h => ?_
  rw [sum_mul_real _ _ (by norm_num)]
  exact sum_same fun i => mul_right_comm _ _ _

variable (hF : ∀ n g h i, ((blk V0 n g).row h i).Finite)
include hF

theorem v125_lo : (res_main_v125 V0 (ix4 n (lo j) g d) : EReal) = (blk V0 n g).dkPrev j d := by
  pointwise [res_main_v125]
  exact (sum_same fun i => sum_same fun h => times (v121_lo V0 n g h i j (hF n g h i)) (v0_apply V0 n g h i d)).trans
    (eighth_out (fun h i => (blk V0 n g).sPrev h i j) fun h i => (blk V0 n g).q h i d)
theorem v125_hi : (res_main_v125 V0 (ix4 n (hi j) g d) : EReal) = (blk V0 n g).dkOwn j d := by
  pointwise [res_main_v125]
  exact (sum_same fun i => sum_same fun h => times (v121_hi V0 n g h i j (hF n g h i)) (v0_apply V0 n g h i d)).trans
    (eighth_out (fun h i => (blk V0 n g).sOwn h i j) fun h i => (blk V0 n g).q h i d)
theorem v99_lo : (res_main_v99 V0 (ix4 n (lo j) g d) : EReal) = (blk V0 n g).dvPrev j d := by
  pointwise [res_main_v99]
  exact sum_same fun h => sum_same fun i => (times (v96_apply V0 n g h i d) (v91_lo V0 n g h i j (hF n g h i))).trans (mul_comm _ _)
theorem v99_hi : (res_main_v99 V0 (ix4 n (hi j) g d) : EReal) = (blk V0 n g).dvOwn j d := by
  pointwise [res_main_v99]
  exact sum_same fun h => sum_same fun i => (times (v96_apply V0 n g h i d) (v91_hi V0 n g h i j (hF n g h i))).trans (mul_comm _ _)

/-! ## The results -/

theorem dq_apply : (truncf .bf16 (transpose S8x2048x64 [1, 0, 2] (shapeCast _ (shapeCast _ (transpose S16x128x2x4x64 [0, 2, 1, 3, 4] (Host.dotGeneral (φ₂ := .f32) dot_S16x2x256x128x4_S16x256x2x64_S16x2x128x4x64_2_1_34_3_01_02 none (res_main_v121 V0) (res_main_v8 V0)) transposes_S16x2x128x4x64_S16x128x2x4x64_0_2_1_3_4) shapeCasts_S16x128x2x4x64_S2048x512) shapeCasts_S2048x512_S2048x8x64) transposes_S2048x8x64_S8x2048x64_1_0_2) bitsLt_bf16_f32 (ix3 (head g h) (pos n i) d) : EReal)
    = (blk V0 n g).dq h i d := by
  pointwise
  refine (Fin.sum_univ_two_halves 128 128 rfl (fun x : Fin 256 => HMul.hMul (α := EReal) (β := EReal) (γ := EReal) (res_main_v121 V0 (ix5 n g x i h)) (res_main_v8 V0 (ix4 n x g d)))).trans ?_
  unfold Block.dq
  rw [add_comm, add_mul_real _ _ (by norm_num), sum_mul_real _ _ (by norm_num), sum_mul_real _ _ (by norm_num)]
  refine congrArg₂ (fun a b : EReal => a + b) (sum_same fun j => ?_) (sum_same fun j => ?_)
  · exact (times (v121_hi V0 n g h i j (hF n g h i)) (v8_hi V0 n g j d)).trans (mul_right_comm _ _ _)
  · refine (times (v121_lo V0 n g h i j (hF n g h i)) (v8_lo V0 n g j d)).trans ?_
    by_cases hn : 0 < n.val
    · exact (times rfl (if_pos hn)).trans (mul_right_comm _ _ _)
    · rw [Block.sPrev_first _ (Nat.eq_zero_of_not_pos hn), zero_mul, zero_mul, zero_mul, zero_mul]
theorem dk_apply : (transpose S2x2048x64 [1, 0, 2] (shapeCast _ (shapeCast _ (addf (extractStridedSlice S16x128x2x64 ![0, 128, 0, 0] (res_main_v125 V0) slices_S16x256x2x64_S16x128x2x64_0_128_0_0) (pad S16x128x2x64 ![0, 0, 0, 0] ![1, 0, 0, 0] ![0, 0, 0, 0] (extractStridedSlice S15x128x2x64 ![1, 0, 0, 0] (res_main_v132 V0) slices_S16x128x2x64_S15x128x2x64_1_0_0_0) (constant S_ .f32 0x00000000#32) pads_S15x128x2x64_S16x128x2x64_010_000_000_000 h_S_)) shapeCasts_S16x128x2x64_S2048x128) shapeCasts_S2048x128_S2048x2x64) transposes_S2048x2x64_S2x2048x64_1_0_2 (ix3 g (pos n j) d) : EReal)
    = dkAll ((args V0).block g) n j d := by
  rw [dkAll_eq _ rfl]
  pointwise [res_main_v132]
  refine congrArg₂ (fun a b : EReal => a + b) (v125_hi V0 n g j d hF) ?_
  by_cases hn : n.val < 15
  · rw [dif_pos hn, dif_pos (by omega)]
    exact (congrArg (fun n => (res_main_v125 V0 (ix4 n (lo j) g d) : EReal)) (Fin.ext (Nat.add_comm _ _))).trans (v125_lo V0 ⟨n.val + 1, by omega⟩ g j d hF)
  · rw [dif_neg hn, dif_neg (by omega)]
theorem dv_apply : (transpose S2x2048x64 [1, 0, 2] (shapeCast _ (shapeCast _ (addf (extractStridedSlice S16x128x2x64 ![0, 128, 0, 0] (res_main_v99 V0) slices_S16x256x2x64_S16x128x2x64_0_128_0_0) (pad S16x128x2x64 ![0, 0, 0, 0] ![1, 0, 0, 0] ![0, 0, 0, 0] (extractStridedSlice S15x128x2x64 ![1, 0, 0, 0] (res_main_v126 V0) slices_S16x128x2x64_S15x128x2x64_1_0_0_0) (constant S_ .f32 0x00000000#32) pads_S15x128x2x64_S16x128x2x64_010_000_000_000 h_S_)) shapeCasts_S16x128x2x64_S2048x128) shapeCasts_S2048x128_S2048x2x64) transposes_S2048x2x64_S2x2048x64_1_0_2 (ix3 g (pos n j) d) : EReal)
    = dvAll ((args V0).block g) n j d := by
  rw [dvAll_eq _ rfl]
  pointwise [res_main_v126]
  refine congrArg₂ (fun a b : EReal => a + b) (v99_hi V0 n g j d hF) ?_
  by_cases hn : n.val < 15
  · rw [dif_pos hn, dif_pos (by omega)]
    exact (congrArg (fun n => (res_main_v99 V0 (ix4 n (lo j) g d) : EReal)) (Fin.ext (Nat.add_comm _ _))).trans (v99_lo V0 ⟨n.val + 1, by omega⟩ g j d hF)
  · rw [dif_neg hn, dif_neg (by omega)]

end Cert.ReferenceIdeal.Attention

end
-- ==== Proof.Attention.Sinks.lean ====
/-
  The reference attention gradient read at an index: the sinks.
-/
module

public import proofs.«01_k».proof.Proof.Attention.Derivative

@[expose] public section

set_option maxRecDepth 16384
set_option maxHeartbeats 400000

noncomputable section

open Idealize.ShloMosaic Idealize.ShloMosaic.TcCoe Idealize.SL.Sem

namespace Cert.ReferenceIdeal.Attention
open Cert.ReferenceIdeal Cert.ReferenceIdeal.Gen Cert.ReferenceIdeal.Value Cert.Attn Cert.Attn.Row

variable (V0 : Valuation τ sig (Elt Ideal)) (n : Fin 16) (g : Fin 2) (h : Fin 4) (i j : Fin 128)

theorem dropped (a : S16x2x4x128x1.Idx) : reducesTo_S16x2x4x128x1_S2x4_d0_3_4.drop a = ix2 g h ↔ a 1 = g ∧ a 2 = h := by
  constructor
  · intro e
    exact ⟨Fin.ext (congrArg (fun b : S2x4.Idx => (b 0).val) e), Fin.ext (congrArg (fun b : S2x4.Idx => (b 1).val) e)⟩
  · rintro ⟨e1, e2⟩
    funext b
    refine Fin.ext ?_
    fin_cases b
    · exact congrArg Fin.val e1
    · exact congrArg Fin.val e2

theorem back (a : S16x2x4x128x1.Idx) (ha : a ∈ Finset.univ.filter fun a => reducesTo_S16x2x4x128x1_S2x4_d0_3_4.drop a = ix2 g h) : a = ix5 (a 0) g h (a 3) 0 := by
  obtain ⟨e1, e2⟩ := (dropped g h a).1 (Finset.mem_filter.1 ha).2
  funext b
  fin_cases b
  · rfl
  · exact e1
  · exact e2
  · rfl
  · exact Subsingleton.elim (α := Fin 1) _ _
theorem sum_group (Y : FVec Ideal S16x2x4x128x1 .f32) :
    @Eq EReal (Host.reduceAdd Y (constant (F := Ideal) S_ .f32 0x00000000#32) reducesTo_S16x2x4x128x1_S2x4_d0_3_4 h_S_ (ix2 g h))
      (∑ i : Fin 128, ∑ n : Fin 16, (Y (ix5 n g h i 0) : EReal)) := by
  rw [Host.reduceAdd_apply, Ideal.hostReduceAdd_def]
  unfold Ideal.hostReduceAdd
  refine (congrArg₂ (fun a b : EReal => a + b) (by simp [Ideal.ofBits, Ideal.ieee] : (Ideal.ofBits .f32 0x00000000#32 : EReal) = 0) rfl).trans ?_
  rw [zero_add, ← Fintype.sum_prod_type' (f := fun (i : Fin 128) (n : Fin 16) => (Y (ix5 n g h i 0) : EReal))]
  refine Finset.sum_bij' (fun a _ => (a 3, a 0)) (fun p _ => ix5 p.2 g h p.1 0) (fun _ _ => Finset.mem_univ _)
    (fun p _ => Finset.mem_filter.2 ⟨Finset.mem_univ _, (dropped g h _).2 ⟨rfl, rfl⟩⟩) (fun a ha => (back g h a ha).symm) (fun _ _ => rfl)
    fun a ha => congrArg Y (back g h a ha)

theorem ds_apply (e : Fin 8) (l : Fin 128) (hF : ∀ n g h i, ((blk V0 n g).row h i).Finite) : (broadcastInDim S8x8x128 ![0, 1, 2] bcast_S8x1x1_S8x8x128_0_1_2 (broadcastInDim S8x1x1 ![0] bcast_S8_S8x1x1_0 (shapeCast _ (broadcastInDim S1x2x4x1x1 ![1, 2] bcast_S2x4_S1x2x4x1x1_1_2 (Host.reduceAdd (extractStridedSlice S16x2x4x128x1 ![0, 0, 0, 0, 256] (res_main_v112 V0) slices_S16x2x4x128x257_S16x2x4x128x1_0_0_0_0_256) (constant S_ .f32 0x00000000#32) reducesTo_S16x2x4x128x1_S2x4_d0_3_4 h_S_)) shapeCasts_S1x2x4x1x1_S8)) (ix3 (head g h) e l) : EReal)
    = (args V0).ds (head g h) := by
  generalize hY : Host.reduceAdd (F := Ideal) _ _ _ _ = Y
  rw [Args.ds_at]
  pointwise
  rw [← hY]
  refine (sum_group g h _).trans (sum_same fun i => sum_same fun n => ?_)
  pointwise
  exact v112_sink V0 n g h i (hF n g h i)

end Cert.ReferenceIdeal.Attention

end
-- ==== Proof.Attention.Finite.lean ====
/-
  Where the queries, the keys and the sinks are finite, every row of scores is.
-/
module

public import proofs.«01_k».proof.Proof.Attention.Whole
public import proofs.«01_k».proof.Pre_finite_scores
public import Idealize.ShloMosaic.Lib.ReduceAll

@[expose] public section

noncomputable section

namespace Cert.Attn

open Idealize.ShloMosaic

/-- Queries, keys and sinks are real numbers. -/
structure Args.Real (A : Args) : Prop where
  q : ∀ s j, ∃ x : ℝ, A.q s j = x
  k : ∀ s j, ∃ x : ℝ, A.k s j = x
  sink : ∀ r, ∃ x : ℝ, A.sink r = x

/-- A score of real queries and keys is real. -/
theorem score_real (a b : Fin 64 → EReal) (ha : ∀ d, ∃ x : ℝ, a d = x) (hb : ∀ d, ∃ x : ℝ, b d = x) (r : Fin 8) (z : ℝ) :
    (∑ d, a d * b d) * eighth - headSlope r * (z : EReal) ≠ ⊤ := by
  choose x hx using ha
  choose y hy using hb
  rw [sum_real _ _ (fun d => x d * y d) fun d _ => by rw [hx, hy, EReal.coe_mul]]
  unfold headSlope
  rw [← EReal.coe_mul, ← EReal.coe_mul, ← EReal.coe_sub]
  exact EReal.coe_ne_top _

theorem Args.Real.finite {A : Args} (hA : A.Real) (g : Fin 2) (n : Fin 16) (h : Fin 4) (i : Fin 128) : ((A.block g n).row h i).Finite where
  prev j := by
    unfold Block.row
    dsimp only
    split_ifs
    · exact score_real _ _ (fun _ => hA.q _ _) (fun _ => hA.k _ _) _ _
    · exact bot_ne_top
  own j := by
    unfold Block.row
    dsimp only
    split_ifs
    · exact score_real _ _ (fun _ => hA.q _ _) (fun _ => hA.k _ _) _ _
    · exact bot_ne_top
  sink_top := by obtain ⟨x, hx⟩ := hA.sink (head g h); exact fun e => EReal.coe_ne_top x (hx.symm.trans e)
  sink_bot := by obtain ⟨x, hx⟩ := hA.sink (head g h); exact fun e => EReal.coe_ne_bot x (hx.symm.trans e)

/-- A number whose absolute value is below infinity is real. -/
theorem real_of_abs (x : EReal) (h : FloatOps.cmpf (F := Ideal) (φ := .f32) .olt (max x (-x)) (Ideal.ofBits .f32 0x7F800000#32) = 1#1) : ∃ r : ℝ, x = r := by
  have hi : Ideal.ofBits .f32 0x7F800000#32 = ⊤ := by simp [Ideal.ofBits, Ideal.ieee]
  rw [hi] at h
  rw [Ideal.cmpf_def] at h
  unfold Ideal.cmp at h
  induction x using EReal.rec with
  | coe r => exact ⟨r, rfl⟩
  | bot => simp at h
  | top => simp at h

end Cert.Attn

namespace Cert.Pre_finite_scores
open Idealize.ShloMosaic Cert.Attn

variable [Facts]

/-- What the precondition says. -/
theorem real_of_fn (q : FVec Ideal S2048x512 .f32) (k v : FVec Ideal S2048x128 .f32) (s : FVec Ideal S8 .f32) (o : FVec Ideal S2048x512 .f32)
    (h : fn q k v s o = fun _ => 1#1) :
    (∀ i, ∃ r : ℝ, (q i : EReal) = r) ∧ (∀ i, ∃ r : ℝ, (k i : EReal) = r) ∧ ∀ i, ∃ r : ℝ, (s i : EReal) = r := by
  have : Subsingleton S_.Idx := ⟨fun a b => funext fun z => z.elim0⟩
  have h1 := congrFun h (fun z => z.elim0)
  unfold fn at h1
  dsimp only at h1
  obtain ⟨h2, h3⟩ := (by decide : ∀ a b : BitVec 1, IntOp.andi a b = 1#1 → a = 1#1 ∧ b = 1#1) _ _ h1
  obtain ⟨h4, h5⟩ := (by decide : ∀ a b : BitVec 1, IntOp.andi a b = 1#1 → a = 1#1 ∧ b = 1#1) _ _ h2
  exact ⟨fun i => real_of_abs _ (Host.reduce_andi_all _ _ _ _ _ h4 i), fun i => real_of_abs _ (Host.reduce_andi_all _ _ _ _ _ h5 i),
    fun i => real_of_abs _ (Host.reduce_andi_all _ _ _ _ _ h3 i)⟩

end Cert.Pre_finite_scores

end
-- ==== Proof.Attention.Claims.lean ====
/-
  The claims about the attention gradient: the backward call's results are the derivative's, over the extended reals, where
  the scores are finite.
-/
module

public import proofs.«01_k».proof.Defs
public import proofs.«01_k».proof.Proof.Attention.Array
public import proofs.«01_k».proof.Proof.Attention.Printed.Frame
public import proofs.«01_k».proof.Proof.Attention.Results
public import proofs.«01_k».proof.Proof.Attention.Sinks
public import proofs.«01_k».proof.Proof.Attention.Finite
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.KernelIdeal.Attention
open Cert.KernelIdeal Cert.KernelIdeal.Gen

variable (m : (ℓ : Loc nD τ sig) → Buf (Elt Ideal) ℓ) (ρ : Dev nD → PrngReg)

/-- The run with each result array named, the arguments unchanged. -/
theorem run_blocks : θ_run defs (onTc (τ := τ) (main (F := Ideal))) ⟨m, fun _ => 0, ρ⟩ fun r => ∀ c : Dev nD,
      r.2.mem ((c : Thread nD τ).loc main_v11_0) = dQ m c
      ∧ r.2.mem ((c : Thread nD τ).loc main_v11_1) = dK m c
      ∧ r.2.mem ((c : Thread nD τ).loc main_v11_2) = dV m c
      ∧ r.2.mem ((c : Thread nD τ).loc main_v11_3) = dS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans (final5 m c), ((h.1 c).1 6).trans (final6 m c),
      ((h.1 c).1 7).trans (final7 m c), ((h.1 c).1 8).trans (final8 m c), h.2 c⟩)
    (θ_run_and (run_main m ρ) (frame_of m ρ (dats m) (A_eq m) (run_main m ρ)))

end Cert.KernelIdeal.Attention

namespace Cert.Proof.Attention
open Cert.Attn

/-- The frames: both programs run to an end, and so does the reference, a run of host operations. -/
theorem frame_kernel : Cert.quiescent_Kernel := fun m ρ _ => Cert.Kernel.Attention.frame_run (F := Bits) m ρ
@[inherit_doc frame_kernel] theorem frame_ideal : Cert.quiescent_KernelIdeal := fun m ρ _ => Cert.KernelIdeal.Attention.frame_run (F := Ideal) m ρ
@[inherit_doc frame_kernel] theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run m ρ)

/-- The mask is minus infinity. -/
theorem preserves : Cert.preserves_Kernel_KernelIdeal :=
  IdealRules.named_const.statement Cert.KernelIdeal.κ "mask" .f32 0xF149F2CA#32 ⊥ rfl

variable [Cert.Pre_finite_scores.Facts]

/-- The frames where the scores are finite, as everywhere. -/
theorem frame_ideal_finite : Cert.quiescent_KernelIdeal_pre_finite_scores := fun m ρ _ => frame_ideal m ρ trivial
@[inherit_doc frame_ideal_finite] theorem frame_reference_finite : Cert.quiescent_ReferenceIdeal_pre_finite_scores := fun m ρ _ => frame_reference m ρ trivial

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- The reference starts with the kernel's arguments. -/
theorem same_args (c : Dev Cert.KernelIdeal.nD) (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Attention.args (StableHlo.launchContents m' c) = Cert.KernelIdeal.Attention.args m c := by
  obtain ⟨h0, h1, h2, h3, h4⟩ := h
  unfold Cert.ReferenceIdeal.Attention.args Cert.KernelIdeal.Attention.args
  congr 1
  · exact funext fun s => funext fun j => congrFun h0 (ix2 s j)
  · exact funext fun s => funext fun j => congrFun h1 (ix2 s j)
  · exact funext fun s => funext fun j => congrFun h2 (ix2 s j)
  · exact funext fun r => congrFun h3 (ix1 r)
  · exact funext fun s => funext fun j => congrFun h4 (ix2 s j)

/-- The kernel's arguments are real where the scores are finite. -/
theorem real_args (hpre : Cert.Pre_KernelIdeal_finite_scores m) (c : Dev Cert.KernelIdeal.nD) : (Cert.KernelIdeal.Attention.args m c).Real :=
  have h := Cert.Pre_finite_scores.real_of_fn _ _ _ _ _ (hpre c)
  ⟨fun s j => h.1 (ix2 s j), fun s j => h.2.1 (ix2 s j), fun r => h.2.2 (ix1 r)⟩

set_option maxHeartbeats 1600000 in
/-- The backward call's four results are those of the reference. -/
theorem algebraic : Cert.algebraic_KernelIdeal_ReferenceIdeal_pre_finite_scores := by
  pair_intro
  · run_from Cert.KernelIdeal.Attention.run_blocks m g
  · have same := fun c => same_args (m := m) (m' := m') c (hagree c)
    have hF : ∀ c n g h i, ((Cert.ReferenceIdeal.Attention.blk (StableHlo.launchContents m' c) n g).row h i).Finite := fun c n g h i => by
      unfold Cert.ReferenceIdeal.Attention.blk
      rw [same c]
      exact (real_args hpre c).finite g n h i
    run_from Cert.ReferenceIdeal.Value.run m' g'
    · funext i
      idx_vars i
      obtain ⟨g, h, rfl⟩ := exists_head i0
      obtain ⟨n, t, rfl⟩ := exists_pos i1
      refine (Cert.ReferenceIdeal.Attention.dq_apply _ n g h t i2 (hF c)).trans ?_
      refine .trans ?_ (Args.dq_at _ g h n t i2).symm
      exact congrArg (fun A : Args => (A.block g n).dq h t i2) (same c)
    · funext i
      idx_vars i
      obtain ⟨n, t, rfl⟩ := exists_pos i1
      refine (Cert.ReferenceIdeal.Attention.dk_apply _ n i0 t i2 (hF c)).trans ?_
      refine .trans ?_ (Args.dk_at _ i0 n t i2).symm
      exact congrArg (fun A : Args => dkAll (A.block i0) n t i2) (same c)
    · funext i
      idx_vars i
      obtain ⟨n, t, rfl⟩ := exists_pos i1
      refine (Cert.ReferenceIdeal.Attention.dv_apply _ n i0 t i2 (hF c)).trans ?_
      refine .trans ?_ (Args.dv_at _ i0 n t i2).symm
      exact congrArg (fun A : Args => dvAll (A.block i0) n t i2) (same c)
    · funext i
      idx_vars i
      obtain ⟨g, h, rfl⟩ := exists_head i0
      refine (Cert.ReferenceIdeal.Attention.ds_apply _ g h i1 i2 (hF c)).trans ?_
      exact congrArg (fun A : Args => A.ds (head g h)) (same c)

end Cert.Proof.Attention

end
-- ==== Proof.Conv.lean ====
/-
  A causal depthwise convolution of `K` taps over 2048 rows, one column at a time, and its derivative, as formulas over
  the extended reals: the values the programs are shown to compute.
-/
module

public import Idealize.ShloMosaic.Lib.Pointwise
public import Mathlib.Algebra.BigOperators.Fin

@[expose] public section

noncomputable section

open Idealize.ShloMosaic

namespace Cert.Conv

/-- The column `p` read `s` rows earlier; rows before the first are zero. -/
def before (p : Fin 2048 → EReal) (s : ℕ) (t : Fin 2048) : EReal := if h : s ≤ t.val then p ⟨t - s, by omega⟩ else 0

/-- The column `p` read `s` rows later; rows after the last are zero. -/
def later (p : Fin 2048 → EReal) (s : ℕ) (t : Fin 2048) : EReal := if h : s + t.val < 2048 then p ⟨s + t, h⟩ else 0

variable {K : ℕ} (w : Fin K → EReal) (p g : Fin 2048 → EReal)

/-- The convolution: tap `k` reads the row `K - 1 - k` rows earlier. -/
def conv (t : Fin 2048) : EReal := ∑ k : Fin K, w k * before p (K - 1 - k) t

/-- The cotangent of the convolution's input, `g` being that of its output: row `t` gathers from the rows that read it. -/
def back (t : Fin 2048) : EReal := ∑ k : Fin K, w k * later g (K - 1 - k) t

/-- The cotangent of tap `k`: over all rows, the output's cotangent times the row the tap reads. -/
def tap (k : Fin K) : EReal := ∑ t : Fin 2048, g t * before p (K - 1 - k) t

theorem before_zero (t : Fin 2048) : before p 0 t = p t := by simp [before]
theorem later_zero (t : Fin 2048) : later p 0 t = p t := by simp [later]

/-- A factor that does not depend on the row moves into the shifted column. -/
theorem mul_before (a : EReal) (s : ℕ) (t : Fin 2048) : a * before p s t = before (fun r => a * p r) s t := by
  unfold before; split <;> simp
@[inherit_doc mul_before] theorem mul_later (a : EReal) (s : ℕ) (t : Fin 2048) : a * later p s t = later (fun r => a * p r) s t := by
  unfold later; split <;> simp

/-- The comparison of a row's number with a shift, both far below the words' range. -/
theorem sge_iff (s : ℕ) (hs : s < 2048) (t : Fin 2048) : IntOp.cmpi .sge (BitVec.ofNat 32 t) (BitVec.ofNat 32 s) = 1#1 ↔ s ≤ t.val := by
  have ht := t.isLt
  have e (n : ℕ) (h : n < 2048) : (BitVec.ofNat 32 n).toInt = n := by
    rw [BitVec.toInt_ofNat']; simp only [Int.bmod]; omega
  simp only [IntOp.cmpi, BitVec.sle, e _ hs, e _ ht]
  by_cases h : s ≤ t.val <;> simp [h]
@[inherit_doc sge_iff] theorem slt_iff (s : ℕ) (hs : s ≤ 2048) (t : Fin 2048) : IntOp.cmpi .slt (BitVec.ofNat 32 t) (BitVec.ofNat 32 s) = 1#1 ↔ t.val < s := by
  have ht := t.isLt
  have e (n : ℕ) (h : n ≤ 2048) : (BitVec.ofNat 32 n).toInt = n := by
    rw [BitVec.toInt_ofNat']; simp only [Int.bmod]; omega
  simp only [IntOp.cmpi, BitVec.slt, e _ hs, e _ ht.le]
  by_cases h : t.val < s <;> simp [h]

/-- A column rotated by `s` rows and cleared in its first `s` rows is the column read `s` rows earlier. -/
theorem rotated_before (s : ℕ) (hs : s < 2048) (t : Fin 2048) (h : (↑t + 2048 - s) % 2048 < 2048) :
    Scalar.select (IntOp.cmpi .sge (BitVec.ofNat 32 t) (BitVec.ofNat 32 s)) (p ⟨(↑t + 2048 - s) % 2048, h⟩) 0 = before p s t := by
  have ht := t.isLt
  have hc := sge_iff s hs t
  unfold Scalar.select before
  change (if _ = 1#1 then _ else _) = _
  by_cases hst : s ≤ t.val
  · rw [if_pos (hc.2 hst), dif_pos hst]
    congr 2; omega
  · rw [if_neg (fun h' => hst (hc.1 h')), dif_neg hst]

/-- A column rotated by `2048 - s` rows and cleared in its last `s` rows is the column read `s` rows later. -/
theorem rotated_later (s n : ℕ) (hn : n = 2048 - s) (hs : s < 2048) (t : Fin 2048) (h : (↑t + 2048 - n) % 2048 < 2048) :
    Scalar.select (IntOp.cmpi .slt (BitVec.ofNat 32 t) (BitVec.ofNat 32 n)) (p ⟨(↑t + 2048 - n) % 2048, h⟩) 0 = later p s t := by
  have ht := t.isLt
  have hc := slt_iff n (by omega) t
  unfold Scalar.select later
  change (if _ = 1#1 then _ else _) = _
  by_cases hst : s + t.val < 2048
  · rw [if_pos (hc.2 (by omega)), dif_pos hst]
    congr 2; omega
  · rw [if_neg (fun h' => hst (by have := hc.1 h'; omega)), dif_neg hst]

/-- The same with a factor of the row in front. -/
theorem mul_rotated_before (a : EReal) (s : ℕ) (hs : s < 2048) (t : Fin 2048) (h : (↑t + 2048 - s) % 2048 < 2048) :
    Scalar.select (IntOp.cmpi .sge (BitVec.ofNat 32 t) (BitVec.ofNat 32 s)) (a * p ⟨(↑t + 2048 - s) % 2048, h⟩) 0 = a * before p s t := by
  rw [mul_before]
  exact rotated_before (fun r => a * p r) s hs t h

end Cert.Conv

end
-- ==== Proof.ShortConv.Block.lean ====
/-
  What one grid point of the short convolution's backward call leaves in its four output blocks, over arbitrary input
  blocks: the column formulas of `Cert.Conv`.
-/
module

public import proofs.«01_k».proof.Proof.Gen.Kernel2Ideal.Value
public import proofs.«01_k».proof.Proof.Conv
public import Idealize.ShloMosaic.Lib.Pipeline.ValueKit

@[expose] public section

set_option maxRecDepth 16384

noncomputable section

open Idealize.ShloMosaic Idealize.ShloMosaic.TcCoe Idealize.SL.Sem

namespace Cert.Kernel2Ideal.Short
open Cert.Kernel2Ideal Cert.Kernel2Ideal.Gen Cert.Conv

/-! `aB`, `bB`, `cB` are the blocks of the three branches, `dB` the cotangent's and `eB` the taps'. -/

variable (aB bB cB dB : FVec Ideal S2048x128 .f32) (eB : FVec Ideal S3x128 .f32)

/-- The first branch's cotangent at a row and a lane. -/
theorem out5 (r : Fin 2048) (l : Fin 128) : (out0_5 (F := Ideal) aB bB cB dB eB (ix2 r l) : EReal)
    = bB (ix2 r l) * back (fun k => eB (ix2 k l)) (fun r => cB (ix2 r l) * dB (ix2 r l)) r := by
  frame_out
  pointwise [k0_pay3, k0_pay14, k0_pay13, k0_pay12, k0_pay10, k0_pay6,k0_pay7]
  rw [rotated_later (fun r => eB (ix2 0 l) * (dB (ix2 r l) * cB (ix2 r l))) 2 2046 rfl (by omega),
    rotated_later (fun r => eB (ix2 1 l) * (dB (ix2 r l) * cB (ix2 r l))) 1 2047 rfl (by omega)]
  simp only [back, Fin.sum_univ_three, mul_later]
  rw [mul_comm, add_rotate]
  simp only [Fin.val_zero, Fin.val_one, Fin.val_two, Nat.reduceSub, later_zero, mul_comm (dB _)]

/-- The second branch's cotangent at a row and a lane. -/
theorem out6 (r : Fin 2048) (l : Fin 128) : (out0_6 (F := Ideal) aB bB cB dB eB (ix2 r l) : EReal)
    = aB (ix2 r l) * back (fun k => eB (ix2 k l)) (fun r => cB (ix2 r l) * dB (ix2 r l)) r :=
  out5 bB aB cB dB eB r l

/-- The gate's cotangent at a row and a lane. -/
theorem out7 (r : Fin 2048) (l : Fin 128) : (out0_7 (F := Ideal) aB bB cB dB eB (ix2 r l) : EReal)
    = dB (ix2 r l) * conv (fun k => eB (ix2 k l)) (fun r => bB (ix2 r l) * aB (ix2 r l)) r := by
  frame_out
  pointwise [k0_pay5, k0_pay4]
  rw [rotated_before (fun r => eB (ix2 0 l) * (bB (ix2 r l) * aB (ix2 r l))) 2 (by omega),
    rotated_before (fun r => eB (ix2 1 l) * (bB (ix2 r l) * aB (ix2 r l))) 1 (by omega)]
  simp only [conv, Fin.sum_univ_three, mul_before]
  rw [add_rotate]
  simp only [Fin.val_zero, Fin.val_one, Fin.val_two, Nat.reduceSub, before_zero]

/-- The rows of taps, each one sum over the rows. -/
theorem row1 (p g : FVec Ideal S2048x128 .f32) (u : Fin 1) (l : Fin 128) : (k0_pay1 (F := Ideal) p g k0_pay11 (ix2 u l) : EReal)
    = tap (K := 3) (fun r => p (ix2 r l)) (fun r => g (ix2 r l)) 1 := by
  pointwise [k0_pay1, k0_pay11]
  exact Finset.sum_congr rfl fun t _ => mul_rotated_before (fun r => p (ix2 r l)) _ 1 (by omega) t _
@[inherit_doc row1] theorem row0 (p g : FVec Ideal S2048x128 .f32) (u : Fin 1) (l : Fin 128) : (k0_pay9 (F := Ideal) p g (ix2 u l) : EReal)
    = tap (K := 3) (fun r => p (ix2 r l)) (fun r => g (ix2 r l)) 0 := by
  pointwise [k0_pay9]
  exact Finset.sum_congr rfl fun t _ => mul_rotated_before (fun r => p (ix2 r l)) _ 2 (by omega) t _
@[inherit_doc row1] theorem row2 (p g : FVec Ideal S2048x128 .f32) (u : Fin 1) (l : Fin 128) : (k0_pay8 (F := Ideal) p g (ix2 u l) : EReal)
    = tap (K := 3) (fun r => p (ix2 r l)) (fun r => g (ix2 r l)) 2 := by
  pointwise [k0_pay8]
  exact Finset.sum_congr rfl fun t _ => congrArg _ (before_zero (fun r => p (ix2 r l)) t).symm

/-- The taps' cotangents at a lane. -/
theorem out8 (k : Fin 3) (l : Fin 128) : (out0_8 (F := Ideal) aB bB cB dB eB (ix2 k l) : EReal)
    = tap (fun r => bB (ix2 r l) * aB (ix2 r l)) (fun r => cB (ix2 r l) * dB (ix2 r l)) k := by
  have hg : (fun r => k0_pay13 (F := Ideal) aB bB cB dB eB (ix2 r l)) = fun r => cB (ix2 r l) * dB (ix2 r l) := by
    funext r; pointwise [k0_pay13, k0_pay6]; exact mul_comm _ _
  have hp : (fun r => k0_pay12 (F := Ideal) aB bB cB dB eB (ix2 r l)) = fun r => bB (ix2 r l) * aB (ix2 r l) := by
    funext r; pointwise [k0_pay12, k0_pay4]
  rw [← hg, ← hp]
  frame_out
  canon_tiles x h
  all_goals
    idx_vars x
    change (k : ℕ) = _ at h0; change (l : ℕ) = _ at h1
    obtain rfl : x1 = l := Fin.ext h1.symm
  · obtain rfl : k = 1 := by omega
    exact row1 _ _ x0 x1
  · obtain rfl : k = 0 := by omega
    exact row0 _ _ x0 x1
  · obtain rfl : k = 2 := by omega
    exact row2 _ _ x0 x1

end Cert.Kernel2Ideal.Short

end
-- ==== Proof.ShortConv.Array.lean ====
/-
  The result arrays of the short convolution's backward call after the run, as formulas over its argument arrays.
-/
module

public import proofs.«01_k».proof.Proof.ShortConv.Block

@[expose] public section

set_option maxRecDepth 16384

noncomputable section

open Idealize.ShloMosaic Idealize.ShloMosaic.TcCoe Idealize.SL.Sem

namespace Cert.Kernel2Ideal.Short
open Cert.Kernel2Ideal Cert.Kernel2Ideal.Gen Cert.Conv

variable (m : (ℓ : Loc nD τ sig) → Buf (Elt Ideal) ℓ) (c : Dev nD)

/-- The projection, the taps and the cotangent that device `c` starts with. -/
def P : FVec Ideal S2048x8448 .f32 := m ((c : Thread nD τ).loc main_arg0)
@[inherit_doc P] def W : FVec Ideal S3x512 .f32 := m ((c : Thread nD τ).loc main_arg1)
@[inherit_doc P] def Y : FVec Ideal S2048x512 .f32 := m ((c : Thread nD τ).loc main_arg2)

/-- The convolution's input and the cotangent of its output, column `j`. -/
def inner (j : Fin 512) (r : Fin 2048) : EReal := P m c (ix2 r ⟨1536 + j, by omega⟩) * P m c (ix2 r ⟨1024 + j, by omega⟩)
@[inherit_doc inner] def gated (j : Fin 512) (r : Fin 2048) : EReal := P m c (ix2 r ⟨2048 + j, by omega⟩) * Y m c (ix2 r j)

/-- The four results: the cotangents of the two inner branches, of the gate and of the taps. -/
def dV : FVec Ideal S2048x512 .bf16 := fun i => (fun (t : Fin 2048) (j : Fin 512) =>
  P m c (ix2 t ⟨1536 + j, by omega⟩) * back (fun k => W m c (ix2 k j)) (gated m c j) t) (i 0) (i 1)
@[inherit_doc dV] def dC : FVec Ideal S2048x512 .bf16 := fun i => (fun (t : Fin 2048) (j : Fin 512) =>
  P m c (ix2 t ⟨1024 + j, by omega⟩) * back (fun k => W m c (ix2 k j)) (gated m c j) t) (i 0) (i 1)
@[inherit_doc dV] def dB : FVec Ideal S2048x512 .bf16 := fun i => (fun (t : Fin 2048) (j : Fin 512) =>
  Y m c (ix2 t j) * conv (fun k => W m c (ix2 k j)) (inner m c j) t) (i 0) (i 1)
@[inherit_doc dV] def dW : FVec Ideal S3x512 .f32 := fun i => (fun (k : Fin 3) (j : Fin 512) =>
  tap (inner m c j) (gated m c j) k) (i 0) (i 1)

/-- Where each window's block lies: all rows, at the branch's first lane block plus the point's number. -/
theorem idx : ∀ t : Fin cfg0.N, win0_0.index t = ![0, t.val + 8] ∧ win0_1.index t = ![0, t.val + 12] ∧ win0_2.index t = ![0, t.val + 16] ∧ win0_3.index t = ![0, t.val]
    ∧ win0_4.index t = ![0, t.val] ∧ win0_5.index t = ![0, t.val] ∧ win0_6.index t = ![0, t.val] ∧ win0_7.index t = ![0, t.val] ∧ win0_8.index t = ![0, t.val] :=
  (by decide +kernel : ∀ t : Fin grid0.N, _)

variable (t : Fin cfg0.N)
/-- The array's column under lane `l` of the point's block. -/
theorem lt4 (l : Fin 128) : t.val * 128 + l < 512 := by have := lt_of_lt_of_eq t.isLt N_0; omega
@[inherit_doc lt4] abbrev col (l : Fin 128) : Fin 512 := ⟨t.val * 128 + l, lt4 t l⟩

/-- A block of the projection read at a row and a lane: the array's column 128 lanes per point from the branch's first. -/
theorem rd0 (r : Fin 2048) (l : Fin 128) : iblk m c 0 t (ix2 r l) = P m c (ix2 r ⟨1024 + col t l, by omega⟩) := by
  unfold P; blk_ext [iblk, V, idx t]
@[inherit_doc rd0] theorem rd1 (r : Fin 2048) (l : Fin 128) : iblk m c 1 t (ix2 r l) = P m c (ix2 r ⟨1536 + col t l, by omega⟩) := by
  unfold P; blk_ext [iblk, V, idx t]
@[inherit_doc rd0] theorem rd2 (r : Fin 2048) (l : Fin 128) : iblk m c 2 t (ix2 r l) = P m c (ix2 r ⟨2048 + col t l, by omega⟩) := by
  unfold P; blk_ext [iblk, V, idx t]
@[inherit_doc rd0] theorem rd3 (r : Fin 2048) (l : Fin 128) : iblk m c 3 t (ix2 r l) = Y m c (ix2 r (col t l)) := by
  unfold Y; blk_ext [iblk, V, idx t]
@[inherit_doc rd0] theorem rd4 (r : Fin 3) (l : Fin 128) : iblk m c 4 t (ix2 r l) = W m c (ix2 r (col t l)) := by
  unfold W; blk_ext [iblk, V, idx t]
/-- Where a block's row and lane lie in the result arrays. -/
theorem emb5 (r : Fin 2048) (l : Fin 128) : ((cfg0.win 5).blk t).view.emb (ix2 r l) = (ix2 r (col t l) : S2048x512.Idx) := by
  blk_ext [idx t]
@[inherit_doc emb5] theorem emb6 (r : Fin 2048) (l : Fin 128) : ((cfg0.win 6).blk t).view.emb (ix2 r l) = (ix2 r (col t l) : S2048x512.Idx) := by
  blk_ext [idx t]
@[inherit_doc emb5] theorem emb7 (r : Fin 2048) (l : Fin 128) : ((cfg0.win 7).blk t).view.emb (ix2 r l) = (ix2 r (col t l) : S2048x512.Idx) := by
  blk_ext [idx t]
@[inherit_doc emb5] theorem emb8 (r : Fin 3) (l : Fin 128) : ((cfg0.win 8).blk t).view.emb (ix2 r l) = (ix2 r (col t l) : S3x512.Idx) := by
  blk_ext [idx t]

/-- The result arrays after the run. -/
theorem final5 : (dats m 0 c).arrAt 5 (cfgs 0).N = dV m c := by
  refine (dats m 0 c).arrAt_eq_of_covers 5 _ (by decide +kernel) fun t _ y => ?_
  blk_simp
  rw [after0_5]
  idx_vars y
  refine (out5 _ _ _ _ _ y0 y1).trans ?_
  refine .trans ?_ (congrArg (dV m c) (emb5 t y0 y1)).symm
  simp only [rd0, rd1, rd2, rd3, rd4]
  rfl

@[inherit_doc final5] theorem final6 : (dats m 0 c).arrAt 6 (cfgs 0).N = dC m c := by
  refine (dats m 0 c).arrAt_eq_of_covers 6 _ (by decide +kernel) fun t _ y => ?_
  blk_simp
  rw [after0_6]
  idx_vars y
  refine (out6 _ _ _ _ _ y0 y1).trans ?_
  refine .trans ?_ (congrArg (dC m c) (emb6 t y0 y1)).symm
  simp only [rd0, rd1, rd2, rd3, rd4]
  rfl

@[inherit_doc final5] theorem final7 : (dats m 0 c).arrAt 7 (cfgs 0).N = dB m c := by
  refine (dats m 0 c).arrAt_eq_of_covers 7 _ (by decide +kernel) fun t _ y => ?_
  blk_simp
  rw [after0_7]
  idx_vars y
  refine (out7 _ _ _ _ _ y0 y1).trans ?_
  refine .trans ?_ (congrArg (dB m c) (emb7 t y0 y1)).symm
  simp only [rd0, rd1, rd2, rd3, rd4]
  rfl

@[inherit_doc final5] theorem final8 : (dats m 0 c).arrAt 8 (cfgs 0).N = dW m c := by
  refine (dats m 0 c).arrAt_eq_of_covers 8 _ (by decide +kernel) fun t _ y => ?_
  blk_simp
  rw [after0_8]
  idx_vars y
  refine (out8 _ _ _ _ _ y0 y1).trans ?_
  refine .trans ?_ (congrArg (dW m c) (emb8 t y0 y1)).symm
  simp only [rd0, rd1, rd2, rd3, rd4]
  rfl

end Cert.Kernel2Ideal.Short

end
-- ==== Proof.ShortConv.Claims.lean ====
/-
  The claims about the short gated convolution: the backward call's results are the derivative's, over the extended reals.
-/
module

public import proofs.«01_k».proof.Defs
public import proofs.«01_k».proof.Proof.ShortConv.Array
public import proofs.«01_k».proof.Proof.Gen.Kernel2.Frame
public import proofs.«01_k».proof.Proof.Gen.Reference2Ideal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Conv

/-- Three taps, as the reference adds them up. -/
theorem back_three (w : Fin 3 → EReal) (g : Fin 2048 → EReal) (t : Fin 2048) :
    back w g t = w 2 * g t + later (fun r => w 1 * g r) 1 t + later (fun r => w 0 * g r) 2 t := by
  simp only [back, Fin.sum_univ_three, mul_later, Fin.val_zero, Fin.val_one, Fin.val_two, Nat.reduceSub, later_zero]
  rw [add_comm, add_assoc, add_comm (later _ 2 t)]
@[inherit_doc back_three] theorem conv_three (w : Fin 3 → EReal) (p : Fin 2048 → EReal) (t : Fin 2048) :
    conv w p t = w 0 * before p 2 t + w 1 * before p 1 t + w 2 * p t := by
  simp only [conv, Fin.sum_univ_three, Fin.val_zero, Fin.val_one, Fin.val_two, Nat.reduceSub, before_zero]

/-- A row read through a padded array whose padding is two rows in all. -/
theorem padded_later (f : Fin 2048 → EReal) (t : Fin 2048) :
    (if h : 1 ≤ 2 + t.val ∧ 2 + t.val - 1 < 2048 then f ⟨2 + t - 1, h.2⟩ else 0) = later f 1 t := by
  unfold later
  by_cases h : 1 + t.val < 2048
  · rw [dif_pos h, dif_pos (by omega)]; congr 2; omega
  · rw [dif_neg h, dif_neg (by omega)]
@[inherit_doc padded_later] theorem padded_before (f : Fin 2048 → EReal) (s n : ℕ) (hs : n + s = 2) (t : Fin 2048) (h' : ¬ n + t.val < 2 → n + t.val - 2 < 2048) :
    (if h : n + t.val < 2 then 0 else f ⟨n + t - 2, h' h⟩) = before f s t := by
  unfold before
  by_cases h : n + t.val < 2
  · rw [dif_pos h, dif_neg (by omega)]
  · rw [dif_neg h, dif_pos (by omega)]; congr 2; omega

/-- The sum over all rows of a factor times the column read two rows earlier, its first two terms apart. -/
theorem sum_before (g p : Fin 2048 → EReal) :
    ∑ x : Fin 2, g ⟨x, by omega⟩ * 0 + ∑ x : Fin 2046, g ⟨2 + x, by omega⟩ * p ⟨x, by omega⟩ = ∑ t : Fin 2048, g t * before p 2 t := by
  rw [Fin.sum_univ_two_halves 2 2046 rfl]
  refine congrArg₂ (· + ·) (Finset.sum_congr rfl fun x _ => ?_) (Finset.sum_congr rfl fun x _ => ?_)
  · unfold before; rw [dif_neg (by simp; omega)]
  · unfold before; rw [dif_pos (by simp)]; simp

end Cert.Conv

namespace Cert.Proof.Short
open Cert.Conv

/-- The frames: both programs of the backward call have generated runs, the reference is a run of host operations. -/
theorem frame_kernel : Cert.quiescent_Kernel2 := fun m ρ _ => Cert.Kernel2.Gen.frame m ρ
@[inherit_doc frame_kernel] theorem frame_ideal : Cert.quiescent_Kernel2Ideal := fun m ρ _ => Cert.Kernel2Ideal.Gen.frame m ρ
@[inherit_doc frame_kernel] theorem frame_reference : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run m ρ)

/-- No operation of the backward call is replaced. -/
theorem preserves : Cert.preserves_Kernel2_Kernel2Ideal := trivial

set_option maxHeartbeats 1600000 in
/-- The backward call's four results are those of the reference. -/
theorem algebraic : Cert.algebraic_Kernel2Ideal_Reference2Ideal := by
  pair_intro
  · run_from Cert.Kernel2Ideal.Value.run_blocks m g
  · run_from Cert.Reference2Ideal.Value.run m' g'
    · refine .trans ?_ (Cert.Kernel2Ideal.Short.final5 m c).symm
      funext i
      idx_vars i
      pointwise
      refine congrArg₂ (· * ·) rfl (.trans ?_ (back_three (fun k => Cert.Kernel2Ideal.Short.W m c (ix2 k i1)) (Cert.Kernel2Ideal.Short.gated m c i1) i0).symm)
      refine congrArg₂ (· + ·) (congrArg₂ (· + ·) rfl ?_) rfl
      exact padded_later (fun r => Cert.Kernel2Ideal.Short.W m c (ix2 1 i1) * Cert.Kernel2Ideal.Short.gated m c i1 r) i0
    · refine .trans ?_ (Cert.Kernel2Ideal.Short.final6 m c).symm
      funext i
      idx_vars i
      pointwise
      refine (mul_comm _ _).trans ?_
      refine congrArg₂ (· * ·) rfl (.trans ?_ (back_three (fun k => Cert.Kernel2Ideal.Short.W m c (ix2 k i1)) (Cert.Kernel2Ideal.Short.gated m c i1) i0).symm)
      refine congrArg₂ (· + ·) (congrArg₂ (· + ·) rfl ?_) rfl
      exact padded_later (fun r => Cert.Kernel2Ideal.Short.W m c (ix2 1 i1) * Cert.Kernel2Ideal.Short.gated m c i1 r) i0
    · refine .trans ?_ (Cert.Kernel2Ideal.Short.final7 m c).symm
      funext i
      idx_vars i
      pointwise
      refine congrArg₂ (· * ·) rfl (.trans ?_ (conv_three (fun k => Cert.Kernel2Ideal.Short.W m c (ix2 k i1)) (Cert.Kernel2Ideal.Short.inner m c i1) i0).symm)
      refine congrArg₂ (· + ·) (congrArg₂ (· + ·) (congrArg₂ (· * ·) rfl ?_) (congrArg₂ (· * ·) rfl ?_)) rfl
      · have h := padded_before (Cert.Kernel2Ideal.Short.inner m c i1) 2 0 rfl i0 (by omega)
        simp only [Nat.zero_add] at h
        exact h
      · exact padded_before (Cert.Kernel2Ideal.Short.inner m c i1) 1 1 rfl i0 (by omega)
    · refine .trans ?_ (Cert.Kernel2Ideal.Short.final8 m c).symm
      funext i
      idx_vars i
      pointwise
      fin_vals i0 with hk
      all_goals
        simp only [hk, Nat.reduceSub, Nat.reduceLT, Nat.reduceLeDiff, and_true, true_and, and_false, false_and, ↓reduceDIte, zero_add, add_zero, Fin.sum_univ_one]
      · obtain rfl : i0 = 0 := Fin.ext hk
        exact sum_before (Cert.Kernel2Ideal.Short.gated m c i1) (Cert.Kernel2Ideal.Short.inner m c i1)
      · obtain rfl : i0 = 1 := Fin.ext hk
        exact Finset.sum_congr rfl fun t _ => congrArg _ (padded_before (Cert.Kernel2Ideal.Short.inner m c i1) 1 1 rfl t (by omega))
      · obtain rfl : i0 = 2 := Fin.ext hk
        exact Finset.sum_congr rfl fun t _ => congrArg _ (before_zero (Cert.Kernel2Ideal.Short.inner m c i1) t).symm

end Cert.Proof.Short

end
-- ==== Proof.Product.InputWeight.lean ====
/-
  The input projection's weight gradient, written into its rows of the gradient arena: every entry of those rows is the sum over the
  tokens of the cotangent's column times the normalised input's column, and the arena's other rows stay.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Kernel3Ideal.Product
open Cert.Kernel3Ideal Cert.Kernel3Ideal.Gen

variable (m : (ℓ : Loc nD τ sig) → Buf (Elt Ideal) ℓ) (c : Dev nD)

/-- The cotangent of the projection, the normalised input and the gradient arena that device `c` starts with. -/
def D : FVec Ideal S2048x8448 .bf16 := m ((c : Thread nD τ).loc main_arg0)
@[inherit_doc D] def X : FVec Ideal S2048x1024 .bf16 := m ((c : Thread nD τ).loc main_arg1)
@[inherit_doc D] def A : FVec Ideal S19968x1024 .bf16 := m ((c : Thread nD τ).loc main_arg2)

/-- The gradient at weight row `j` and model column `l`, and the arena's row `r` once it is written. -/
def grad (j : Fin 8448) (l : Fin 1024) : EReal := ∑ k : Fin 2048, D m c (ix2 k j) * X m c (ix2 k l)
@[inherit_doc grad] def Z : FVec Ideal S19968x1024 .bf16 := fun i => (fun (r : Fin 19968) (l : Fin 1024) =>
  grad m c ⟨(r - 8448) % 8448, Nat.mod_lt _ (by decide)⟩ l) (i 0) (i 1)

/-- Where each window's block lies: 768 columns of the cotangent per point, the whole input, 768 rows of the arena from its eleventh block. -/
theorem idx : ∀ t : Fin cfg0.N, win0_0.index t = ![0, t.val] ∧ win0_1.index t = ![0, 0] ∧ win0_2.index t = ![11 + t.val, 0] :=
  (by decide +kernel : ∀ t : Fin grid0.N, _)

variable (t : Fin cfg0.N)
/-- The weight row under row `r` of the point's block. -/
theorem lt (r : Fin 768) : t.val * 768 + r < 8448 := by have := lt_of_lt_of_eq t.isLt N_0; omega
@[inherit_doc lt] abbrev row (r : Fin 768) : Fin 8448 := ⟨t.val * 768 + r, lt t r⟩

/-- The blocks read at a row and a column, and where a block's row lies in the arena. -/
theorem rd0 (k : Fin 2048) (r : Fin 768) : iblk m c 0 t (ix2 k r) = D m c (ix2 k (row t r)) := by
  refine .trans ?_ (congrFun (V_main_arg0 m c) _)
  blk_ext [iblk, idx t]
@[inherit_doc rd0] theorem rd1 (k : Fin 2048) (l : Fin 1024) : iblk m c 1 t (ix2 k l) = X m c (ix2 k l) := by
  refine .trans ?_ (congrFun (V_main_arg1 m c) _)
  blk_ext [iblk, idx t]
@[inherit_doc rd0] theorem emb2 (r : Fin 768) (l : Fin 1024) : ((cfg0.win 2).blk t).view.emb (ix2 r l) = (ix2 ⟨8448 + row t r, by omega⟩ l : S19968x1024.Idx) := by
  blk_ext [idx t]

/-- A block of the gradient: the product of the two blocks. -/
theorem tile (d : Vec Ideal S2048x768 .bf16) (x : Vec Ideal S2048x1024 .bf16) (r : Fin 768) (l : Fin 1024) :
    k0_pay1 (F := Ideal) d x (ix2 r l) = ∑ k : Fin 2048, d (ix2 k r) * x (ix2 k l) := by
  pointwise [k0_pay1]

/-- The arena the run starts writing into is a copy of the one it was given. -/
theorem copied : V m c main_v0 = A m c := by
  unfold A; simp only [V, hostOps0]; after_results; rfl

/-- The arena after the run. -/
theorem final2 : (dats m 0 c).arrAt 2 (cfgs 0).N
    = fun i => if 11 ≤ (i 0 : ℕ) / 768 ∧ (i 0 : ℕ) / 768 < 22 then Z m c i else V m c main_v0 i := by
  refine (dats m 0 c).arrAt_eq_of_coversWhere 2 _ (fun β => 11 ≤ β (0 : Fin 2) ∧ β (0 : Fin 2) < 22) (by decide +kernel)
    (fun t hf y => ?_) (fun j => Iff.rfl)
  blk_simp
  rw [after0_2]
  unfold outsAt0
  frame_out
  idx_vars y
  refine (tile _ _ y0 y1).trans ?_
  refine .trans ?_ (congrArg (Z m c) (emb2 t y0 y1)).symm
  simp only [rd0, rd1]
  exact congrArg (grad m c · y1) (Fin.ext (by have := lt t y0; show t.val * 768 + y0.val = (8448 + (t.val * 768 + y0.val) - 8448) % 8448; omega))

/-- The arena after the run, in the weight's rows and in the others. -/
theorem inside (r : Fin 19968) (l : Fin 1024) (h : ¬(r : ℕ) < 8448) (h' : (r : ℕ) - 8448 < 8448) :
    ((dats m 0 c).arrAt 2 (cfgs 0).N (ix2 r l) : EReal) = grad m c ⟨r - 8448, h'⟩ l := by
  refine (congrFun (final2 m c) (ix2 r l)).trans ((if_pos (show 11 ≤ (r : ℕ) / 768 ∧ (r : ℕ) / 768 < 22 by omega)).trans ?_)
  exact congrArg (grad m c · l) (Fin.ext (Nat.mod_eq_of_lt h'))
@[inherit_doc inside] theorem outside (r : Fin 19968) (l : Fin 1024) (h : (r : ℕ) < 8448 ∨ ¬(r : ℕ) - 8448 < 8448) :
    (dats m 0 c).arrAt 2 (cfgs 0).N (ix2 r l) = A m c (ix2 r l) :=
  ((congrFun (final2 m c) (ix2 r l)).trans (if_neg (show ¬(11 ≤ (r : ℕ) / 768 ∧ (r : ℕ) / 768 < 22) by omega))).trans
    (congrFun (copied m c) _)

end Cert.Kernel3Ideal.Product

namespace Cert.Proof.InputWeight

/-- The frames: both programs of the call have generated runs, the reference is a run of host operations. -/
theorem frame_kernel : Cert.quiescent_Kernel3 := fun m ρ _ => Cert.Kernel3.Gen.frame m ρ
@[inherit_doc frame_kernel] theorem frame_ideal : Cert.quiescent_Kernel3Ideal := fun m ρ _ => Cert.Kernel3Ideal.Gen.frame m ρ
@[inherit_doc frame_kernel] theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- No operation of the call is replaced. -/
theorem preserves : Cert.preserves_Kernel3_Kernel3Ideal := trivial

/-- The call's result is that of the reference. -/
theorem algebraic : Cert.algebraic_Kernel3Ideal_Reference3Ideal := by
  pair_intro
  · run_from Cert.Kernel3Ideal.Value.run_blocks m g
  · run_from Cert.Reference3Ideal.Value.run m' g'
    funext i
    idx_vars i
    by_cases h : (i0 : ℕ) < 8448
    · refine .trans ?_ (Cert.Kernel3Ideal.Product.outside m c i0 i1 (.inl h)).symm
      pointwise
      exact (dif_pos h).trans (congrFun (hagree c).2.2 _)
    by_cases h' : (i0 : ℕ) - 8448 < 8448
    · refine .trans ?_ (Cert.Kernel3Ideal.Product.inside m c i0 i1 h h').symm
      pointwise
      rw [dif_neg h, dif_pos h']
      rfl
    · refine .trans ?_ (Cert.Kernel3Ideal.Product.outside m c i0 i1 (.inr h')).symm
      pointwise
      rw [dif_neg h, dif_neg h']
      have e : (⟨16896 + ((i0 : ℕ) - 8448 - 8448), by omega⟩ : Fin 19968) = i0 := Fin.ext (by simp only; omega)
      rw [e]
      exact congrFun (hagree c).2.2 _

end Cert.Proof.InputWeight

end
-- ==== Proof.Product.InputCotangent.lean ====
/-
  The cotangent of the input projection's input: every entry is the sum over the 8448 weight rows of the projection's cotangent times
  the weight, gathered in three steps of 2816 rows each.
-/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Kernel4Ideal.Product
open Cert.Kernel4Ideal Cert.Kernel4Ideal.Gen

variable (m : (ℓ : Loc nD τ sig) → Buf (Elt Ideal) ℓ) (c : Dev nD)

/-- The cotangent of the projection and the weight arena that device `c` starts with. -/
def D : FVec Ideal S2048x8448 .bf16 := m ((c : Thread nD τ).loc main_arg0)
@[inherit_doc D] def A : FVec Ideal S19968x1024 .bf16 := m ((c : Thread nD τ).loc main_arg1)

/-- The result: the cotangent's row `t` times the weight's column `l`. -/
def Z : FVec Ideal S2048x1024 .f32 := fun i => (fun (t : Fin 2048) (l : Fin 1024) =>
  ∑ k : Fin 8448, D m c (ix2 t k) * A m c (ix2 ⟨8448 + k, by omega⟩ l)) (i 0) (i 1)

/-- Where each window's block lies: of every three points one walks the weight's rows, and the column block moves on after three. -/
theorem idx : ∀ t : Fin cfg0.N, win0_0.index t = ![0, t.val % 3] ∧ win0_1.index t = ![3 + t.val % 3, t.val / 3] ∧ win0_2.index t = ![0, t.val / 3] :=
  (by decide +kernel : ∀ t : Fin grid0.N, _)

variable (t : Fin cfg0.N)
/-- The result's column under lane `l` of the point's block, and the weight row under row `k`. -/
theorem lt (l : Fin 256) : t.val / 3 * 256 + l < 1024 := by have := lt_of_lt_of_eq t.isLt N_0; omega
@[inherit_doc lt] abbrev col (l : Fin 256) : Fin 1024 := ⟨t.val / 3 * 256 + l, lt t l⟩
@[inherit_doc lt] abbrev row (k : Fin 2816) : Fin 8448 := ⟨t.val % 3 * 2816 + k, by omega⟩

/-- The blocks read at a row and a column, and where a block's column lies in the result. -/
theorem rd0 (r : Fin 2048) (k : Fin 2816) : iblk m c 0 t (ix2 r k) = D m c (ix2 r (row t k)) := by
  unfold D; blk_ext [iblk, V, idx t]
@[inherit_doc rd0] theorem rd1 (k : Fin 2816) (l : Fin 256) : X0_1 m c t (ix2 k l) = A m c (ix2 ⟨8448 + row t k, by omega⟩ (col t l)) := by
  unfold A X0_1 Pipeline.Window.fill
  rw [dif_pos (moved0_1 t _)]
  blk_ext [iblk, V, idx t]
@[inherit_doc rd0] theorem emb2 (r : Fin 2048) (l : Fin 256) : ((cfg0.win 2).blk t).view.emb (ix2 r l) = (ix2 r (col t l) : S2048x1024.Idx) := by
  blk_ext [idx t]

/-- The accumulator starts at zero, and a step adds the product of the two blocks. -/
theorem start (i : S2048x256.Idx) : k0_pay1 (F := Ideal) i = 0 := by
  idx_vars i
  pointwise [k0_pay1]
@[inherit_doc start] theorem step (s : Vec Ideal S2048x256 .f32) (d : Vec Ideal S2048x2816 .bf16) (w : Vec Ideal S2816x256 .bf16) (r : Fin 2048) (l : Fin 256) :
    (k0_pay2 (F := Ideal) s d w (ix2 r l) : EReal) = s (ix2 r l) + ∑ k : Fin 2816, (d (ix2 r k) * w (ix2 k l) : EReal) := by
  pointwise [k0_pay2]

/-- What a point adds to an entry of the accumulator. -/
def part (i : S2048x256.Idx) : EReal := (fun (r : Fin 2048) (l : Fin 256) =>
  ∑ k : Fin 2816, D m c (ix2 r (row t k)) * A m c (ix2 ⟨8448 + row t k, by omega⟩ (col t l))) (i 0) (i 1)

/-- The accumulator after a point that opens a column block, and after the others. -/
theorem opens (h : t.val % 3 = 0) (i : S2048x256.Idx) : ((outsAt0 m c t.val t.isLt).2 i : EReal) = 0 + part m c t i := by
  rw [outsAt0_A m c t h (by omega)]
  frame_out
  idx_vars i
  refine (step _ _ _ i0 i1).trans ?_
  simp only [start, rd0, rd1]
  rfl
@[inherit_doc opens] theorem adds (h : ¬t.val % 3 = 0) (i : S2048x256.Idx) :
    ((outsAt0 m c t.val t.isLt).2 i : EReal) = (outsAt0 m c (t.val - 1) (Nat.lt_of_le_of_lt (Nat.sub_le _ _) t.isLt)).2 i + part m c t i := by
  by_cases h1 : t.val % 3 = 2
  · rw [outsAt0_C m c t h h1]
    frame_out
    idx_vars i
    refine (step _ _ _ i0 i1).trans ?_
    simp only [rd0, rd1]
    exact congrArg₂ (· + ·) (congrFun (Memref.IsWhole.read_unread _ _) _) rfl
  · rw [outsAt0_B m c t h h1]
    frame_out
    idx_vars i
    refine (step _ _ _ i0 i1).trans ?_
    simp only [rd0, rd1]
    exact congrArg₂ (· + ·) (congrFun (Memref.IsWhole.read_unread _ _) _) rfl

/-- At the last of its three points a column block is written back as the accumulator holds it. -/
theorem written (h : t.val % 3 = 2) : (outsAt0 m c t.val t.isLt).1 = (outsAt0 m c t.val t.isLt).2 := by
  rw [outsAt0_C m c t (by omega) h]
  frame_out

/-- The result after the run. -/
theorem final2 : (dats m 0 c).arrAt 2 (cfgs 0).N = Z m c := by
  refine (dats m 0 c).arrAt_eq_of_covers 2 _ (by decide +kernel) fun t hf y => ?_
  have h := (flush0_2 t).mp hf
  blk_simp
  rw [after0_2, written m c t h]
  idx_vars y
  refine (Pipeline.eq_sum_fin_of_reset_step_apply_of_flush (fun n h => (outsAt0 m c n h).2) 3 (fun _ => (0 : EReal)) (part m c)
    (opens m c) (adds m c) t h (ix2 y0 y1)).trans ?_
  refine .trans ?_ (congrArg (Z m c) (emb2 t y0 y1)).symm
  refine (zero_add _).trans ?_
  refine Fin.sum_mul_add_congr fun s k hl => ?_
  have hs : (3 * (t.val / 3) + s.val) % 3 = s.val := by omega
  have hc : (3 * (t.val / 3) + s.val) / 3 = t.val / 3 := by omega
  simp only [row, col, hs, hc]
  rfl

end Cert.Kernel4Ideal.Product

namespace Cert.Proof.InputCotangent

/-- The frames: both programs of the call have generated runs, the reference is a run of host operations. -/
theorem frame_kernel : Cert.quiescent_Kernel4 := fun m ρ _ => Cert.Kernel4.Gen.frame m ρ
@[inherit_doc frame_kernel] theorem frame_ideal : Cert.quiescent_Kernel4Ideal := fun m ρ _ => Cert.Kernel4Ideal.Gen.frame m ρ
@[inherit_doc frame_kernel] theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- No operation of the call is replaced. -/
theorem preserves : Cert.preserves_Kernel4_Kernel4Ideal := trivial

/-- The call's result is that of the reference. -/
theorem algebraic : Cert.algebraic_Kernel4Ideal_Reference4Ideal := by
  pair_intro
  · run_from Cert.Kernel4Ideal.Value.run_blocks m g
  · run_from Cert.Reference4Ideal.Value.run m' g'
    refine .trans ?_ (Cert.Kernel4Ideal.Product.final2 m c).symm
    funext i
    idx_vars i
    pointwise
    rfl

end Cert.Proof.InputCotangent

end
-- ==== Proof.Product.Activation.lean ====
/-
  The product that carries the layer's cotangent back through the feed-forward's last weight: every entry of the result is the sum
  over the model width of the cotangent's row times the weight's row.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Kernel5Ideal.Product
open Cert.Kernel5Ideal Cert.Kernel5Ideal.Gen

variable (m : (ℓ : Loc nD τ sig) → Buf (Elt Ideal) ℓ) (c : Dev nD)

/-- The cotangent and the weight arena that device `c` starts with. -/
def X : FVec Ideal S2048x1024 .f32 := m ((c : Thread nD τ).loc main_arg0)
@[inherit_doc X] def A : FVec Ideal S19968x1024 .bf16 := m ((c : Thread nD τ).loc main_arg1)

/-- The result: the cotangent's row `t` times the arena's row `j`. -/
def Z : FVec Ideal S2048x2816 .f32 := fun i => (fun (t : Fin 2048) (j : Fin 2816) =>
  ∑ k : Fin 1024, X m c (ix2 t k) * A m c (ix2 ⟨j, by omega⟩ k)) (i 0) (i 1)

/-- Where each window's block lies: the whole cotangent, then 256 rows of the arena and 256 columns of the result per point. -/
theorem idx : ∀ t : Fin cfg0.N, win0_0.index t = ![0, 0] ∧ win0_1.index t = ![t.val, 0] ∧ win0_2.index t = ![0, t.val] :=
  (by decide +kernel : ∀ t : Fin grid0.N, _)

variable (t : Fin cfg0.N)
/-- The result's column under lane `l` of the point's block. -/
theorem lt (l : Fin 256) : t.val * 256 + l < 2816 := by have := lt_of_lt_of_eq t.isLt N_0; omega
@[inherit_doc lt] abbrev col (l : Fin 256) : Fin 2816 := ⟨t.val * 256 + l, lt t l⟩

theorem rd0 (r : Fin 2048) (k : Fin 1024) : iblk m c 0 t (ix2 r k) = X m c (ix2 r k) := by
  unfold X; blk_ext [iblk, V, idx t]
theorem rd1 (l : Fin 256) (k : Fin 1024) : iblk m c 1 t (ix2 l k) = A m c (ix2 ⟨col t l, by omega⟩ k) := by
  unfold A; blk_ext [iblk, V, idx t]
theorem emb2 (r : Fin 2048) (l : Fin 256) : ((cfg0.win 2).blk t).view.emb (ix2 r l) = (ix2 r (col t l) : S2048x2816.Idx) := by
  blk_ext [idx t]

/-- A block of the result: the product of the two blocks. -/
theorem tile (x : Vec Ideal S2048x1024 .f32) (w : Vec Ideal S256x1024 .bf16) (r : Fin 2048) (l : Fin 256) :
    out0_2 x w (ix2 r l) = ∑ k : Fin 1024, x (ix2 r k) * w (ix2 l k) := by
  frame_out
  pointwise [k0_pay1]

theorem final2 : (dats m 0 c).arrAt 2 (cfgs 0).N = Z m c := by
  refine (dats m 0 c).arrAt_eq_of_covers 2 _ (by decide +kernel) fun t _ y => ?_
  blk_simp
  rw [after0_2]
  idx_vars y
  refine (tile _ _ y0 y1).trans ?_
  refine .trans ?_ (congrArg (Z m c) (emb2 t y0 y1)).symm
  simp only [rd0, rd1]
  rfl

end Cert.Kernel5Ideal.Product

namespace Cert.Proof.Activation

/-- The frames: both programs of the call have generated runs, the reference is a run of host operations. -/
theorem frame_kernel : Cert.quiescent_Kernel5 := fun m ρ _ => Cert.Kernel5.Gen.frame m ρ
@[inherit_doc frame_kernel] theorem frame_ideal : Cert.quiescent_Kernel5Ideal := fun m ρ _ => Cert.Kernel5Ideal.Gen.frame m ρ
@[inherit_doc frame_kernel] theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- No operation of the call is replaced. -/
theorem preserves : Cert.preserves_Kernel5_Kernel5Ideal := trivial

/-- The call's result is that of the reference. -/
theorem algebraic : Cert.algebraic_Kernel5Ideal_Reference5Ideal := by
  pair_intro
  · run_from Cert.Kernel5Ideal.Value.run_blocks m g
  · run_from Cert.Reference5Ideal.Value.run m' g'
    refine .trans ?_ (Cert.Kernel5Ideal.Product.final2 m c).symm
    funext i
    idx_vars i
    pointwise
    rfl

end Cert.Proof.Activation

end
-- ==== Proof.Product.Arena.lean ====
/-
  Rows written into an arena: what an array of rows is once a run of its row blocks holds new rows, in the two forms it is met in.
-/
module

public import Idealize.ShloMosaic.Lib.Pipeline.ValueKit

@[expose] public section

noncomputable section

namespace Cert.Arena

variable {R C : ℕ}

/-- The array `A` with the `n` rows from row `lo` on replaced by those of `G`. -/
def put (lo n : ℕ) (G : Fin n → Fin C → EReal) (A : Fin R → Fin C → EReal) (r : Fin R) (l : Fin C) : EReal :=
  if h : lo ≤ r ∧ (r : ℕ) - lo < n then G ⟨r - lo, h.2⟩ l else A r l

/-- An array whose row blocks `b` to `b + k`, of `s` rows each, are new, is the array with those rows put in. -/
theorem put_of_blocks (s b k : ℕ) (hs : 0 < s) (hk : 0 < k * s) (G : Fin (k * s) → Fin C → EReal) (A : Fin R → Fin C → EReal)
    (r : Fin R) (l : Fin C) :
    (if b ≤ (r : ℕ) / s ∧ (r : ℕ) / s < b + k then G ⟨(r - b * s) % (k * s), Nat.mod_lt _ hk⟩ l else A r l)
      = put (b * s) (k * s) G A r l := by
  have e : (b ≤ (r : ℕ) / s ∧ (r : ℕ) / s < b + k) ↔ (b * s ≤ r ∧ (r : ℕ) - b * s < k * s) := by
    rw [Nat.le_div_iff_mul_le hs, Nat.div_lt_iff_lt_mul hs, Nat.add_mul]
    omega
  unfold put
  by_cases h : b * s ≤ r ∧ (r : ℕ) - b * s < k * s
  · rw [if_pos (e.mpr h), dif_pos h]
    exact congrArg (G · l) (Fin.ext (Nat.mod_eq_of_lt h.2))
  · rw [if_neg (fun h' => h (e.mp h')), dif_neg h]

/-- That array row by row: a row above or below the new ones, and a new one. -/
theorem put_outside {lo n : ℕ} {G : Fin n → Fin C → EReal} {A : Fin R → Fin C → EReal} {r : Fin R} {l : Fin C}
    (h : (r : ℕ) < lo ∨ ¬(r : ℕ) - lo < n) : put lo n G A r l = A r l := by
  unfold put
  exact dif_neg (by omega)
@[inherit_doc put_outside] theorem put_inside {lo n : ℕ} {G : Fin n → Fin C → EReal} {A : Fin R → Fin C → EReal} {r : Fin R} {l : Fin C}
    (h : ¬(r : ℕ) < lo) (h' : (r : ℕ) - lo < n) : put lo n G A r l = G ⟨r - lo, h'⟩ l := by
  unfold put
  exact dif_pos ⟨by omega, h'⟩

end Cert.Arena

end
-- ==== Proof.Product.FeedWeights.lean ====
/-
  The feed-forward's weight gradients, each written into its rows of the gradient arena: every entry of those rows is the sum over the
  tokens of the one operand's column times the other's, and the arena's other rows stay. The gate's and the ungated branch's run the
  same body; they differ in the rows they write.
-/
module

public import proofs.«01_k».proof.Defs
public import proofs.«01_k».proof.Proof.Product.Arena
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Kernel7Ideal.Product
open Cert.Kernel7Ideal Cert.Kernel7Ideal.Gen Cert.Arena

/-- The column `j` of a cotangent times the column `l` of an input. -/
def grad (D : FVec Ideal S2048x2816 .bf16) (X : FVec Ideal S2048x1024 .bf16) (j : Fin 2816) (l : Fin 1024) : EReal :=
  ∑ k : Fin 2048, D (ix2 k j) * X (ix2 k l)

/-- A block of the gradient: the product of the two blocks. -/
theorem tile (d : Vec Ideal S2048x256 .bf16) (x : Vec Ideal S2048x1024 .bf16) (r : Fin 256) (l : Fin 1024) :
    k0_pay1 (F := Ideal) d x (ix2 r l) = ∑ k : Fin 2048, d (ix2 k r) * x (ix2 k l) := by
  pointwise [k0_pay1]

variable (m : (ℓ : Loc nD τ sig) → Buf (Elt Ideal) ℓ) (c : Dev nD)

/-- The gate's cotangent, the feed-forward's input and the gradient arena that device `c` starts with. -/
def D : FVec Ideal S2048x2816 .bf16 := m ((c : Thread nD τ).loc main_arg0)
@[inherit_doc D] def X : FVec Ideal S2048x1024 .bf16 := m ((c : Thread nD τ).loc main_arg1)
@[inherit_doc D] def A : FVec Ideal S19968x1024 .bf16 := m ((c : Thread nD τ).loc main_arg2)

/-- The rows of the gradient, as the arena holds them from row 2816 on. -/
def Z : FVec Ideal S19968x1024 .bf16 := fun i => (fun (r : Fin 19968) (l : Fin 1024) =>
  grad (D m c) (X m c) ⟨(r - 11 * 256) % (11 * 256), Nat.mod_lt _ (by decide)⟩ l) (i 0) (i 1)

/-- Where each window's block lies: 256 columns of the cotangent per point, the whole input, 256 rows of the arena from row 2816 on. -/
theorem idx : ∀ t : Fin cfg0.N, win0_0.index t = ![0, t.val] ∧ win0_1.index t = ![0, 0] ∧ win0_2.index t = ![11 + t.val, 0] :=
  (by decide +kernel : ∀ t : Fin grid0.N, _)

variable (t : Fin cfg0.N)
/-- The weight row under row `r` of the point's block. -/
theorem lt (r : Fin 256) : t.val * 256 + r < 2816 := by have := lt_of_lt_of_eq t.isLt N_0; omega
@[inherit_doc lt] abbrev row (r : Fin 256) : Fin 2816 := ⟨t.val * 256 + r, lt t r⟩

/-- The blocks read at a row and a column, and where a block's row lies in the arena. -/
theorem rd0 (k : Fin 2048) (r : Fin 256) : iblk m c 0 t (ix2 k r) = D m c (ix2 k (row t r)) := by
  refine .trans ?_ (congrFun (V_main_arg0 m c) _)
  blk_ext [iblk, idx t]
@[inherit_doc rd0] theorem rd1 (k : Fin 2048) (l : Fin 1024) : iblk m c 1 t (ix2 k l) = X m c (ix2 k l) := by
  refine .trans ?_ (congrFun (V_main_arg1 m c) _)
  blk_ext [iblk, idx t]
@[inherit_doc rd0] theorem emb2 (r : Fin 256) (l : Fin 1024) : ((cfg0.win 2).blk t).view.emb (ix2 r l) = (ix2 ⟨2816 + row t r, by omega⟩ l : S19968x1024.Idx) := by
  blk_ext [idx t]

/-- The arena the run starts writing into is a copy of the one it was given. -/
theorem copied : V m c main_v0 = A m c := by
  unfold A; simp only [V, hostOps0]; after_results; rfl

/-- The arena after the run, block by block. -/
theorem final2 : (dats m 0 c).arrAt 2 (cfgs 0).N
    = fun i => if 11 ≤ (i 0 : ℕ) / 256 ∧ (i 0 : ℕ) / 256 < 22 then Z m c i else V m c main_v0 i := by
  refine (dats m 0 c).arrAt_eq_of_coversWhere 2 _ (fun β => 11 ≤ β (0 : Fin 2) ∧ β (0 : Fin 2) < 22) (by decide +kernel)
    (fun t hf y => ?_) (fun j => Iff.rfl)
  blk_simp
  rw [after0_2]
  unfold outsAt0
  frame_out
  idx_vars y
  refine (tile _ _ y0 y1).trans ?_
  refine .trans ?_ (congrArg (Z m c) (emb2 t y0 y1)).symm
  simp only [rd0, rd1]
  exact congrArg (grad (D m c) (X m c) · y1)
    (Fin.ext (by have := lt t y0; show t.val * 256 + y0.val = (2816 + (t.val * 256 + y0.val) - 11 * 256) % (11 * 256); omega))

/-- The arena after the run: the one given, with the gradient's rows put in. -/
theorem arena (r : Fin 19968) (l : Fin 1024) : ((dats m 0 c).arrAt 2 (cfgs 0).N (ix2 r l) : EReal)
    = put 2816 2816 (grad (D m c) (X m c)) (fun r l => A m c (ix2 r l)) r l := by
  refine (congrFun (final2 m c) (ix2 r l)).trans ?_
  rw [copied]
  exact put_of_blocks 256 11 11 (by decide) (by decide) (grad (D m c) (X m c)) (fun r l => A m c (ix2 r l)) r l

end Cert.Kernel7Ideal.Product

namespace Cert.Kernel8Ideal.Product
open Cert.Kernel8Ideal Cert.Kernel8Ideal.Gen Cert.Arena
open Cert.Kernel7Ideal.Product (grad tile)

variable (m : (ℓ : Loc nD τ sig) → Buf (Elt Ideal) ℓ) (c : Dev nD)

/-- The branch's cotangent, the feed-forward's input and the gradient arena that device `c` starts with. -/
def D : FVec Ideal S2048x2816 .bf16 := m ((c : Thread nD τ).loc main_arg0)
@[inherit_doc D] def X : FVec Ideal S2048x1024 .bf16 := m ((c : Thread nD τ).loc main_arg1)
@[inherit_doc D] def A : FVec Ideal S19968x1024 .bf16 := m ((c : Thread nD τ).loc main_arg2)

/-- The rows of the gradient, as the arena holds them from row 5632 on. -/
def Z : FVec Ideal S19968x1024 .bf16 := fun i => (fun (r : Fin 19968) (l : Fin 1024) =>
  grad (D m c) (X m c) ⟨(r - 22 * 256) % (11 * 256), Nat.mod_lt _ (by decide)⟩ l) (i 0) (i 1)

/-- Where each window's block lies: as for the gate, with the arena's rows from row 5632 on. -/
theorem idx : ∀ t : Fin cfg0.N, win0_0.index t = ![0, t.val] ∧ win0_1.index t = ![0, 0] ∧ win0_2.index t = ![22 + t.val, 0] :=
  (by decide +kernel : ∀ t : Fin grid0.N, _)

variable (t : Fin cfg0.N)
/-- The weight row under row `r` of the point's block. -/
theorem lt (r : Fin 256) : t.val * 256 + r < 2816 := by have := lt_of_lt_of_eq t.isLt N_0; omega
@[inherit_doc lt] abbrev row (r : Fin 256) : Fin 2816 := ⟨t.val * 256 + r, lt t r⟩

/-- The blocks read at a row and a column, and where a block's row lies in the arena. -/
theorem rd0 (k : Fin 2048) (r : Fin 256) : iblk m c 0 t (ix2 k r) = D m c (ix2 k (row t r)) := by
  refine .trans ?_ (congrFun (V_main_arg0 m c) _)
  blk_ext [iblk, idx t]
@[inherit_doc rd0] theorem rd1 (k : Fin 2048) (l : Fin 1024) : iblk m c 1 t (ix2 k l) = X m c (ix2 k l) := by
  refine .trans ?_ (congrFun (V_main_arg1 m c) _)
  blk_ext [iblk, idx t]
@[inherit_doc rd0] theorem emb2 (r : Fin 256) (l : Fin 1024) : ((cfg0.win 2).blk t).view.emb (ix2 r l) = (ix2 ⟨5632 + row t r, by omega⟩ l : S19968x1024.Idx) := by
  blk_ext [idx t]

/-- The arena the run starts writing into is a copy of the one it was given. -/
theorem copied : V m c main_v0 = A m c := by
  unfold A; simp only [V, hostOps0]; after_results; rfl

/-- The arena after the run, block by block. -/
theorem final2 : (dats m 0 c).arrAt 2 (cfgs 0).N
    = fun i => if 22 ≤ (i 0 : ℕ) / 256 ∧ (i 0 : ℕ) / 256 < 33 then Z m c i else V m c main_v0 i := by
  refine (dats m 0 c).arrAt_eq_of_coversWhere 2 _ (fun β => 22 ≤ β (0 : Fin 2) ∧ β (0 : Fin 2) < 33) (by decide +kernel)
    (fun t hf y => ?_) (fun j => Iff.rfl)
  blk_simp
  rw [after0_2]
  unfold outsAt0
  frame_out
  idx_vars y
  refine (tile _ _ y0 y1).trans ?_
  refine .trans ?_ (congrArg (Z m c) (emb2 t y0 y1)).symm
  simp only [rd0, rd1]
  exact congrArg (grad (D m c) (X m c) · y1)
    (Fin.ext (by have := lt t y0; show t.val * 256 + y0.val = (5632 + (t.val * 256 + y0.val) - 22 * 256) % (11 * 256); omega))

/-- The arena after the run: the one given, with the gradient's rows put in. -/
theorem arena (r : Fin 19968) (l : Fin 1024) : ((dats m 0 c).arrAt 2 (cfgs 0).N (ix2 r l) : EReal)
    = put 5632 2816 (grad (D m c) (X m c)) (fun r l => A m c (ix2 r l)) r l := by
  refine (congrFun (final2 m c) (ix2 r l)).trans ?_
  rw [copied]
  exact put_of_blocks 256 22 11 (by decide) (by decide) (grad (D m c) (X m c)) (fun r l => A m c (ix2 r l)) r l

end Cert.Kernel8Ideal.Product

namespace Cert.Kernel6Ideal.Product
open Cert.Kernel6Ideal Cert.Kernel6Ideal.Gen Cert.Arena

/-- A block of the gradient: the product of the two blocks. -/
theorem tile (x : Vec Ideal S2048x256 .bf16) (d : Vec Ideal S2048x1024 .f32) (r : Fin 256) (l : Fin 1024) :
    k0_pay1 (F := Ideal) x d (ix2 r l) = ∑ k : Fin 2048, x (ix2 k r) * d (ix2 k l) := by
  pointwise [k0_pay1]

variable (m : (ℓ : Loc nD τ sig) → Buf (Elt Ideal) ℓ) (c : Dev nD)

/-- The activation, the layer's cotangent and the gradient arena that device `c` starts with. -/
def X : FVec Ideal S2048x2816 .bf16 := m ((c : Thread nD τ).loc main_arg0)
@[inherit_doc X] def D : FVec Ideal S2048x1024 .f32 := m ((c : Thread nD τ).loc main_arg1)
@[inherit_doc X] def A : FVec Ideal S19968x1024 .bf16 := m ((c : Thread nD τ).loc main_arg2)

/-- The gradient at weight row `j` and model column `l`, and its rows as the arena holds them. -/
def grad (j : Fin 2816) (l : Fin 1024) : EReal := ∑ k : Fin 2048, X m c (ix2 k j) * D m c (ix2 k l)
@[inherit_doc grad] def Z : FVec Ideal S19968x1024 .bf16 := fun i => (fun (r : Fin 19968) (l : Fin 1024) =>
  grad m c ⟨(r - 0 * 256) % (11 * 256), Nat.mod_lt _ (by decide)⟩ l) (i 0) (i 1)

/-- Where each window's block lies: 256 columns of the activation per point, the whole cotangent, 256 rows of the arena from its first on. -/
theorem idx : ∀ t : Fin cfg0.N, win0_0.index t = ![0, t.val] ∧ win0_1.index t = ![0, 0] ∧ win0_2.index t = ![t.val, 0] :=
  (by decide +kernel : ∀ t : Fin grid0.N, _)

variable (t : Fin cfg0.N)
/-- The weight row under row `r` of the point's block. -/
theorem lt (r : Fin 256) : t.val * 256 + r < 2816 := by have := lt_of_lt_of_eq t.isLt N_0; omega
@[inherit_doc lt] abbrev row (r : Fin 256) : Fin 2816 := ⟨t.val * 256 + r, lt t r⟩

/-- The blocks read at a row and a column, and where a block's row lies in the arena. -/
theorem rd0 (k : Fin 2048) (r : Fin 256) : iblk m c 0 t (ix2 k r) = X m c (ix2 k (row t r)) := by
  refine .trans ?_ (congrFun (V_main_arg0 m c) _)
  blk_ext [iblk, idx t]
@[inherit_doc rd0] theorem rd1 (k : Fin 2048) (l : Fin 1024) : iblk m c 1 t (ix2 k l) = D m c (ix2 k l) := by
  refine .trans ?_ (congrFun (V_main_arg1 m c) _)
  blk_ext [iblk, idx t]
@[inherit_doc rd0] theorem emb2 (r : Fin 256) (l : Fin 1024) : ((cfg0.win 2).blk t).view.emb (ix2 r l) = (ix2 ⟨row t r, by omega⟩ l : S19968x1024.Idx) := by
  blk_ext [idx t]

/-- The arena the run starts writing into is a copy of the one it was given. -/
theorem copied : V m c main_v0 = A m c := by
  unfold A; simp only [V, hostOps0]; after_results; rfl

/-- The arena after the run, block by block. -/
theorem final2 : (dats m 0 c).arrAt 2 (cfgs 0).N
    = fun i => if 0 ≤ (i 0 : ℕ) / 256 ∧ (i 0 : ℕ) / 256 < 11 then Z m c i else V m c main_v0 i := by
  refine (dats m 0 c).arrAt_eq_of_coversWhere 2 _ (fun β => 0 ≤ β (0 : Fin 2) ∧ β (0 : Fin 2) < 11) (by decide +kernel)
    (fun t hf y => ?_) (fun j => Iff.rfl)
  blk_simp
  rw [after0_2]
  unfold outsAt0
  frame_out
  idx_vars y
  refine (tile _ _ y0 y1).trans ?_
  refine .trans ?_ (congrArg (Z m c) (emb2 t y0 y1)).symm
  simp only [rd0, rd1]
  exact congrArg (grad m c · y1)
    (Fin.ext (by have := lt t y0; show t.val * 256 + y0.val = (t.val * 256 + y0.val - 0 * 256) % (11 * 256); omega))

/-- The arena after the run: the one given, with the gradient's rows put in. -/
theorem arena (r : Fin 19968) (l : Fin 1024) : ((dats m 0 c).arrAt 2 (cfgs 0).N (ix2 r l) : EReal)
    = put 0 2816 (grad m c) (fun r l => A m c (ix2 r l)) r l := by
  refine (congrFun (final2 m c) (ix2 r l)).trans ?_
  rw [copied]
  exact put_of_blocks 256 0 11 (by decide) (by decide) (grad m c) (fun r l => A m c (ix2 r l)) r l

end Cert.Kernel6Ideal.Product

namespace Cert.Proof.GateWeight

/-- The frames: both programs of the call have generated runs, the reference is a run of host operations. -/
theorem frame_kernel : Cert.quiescent_Kernel7 := fun m ρ _ => Cert.Kernel7.Gen.frame m ρ
@[inherit_doc frame_kernel] theorem frame_ideal : Cert.quiescent_Kernel7Ideal := fun m ρ _ => Cert.Kernel7Ideal.Gen.frame m ρ
@[inherit_doc frame_kernel] theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

/-- No operation of the call is replaced. -/
theorem preserves : Cert.preserves_Kernel7_Kernel7Ideal := trivial

/-- The call's result is that of the reference. -/
theorem algebraic : Cert.algebraic_Kernel7Ideal_Reference7Ideal := by
  pair_intro
  · run_from Cert.Kernel7Ideal.Value.run_blocks m g
  · run_from Cert.Reference7Ideal.Value.run m' g'
    funext i
    idx_vars i
    refine .trans ?_ (Cert.Kernel7Ideal.Product.arena m c i0 i1).symm
    pointwise
    by_cases h : (i0 : ℕ) < 2816
    · rw [Cert.Arena.put_outside (.inl h)]
      exact (dif_pos h).trans (congrFun (hagree c).2.2 _)
    by_cases h' : (i0 : ℕ) - 2816 < 2816
    · rw [Cert.Arena.put_inside h h', dif_neg h, dif_pos h']
      rfl
    · rw [Cert.Arena.put_outside (.inr h'), dif_neg h, dif_neg h']
      have e : (⟨5632 + ((i0 : ℕ) - 2816 - 2816), by omega⟩ : Fin 19968) = i0 := Fin.ext (by simp only; omega)
      rw [e]
      exact congrFun (hagree c).2.2 _

end Cert.Proof.GateWeight

namespace Cert.Proof.UpWeight

/-- The frames, as for the gate. -/
theorem frame_kernel : Cert.quiescent_Kernel8 := fun m ρ _ => Cert.Kernel8.Gen.frame m ρ
@[inherit_doc frame_kernel] theorem frame_ideal : Cert.quiescent_Kernel8Ideal := fun m ρ _ => Cert.Kernel8Ideal.Gen.frame m ρ
@[inherit_doc frame_kernel] theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

/-- No operation of the call is replaced. -/
theorem preserves : Cert.preserves_Kernel8_Kernel8Ideal := trivial

/-- The call's result is that of the reference. -/
theorem algebraic : Cert.algebraic_Kernel8Ideal_Reference8Ideal := by
  pair_intro
  · run_from Cert.Kernel8Ideal.Value.run_blocks m g
  · run_from Cert.Reference8Ideal.Value.run m' g'
    funext i
    idx_vars i
    refine .trans ?_ (Cert.Kernel8Ideal.Product.arena m c i0 i1).symm
    pointwise
    by_cases h : (i0 : ℕ) < 5632
    · rw [Cert.Arena.put_outside (.inl h)]
      exact (dif_pos h).trans (congrFun (hagree c).2.2 _)
    by_cases h' : (i0 : ℕ) - 5632 < 2816
    · rw [Cert.Arena.put_inside h h', dif_neg h, dif_pos h']
      rfl
    · rw [Cert.Arena.put_outside (.inr h'), dif_neg h, dif_neg h']
      have e : (⟨8448 + ((i0 : ℕ) - 5632 - 2816), by omega⟩ : Fin 19968) = i0 := Fin.ext (by simp only; omega)
      rw [e]
      exact congrFun (hagree c).2.2 _

end Cert.Proof.UpWeight

namespace Cert.Proof.DownWeight

/-- The frames, as for the gate. -/
theorem frame_kernel : Cert.quiescent_Kernel6 := fun m ρ _ => Cert.Kernel6.Gen.frame m ρ
@[inherit_doc frame_kernel] theorem frame_ideal : Cert.quiescent_Kernel6Ideal := fun m ρ _ => Cert.Kernel6Ideal.Gen.frame m ρ
@[inherit_doc frame_kernel] theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

/-- No operation of the call is replaced. -/
theorem preserves : Cert.preserves_Kernel6_Kernel6Ideal := trivial

/-- The call's result is that of the reference, whose gradient has the two factors of a product the other way round. -/
theorem algebraic : Cert.algebraic_Kernel6Ideal_Reference6Ideal := by
  pair_intro
  · run_from Cert.Kernel6Ideal.Value.run_blocks m g
  · run_from Cert.Reference6Ideal.Value.run m' g'
    funext i
    idx_vars i
    refine .trans ?_ (Cert.Kernel6Ideal.Product.arena m c i0 i1).symm
    pointwise
    by_cases h : (i0 : ℕ) < 2816
    · rw [Cert.Arena.put_inside (Nat.not_lt_zero _) h, dif_pos h]
      exact Finset.sum_congr rfl fun k _ => mul_comm (_ : EReal) _
    · rw [Cert.Arena.put_outside (.inr h), dif_neg h]
      have e : (⟨2816 + ((i0 : ℕ) - 2816), by omega⟩ : Fin 19968) = i0 := Fin.ext (by simp only; omega)
      rw [e]
      exact congrFun (hagree c).2.2 _

end Cert.Proof.DownWeight

end
-- ==== Proof.Product.GateCotangent.lean ====
/-
  The gate's share of the cotangent of the feed-forward's input: every entry is the sum over the feed-forward's width of the gate's
  cotangent times the gate's weight.
-/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Kernel9Ideal.Product
open Cert.Kernel9Ideal Cert.Kernel9Ideal.Gen

/-- A block of the result: the product of the two blocks. -/
theorem tile (d : Vec Ideal S1024x2816 .bf16) (w : Vec Ideal S2816x1024 .bf16) (r l : Fin 1024) :
    k0_pay1 (F := Ideal) d w (ix2 r l) = ∑ k : Fin 2816, d (ix2 r k) * w (ix2 k l) := by
  pointwise [k0_pay1]

variable (m : (ℓ : Loc nD τ sig) → Buf (Elt Ideal) ℓ) (c : Dev nD)

/-- The gate's cotangent and the weight arena that device `c` starts with. -/
def D : FVec Ideal S2048x2816 .bf16 := m ((c : Thread nD τ).loc main_arg0)
@[inherit_doc D] def A : FVec Ideal S19968x1024 .bf16 := m ((c : Thread nD τ).loc main_arg1)

/-- The result: the cotangent's row `t` times the weight's column `l`. -/
def Z : FVec Ideal S2048x1024 .f32 := fun i => (fun (t : Fin 2048) (l : Fin 1024) =>
  ∑ k : Fin 2816, D m c (ix2 t k) * A m c (ix2 ⟨2816 + k, by omega⟩ l)) (i 0) (i 1)

/-- Where each window's block lies: half the rows of the cotangent and of the result per point, the weight the arena's second block of rows. -/
theorem idx : ∀ t : Fin cfg0.N, win0_0.index t = ![t.val, 0] ∧ win0_1.index t = ![1, 0] ∧ win0_2.index t = ![t.val, 0] :=
  (by decide +kernel : ∀ t : Fin grid0.N, _)

variable (t : Fin cfg0.N)
/-- The result's row under row `r` of the point's block. -/
theorem lt (r : Fin 1024) : t.val * 1024 + r < 2048 := by have := lt_of_lt_of_eq t.isLt N_0; omega
@[inherit_doc lt] abbrev row (r : Fin 1024) : Fin 2048 := ⟨t.val * 1024 + r, lt t r⟩

/-- The blocks read at a row and a column, and where a block's row lies in the result. -/
theorem rd0 (r : Fin 1024) (k : Fin 2816) : iblk m c 0 t (ix2 r k) = D m c (ix2 (row t r) k) := by
  unfold D; blk_ext [iblk, V, idx t]
@[inherit_doc rd0] theorem rd1 (k : Fin 2816) (l : Fin 1024) : X0_1 m c t (ix2 k l) = A m c (ix2 ⟨2816 + k, by omega⟩ l) := by
  unfold A X0_1 Pipeline.Window.fill
  rw [dif_pos (moved0_1 t _)]
  blk_ext [iblk, V, idx t]
@[inherit_doc rd0] theorem emb2 (r l : Fin 1024) : ((cfg0.win 2).blk t).view.emb (ix2 r l) = (ix2 (row t r) l : S2048x1024.Idx) := by
  blk_ext [idx t]

/-- The result after the run. -/
theorem final2 : (dats m 0 c).arrAt 2 (cfgs 0).N = Z m c := by
  refine (dats m 0 c).arrAt_eq_of_covers 2 _ (by decide +kernel) fun t _ y => ?_
  blk_simp
  rw [after0_2]
  unfold outsAt0
  frame_out
  idx_vars y
  refine (tile _ _ y0 y1).trans ?_
  refine .trans ?_ (congrArg (Z m c) (emb2 t y0 y1)).symm
  simp only [rd0, rd1]
  rfl

end Cert.Kernel9Ideal.Product

namespace Cert.Proof.GateCotangent

/-- The frames: both programs of the call have generated runs, the reference is a run of host operations. -/
theorem frame_kernel : Cert.quiescent_Kernel9 := fun m ρ _ => Cert.Kernel9.Gen.frame m ρ
@[inherit_doc frame_kernel] theorem frame_ideal : Cert.quiescent_Kernel9Ideal := fun m ρ _ => Cert.Kernel9Ideal.Gen.frame m ρ
@[inherit_doc frame_kernel] theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

/-- No operation of the call is replaced. -/
theorem preserves : Cert.preserves_Kernel9_Kernel9Ideal := trivial

/-- The call's result is that of the reference. -/
theorem algebraic : Cert.algebraic_Kernel9Ideal_Reference9Ideal := by
  pair_intro
  · run_from Cert.Kernel9Ideal.Value.run_blocks m g
  · run_from Cert.Reference9Ideal.Value.run m' g'
    refine .trans ?_ (Cert.Kernel9Ideal.Product.final2 m c).symm
    funext i
    idx_vars i
    pointwise
    rfl

end Cert.Proof.GateCotangent

end
-- ==== Proof.Product.Projection.lean ====
/-
  The input projection: every entry of the result is the sum over the model width of the normalised input's row times the weight's row.
-/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Kernel11Ideal.Product
open Cert.Kernel11Ideal Cert.Kernel11Ideal.Gen

/-- A block of the result: the product of the two blocks. -/
theorem tile (x : Vec Ideal S2048x1024 .bf16) (w : Vec Ideal S768x1024 .bf16) (r : Fin 2048) (l : Fin 768) :
    k0_pay1 (F := Ideal) x w (ix2 r l) = ∑ k : Fin 1024, x (ix2 r k) * w (ix2 l k) := by
  pointwise [k0_pay1]

variable (m : (ℓ : Loc nD τ sig) → Buf (Elt Ideal) ℓ) (c : Dev nD)

/-- The normalised input and the weight arena that device `c` starts with. -/
def X : FVec Ideal S2048x1024 .bf16 := m ((c : Thread nD τ).loc main_arg0)
@[inherit_doc X] def A : FVec Ideal S19968x1024 .bf16 := m ((c : Thread nD τ).loc main_arg1)

/-- The result: the input's row `t` times the weight's row `j`. -/
def Z : FVec Ideal S2048x8448 .f32 := fun i => (fun (t : Fin 2048) (j : Fin 8448) =>
  ∑ k : Fin 1024, X m c (ix2 t k) * A m c (ix2 ⟨8448 + j, by omega⟩ k)) (i 0) (i 1)

/-- Where each window's block lies: the whole input, then 768 rows of the arena, from row 8448 on, and 768 columns of the result per point. -/
theorem idx : ∀ t : Fin cfg0.N, win0_0.index t = ![0, 0] ∧ win0_1.index t = ![11 + t.val, 0] ∧ win0_2.index t = ![0, t.val] :=
  (by decide +kernel : ∀ t : Fin grid0.N, _)

variable (t : Fin cfg0.N)
/-- The result's column under lane `l` of the point's block. -/
theorem lt (l : Fin 768) : t.val * 768 + l < 8448 := by have := lt_of_lt_of_eq t.isLt N_0; omega
@[inherit_doc lt] abbrev col (l : Fin 768) : Fin 8448 := ⟨t.val * 768 + l, lt t l⟩

/-- The blocks read at a row and a column, and where a block's column lies in the result. -/
theorem rd0 (r : Fin 2048) (k : Fin 1024) : iblk m c 0 t (ix2 r k) = X m c (ix2 r k) := by
  unfold X; blk_ext [iblk, V, idx t]
@[inherit_doc rd0] theorem rd1 (l : Fin 768) (k : Fin 1024) : iblk m c 1 t (ix2 l k) = A m c (ix2 ⟨8448 + col t l, by omega⟩ k) := by
  unfold A; blk_ext [iblk, V, idx t]
@[inherit_doc rd0] theorem emb2 (r : Fin 2048) (l : Fin 768) : ((cfg0.win 2).blk t).view.emb (ix2 r l) = (ix2 r (col t l) : S2048x8448.Idx) := by
  blk_ext [idx t]

/-- The result after the run. -/
theorem final2 : (dats m 0 c).arrAt 2 (cfgs 0).N = Z m c := by
  refine (dats m 0 c).arrAt_eq_of_covers 2 _ (by decide +kernel) fun t _ y => ?_
  blk_simp
  rw [after0_2]
  frame_out
  idx_vars y
  refine (tile _ _ y0 y1).trans ?_
  refine .trans ?_ (congrArg (Z m c) (emb2 t y0 y1)).symm
  simp only [rd0, rd1]
  rfl

end Cert.Kernel11Ideal.Product

namespace Cert.Proof.Projection

/-- The frames: both programs of the call have generated runs, the reference is a run of host operations. -/
theorem frame_kernel : Cert.quiescent_Kernel11 := fun m ρ _ => Cert.Kernel11.Gen.frame m ρ
@[inherit_doc frame_kernel] theorem frame_ideal : Cert.quiescent_Kernel11Ideal := fun m ρ _ => Cert.Kernel11Ideal.Gen.frame m ρ
@[inherit_doc frame_kernel] theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

/-- No operation of the call is replaced. -/
theorem preserves : Cert.preserves_Kernel11_Kernel11Ideal := trivial

/-- The call's result is that of the reference. -/
theorem algebraic : Cert.algebraic_Kernel11Ideal_Reference11Ideal := by
  pair_intro
  · run_from Cert.Kernel11Ideal.Value.run_blocks m g
  · run_from Cert.Reference11Ideal.Value.run m' g'
    refine .trans ?_ (Cert.Kernel11Ideal.Product.final2 m c).symm
    funext i
    idx_vars i
    pointwise
    rfl

end Cert.Proof.Projection

end
-- ==== Proof.Product.Gate.lean ====
/-
  The feed-forward's gate before its activation, and the branch it gates: every entry of either is the sum over the model width of the
  input's row times the weight's row. The two run the same body; they differ in the rows of the arena their weights lie in.
-/
module

public import proofs.«01_k».proof.Defs
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Kernel12Ideal.Product
open Cert.Kernel12Ideal Cert.Kernel12Ideal.Gen

/-- The row `t` of an input times the row `j` of the weight that starts at the arena's row `o`. -/
def feed (o : ℕ) (ho : o + 2816 ≤ 19968) (X : FVec Ideal S2048x1024 .bf16) (A : FVec Ideal S19968x1024 .bf16) (t : Fin 2048) (j : Fin 2816) : EReal :=
  ∑ k : Fin 1024, X (ix2 t k) * A (ix2 ⟨o + j, by omega⟩ k)

/-- A block of the result: the product of the two blocks. -/
theorem tile (x : Vec Ideal S2048x1024 .bf16) (w : Vec Ideal S256x1024 .bf16) (r : Fin 2048) (l : Fin 256) :
    k0_pay1 (F := Ideal) x w (ix2 r l) = ∑ k : Fin 1024, x (ix2 r k) * w (ix2 l k) := by
  pointwise [k0_pay1]

variable (m : (ℓ : Loc nD τ sig) → Buf (Elt Ideal) ℓ) (c : Dev nD)

/-- The input and the weight arena that device `c` starts with, and the result. -/
def X : FVec Ideal S2048x1024 .bf16 := m ((c : Thread nD τ).loc main_arg0)
@[inherit_doc X] def A : FVec Ideal S19968x1024 .bf16 := m ((c : Thread nD τ).loc main_arg1)
@[inherit_doc X] def Z : FVec Ideal S2048x2816 .f32 := fun i => feed 2816 (by decide) (X m c) (A m c) (i 0) (i 1)

/-- Where each window's block lies: the whole input, then 256 rows of the arena, from row 2816 on, and 256 columns of the result per point. -/
theorem idx : ∀ t : Fin cfg0.N, win0_0.index t = ![0, 0] ∧ win0_1.index t = ![11 + t.val, 0] ∧ win0_2.index t = ![0, t.val] :=
  (by decide +kernel : ∀ t : Fin grid0.N, _)

variable (t : Fin cfg0.N)
/-- The result's column under lane `l` of the point's block. -/
theorem lt (l : Fin 256) : t.val * 256 + l < 2816 := by have := lt_of_lt_of_eq t.isLt N_0; omega
@[inherit_doc lt] abbrev col (l : Fin 256) : Fin 2816 := ⟨t.val * 256 + l, lt t l⟩

/-- The blocks read at a row and a column, and where a block's column lies in the result. -/
theorem rd0 (r : Fin 2048) (k : Fin 1024) : iblk m c 0 t (ix2 r k) = X m c (ix2 r k) := by
  unfold X; blk_ext [iblk, V, idx t]
@[inherit_doc rd0] theorem rd1 (l : Fin 256) (k : Fin 1024) : iblk m c 1 t (ix2 l k) = A m c (ix2 ⟨2816 + col t l, by omega⟩ k) := by
  unfold A; blk_ext [iblk, V, idx t]
@[inherit_doc rd0] theorem emb2 (r : Fin 2048) (l : Fin 256) : ((cfg0.win 2).blk t).view.emb (ix2 r l) = (ix2 r (col t l) : S2048x2816.Idx) := by
  blk_ext [idx t]

/-- The result after the run. -/
theorem final2 : (dats m 0 c).arrAt 2 (cfgs 0).N = Z m c := by
  refine (dats m 0 c).arrAt_eq_of_covers 2 _ (by decide +kernel) fun t _ y => ?_
  blk_simp
  rw [after0_2]
  frame_out
  idx_vars y
  refine (tile _ _ y0 y1).trans ?_
  refine .trans ?_ (congrArg (Z m c) (emb2 t y0 y1)).symm
  simp only [rd0, rd1]
  rfl

end Cert.Kernel12Ideal.Product

namespace Cert.Kernel13Ideal.Product
open Cert.Kernel13Ideal Cert.Kernel13Ideal.Gen
open Cert.Kernel12Ideal.Product (feed tile)

variable (m : (ℓ : Loc nD τ sig) → Buf (Elt Ideal) ℓ) (c : Dev nD)

/-- The input and the weight arena that device `c` starts with, and the result. -/
def X : FVec Ideal S2048x1024 .bf16 := m ((c : Thread nD τ).loc main_arg0)
@[inherit_doc X] def A : FVec Ideal S19968x1024 .bf16 := m ((c : Thread nD τ).loc main_arg1)
@[inherit_doc X] def Z : FVec Ideal S2048x2816 .f32 := fun i => feed 5632 (by decide) (X m c) (A m c) (i 0) (i 1)

/-- Where each window's block lies: as for the gate, with the weight from row 5632 on. -/
theorem idx : ∀ t : Fin cfg0.N, win0_0.index t = ![0, 0] ∧ win0_1.index t = ![22 + t.val, 0] ∧ win0_2.index t = ![0, t.val] :=
  (by decide +kernel : ∀ t : Fin grid0.N, _)

variable (t : Fin cfg0.N)
/-- The result's column under lane `l` of the point's block. -/
theorem lt (l : Fin 256) : t.val * 256 + l < 2816 := by have := lt_of_lt_of_eq t.isLt N_0; omega
@[inherit_doc lt] abbrev col (l : Fin 256) : Fin 2816 := ⟨t.val * 256 + l, lt t l⟩

/-- The blocks read at a row and a column, and where a block's column lies in the result. -/
theorem rd0 (r : Fin 2048) (k : Fin 1024) : iblk m c 0 t (ix2 r k) = X m c (ix2 r k) := by
  unfold X; blk_ext [iblk, V, idx t]
@[inherit_doc rd0] theorem rd1 (l : Fin 256) (k : Fin 1024) : iblk m c 1 t (ix2 l k) = A m c (ix2 ⟨5632 + col t l, by omega⟩ k) := by
  unfold A; blk_ext [iblk, V, idx t]
@[inherit_doc rd0] theorem emb2 (r : Fin 2048) (l : Fin 256) : ((cfg0.win 2).blk t).view.emb (ix2 r l) = (ix2 r (col t l) : S2048x2816.Idx) := by
  blk_ext [idx t]

/-- The result after the run. -/
theorem final2 : (dats m 0 c).arrAt 2 (cfgs 0).N = Z m c := by
  refine (dats m 0 c).arrAt_eq_of_covers 2 _ (by decide +kernel) fun t _ y => ?_
  blk_simp
  rw [after0_2]
  frame_out
  idx_vars y
  refine (tile _ _ y0 y1).trans ?_
  refine .trans ?_ (congrArg (Z m c) (emb2 t y0 y1)).symm
  simp only [rd0, rd1]
  rfl

end Cert.Kernel13Ideal.Product

namespace Cert.Proof.Gate

/-- The frames: both programs of the call have generated runs, the reference is a run of host operations. -/
theorem frame_kernel : Cert.quiescent_Kernel12 := fun m ρ _ => Cert.Kernel12.Gen.frame m ρ
@[inherit_doc frame_kernel] theorem frame_ideal : Cert.quiescent_Kernel12Ideal := fun m ρ _ => Cert.Kernel12Ideal.Gen.frame m ρ
@[inherit_doc frame_kernel] theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run m ρ)

/-- No operation of the call is replaced. -/
theorem preserves : Cert.preserves_Kernel12_Kernel12Ideal := trivial

/-- The call's result is that of the reference. -/
theorem algebraic : Cert.algebraic_Kernel12Ideal_Reference12Ideal := by
  pair_intro
  · run_from Cert.Kernel12Ideal.Value.run_blocks m g
  · run_from Cert.Reference12Ideal.Value.run m' g'
    refine .trans ?_ (Cert.Kernel12Ideal.Product.final2 m c).symm
    funext i
    idx_vars i
    pointwise
    rfl

end Cert.Proof.Gate

namespace Cert.Proof.Up

/-- The frames, as for the gate. -/
theorem frame_kernel : Cert.quiescent_Kernel13 := fun m ρ _ => Cert.Kernel13.Gen.frame m ρ
@[inherit_doc frame_kernel] theorem frame_ideal : Cert.quiescent_Kernel13Ideal := fun m ρ _ => Cert.Kernel13Ideal.Gen.frame m ρ
@[inherit_doc frame_kernel] theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run m ρ)

/-- No operation of the call is replaced. -/
theorem preserves : Cert.preserves_Kernel13_Kernel13Ideal := trivial

/-- The call's result is that of the reference. -/
theorem algebraic : Cert.algebraic_Kernel13Ideal_Reference13Ideal := by
  pair_intro
  · run_from Cert.Kernel13Ideal.Value.run_blocks m g
  · run_from Cert.Reference13Ideal.Value.run m' g'
    refine .trans ?_ (Cert.Kernel13Ideal.Product.final2 m c).symm
    funext i
    idx_vars i
    pointwise
    rfl

end Cert.Proof.Up

end
-- ==== Proof.Product.Down.lean ====
/-
  The feed-forward's last product, added to the feed-forward's residual: every entry of the result is the sum over the feed-forward's
  width of the activation's row times the weight's column, plus the residual's entry. The ungated branch's share of the cotangent of
  the feed-forward's input runs the same body, over that branch's cotangent and weight, and adds the gate's share.
-/
module

public import proofs.«01_k».proof.Defs
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel10.Frame
public import proofs.«01_k».proof.Proof.Gen.Kernel10Ideal.Value
public import proofs.«01_k».proof.Proof.Gen.Reference10Ideal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Kernel14Ideal.Product
open Cert.Kernel14Ideal Cert.Kernel14Ideal.Gen

/-- The row `t` of `X` times the column `l` of the weight that starts at the arena's row `o`, plus the entry of `Y`. -/
def added (o : ℕ) (ho : o + 2816 ≤ 19968) (X : FVec Ideal S2048x2816 .bf16) (A : FVec Ideal S19968x1024 .bf16) (Y : FVec Ideal S2048x1024 .f32)
    (t : Fin 2048) (l : Fin 1024) : EReal :=
  (∑ k : Fin 2816, X (ix2 t k) * A (ix2 ⟨o + k, by omega⟩ l)) + Y (ix2 t l)

/-- A block of the result: the product of the two blocks, plus the third. -/
theorem tile (x : Vec Ideal S2048x2816 .bf16) (w : Vec Ideal S2816x256 .bf16) (y : Vec Ideal S2048x256 .f32) (r : Fin 2048) (l : Fin 256) :
    (k0_pay1 (F := Ideal) x w y (ix2 r l) : EReal) = (∑ k : Fin 2816, (x (ix2 r k) * w (ix2 k l) : EReal)) + y (ix2 r l) := by
  pointwise [k0_pay1]

variable (m : (ℓ : Loc nD τ sig) → Buf (Elt Ideal) ℓ) (c : Dev nD)

/-- The activation, the weight arena and the residual that device `c` starts with, and the result. -/
def X : FVec Ideal S2048x2816 .bf16 := m ((c : Thread nD τ).loc main_arg0)
@[inherit_doc X] def A : FVec Ideal S19968x1024 .bf16 := m ((c : Thread nD τ).loc main_arg1)
@[inherit_doc X] def Y : FVec Ideal S2048x1024 .f32 := m ((c : Thread nD τ).loc main_arg2)
@[inherit_doc X] def Z : FVec Ideal S2048x1024 .f32 := fun i => added 0 (by decide) (X m c) (A m c) (Y m c) (i 0) (i 1)

/-- Where each window's block lies: the whole activation, then 256 columns of the weight, of the residual and of the result per point. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

variable (t : Fin cfg0.N)
/-- The result's column under lane `l` of the point's block. -/
theorem lt (l : Fin 256) : t.val * 256 + l < 1024 := by have := lt_of_lt_of_eq t.isLt N_0; omega
@[inherit_doc lt] abbrev col (l : Fin 256) : Fin 1024 := ⟨t.val * 256 + l, lt t l⟩

/-- The blocks read at a row and a column, and where a block's column lies in the result. -/
theorem rd0 (r : Fin 2048) (k : Fin 2816) : iblk m c 0 t (ix2 r k) = X m c (ix2 r k) := by
  unfold X; blk_ext [iblk, V, idx t]
@[inherit_doc rd0] theorem rd1 (k : Fin 2816) (l : Fin 256) : X0_1 m c t (ix2 k l) = A m c (ix2 ⟨0 + k, by omega⟩ (col t l)) := by
  unfold A X0_1 Pipeline.Window.fill
  rw [dif_pos (moved0_1 t _)]
  blk_ext [iblk, V, idx t]
@[inherit_doc rd0] theorem rd2 (r : Fin 2048) (l : Fin 256) : iblk m c 2 t (ix2 r l) = Y m c (ix2 r (col t l)) := by
  unfold Y; blk_ext [iblk, V, idx t]
@[inherit_doc rd0] theorem emb3 (r : Fin 2048) (l : Fin 256) : ((cfg0.win 3).blk t).view.emb (ix2 r l) = (ix2 r (col t l) : S2048x1024.Idx) := by
  blk_ext [idx t]

/-- The result after the run. -/
theorem final3 : (dats m 0 c).arrAt 3 (cfgs 0).N = Z m c := by
  refine (dats m 0 c).arrAt_eq_of_covers 3 _ (by decide +kernel) fun t _ y => ?_
  blk_simp
  rw [after0_3]
  unfold outsAt0
  frame_out
  idx_vars y
  refine (tile _ _ _ y0 y1).trans ?_
  refine .trans ?_ (congrArg (Z m c) (emb3 t y0 y1)).symm
  simp only [rd0, rd1, rd2]
  rfl

end Cert.Kernel14Ideal.Product

namespace Cert.Kernel10Ideal.Product
open Cert.Kernel10Ideal Cert.Kernel10Ideal.Gen
open Cert.Kernel14Ideal.Product (added tile)

variable (m : (ℓ : Loc nD τ sig) → Buf (Elt Ideal) ℓ) (c : Dev nD)

/-- The branch's cotangent, the weight arena and the gate's share that device `c` starts with, and the result. -/
def D : FVec Ideal S2048x2816 .bf16 := m ((c : Thread nD τ).loc main_arg0)
@[inherit_doc D] def A : FVec Ideal S19968x1024 .bf16 := m ((c : Thread nD τ).loc main_arg1)
@[inherit_doc D] def Y : FVec Ideal S2048x1024 .f32 := m ((c : Thread nD τ).loc main_arg2)
@[inherit_doc D] def Z : FVec Ideal S2048x1024 .f32 := fun i => added 5632 (by decide) (D m c) (A m c) (Y m c) (i 0) (i 1)

/-- Where each window's block lies: as in the last product, with the weight the arena's third block of rows. -/
theorem idx : ∀ t : Fin cfg0.N, win0_0.index t = ![0, 0] ∧ win0_1.index t = ![2, t.val] ∧ win0_2.index t = ![0, t.val] ∧ win0_3.index t = ![0, t.val] :=
  (by decide +kernel : ∀ t : Fin grid0.N, _)

variable (t : Fin cfg0.N)
/-- The result's column under lane `l` of the point's block. -/
theorem lt (l : Fin 256) : t.val * 256 + l < 1024 := by have := lt_of_lt_of_eq t.isLt N_0; omega
@[inherit_doc lt] abbrev col (l : Fin 256) : Fin 1024 := ⟨t.val * 256 + l, lt t l⟩

/-- The blocks read at a row and a column, and where a block's column lies in the result. -/
theorem rd0 (r : Fin 2048) (k : Fin 2816) : iblk m c 0 t (ix2 r k) = D m c (ix2 r k) := by
  unfold D; blk_ext [iblk, V, idx t]
@[inherit_doc rd0] theorem rd1 (k : Fin 2816) (l : Fin 256) : X0_1 m c t (ix2 k l) = A m c (ix2 ⟨5632 + k, by omega⟩ (col t l)) := by
  unfold A X0_1 Pipeline.Window.fill
  rw [dif_pos (moved0_1 t _)]
  blk_ext [iblk, V, idx t]
@[inherit_doc rd0] theorem rd2 (r : Fin 2048) (l : Fin 256) : iblk m c 2 t (ix2 r l) = Y m c (ix2 r (col t l)) := by
  unfold Y; blk_ext [iblk, V, idx t]
@[inherit_doc rd0] theorem emb3 (r : Fin 2048) (l : Fin 256) : ((cfg0.win 3).blk t).view.emb (ix2 r l) = (ix2 r (col t l) : S2048x1024.Idx) := by
  blk_ext [idx t]

/-- The result after the run. -/
theorem final3 : (dats m 0 c).arrAt 3 (cfgs 0).N = Z m c := by
  refine (dats m 0 c).arrAt_eq_of_covers 3 _ (by decide +kernel) fun t _ y => ?_
  blk_simp
  rw [after0_3]
  unfold outsAt0
  frame_out
  idx_vars y
  refine (tile _ _ _ y0 y1).trans ?_
  refine .trans ?_ (congrArg (Z m c) (emb3 t y0 y1)).symm
  simp only [rd0, rd1, rd2]
  rfl

end Cert.Kernel10Ideal.Product

namespace Cert.Proof.Down

/-- The frames: both programs of the call have generated runs, the reference is a run of host operations. -/
theorem frame_kernel : Cert.quiescent_Kernel14 := fun m ρ _ => Cert.Kernel14.Gen.frame m ρ
@[inherit_doc frame_kernel] theorem frame_ideal : Cert.quiescent_Kernel14Ideal := fun m ρ _ => Cert.Kernel14Ideal.Gen.frame m ρ
@[inherit_doc frame_kernel] theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run m ρ)

/-- No operation of the call is replaced. -/
theorem preserves : Cert.preserves_Kernel14_Kernel14Ideal := trivial

/-- The call's result is that of the reference. -/
theorem algebraic : Cert.algebraic_Kernel14Ideal_Reference14Ideal := by
  pair_intro
  · run_from Cert.Kernel14Ideal.Value.run_blocks m g
  · run_from Cert.Reference14Ideal.Value.run m' g'
    refine .trans ?_ (Cert.Kernel14Ideal.Product.final3 m c).symm
    funext i
    idx_vars i
    pointwise
    unfold Cert.Kernel14Ideal.Product.Z Cert.Kernel14Ideal.Product.added
    simp only [Nat.zero_add]
    rfl

end Cert.Proof.Down

namespace Cert.Proof.UpCotangent

/-- The frames, as for the last product. -/
theorem frame_kernel : Cert.quiescent_Kernel10 := fun m ρ _ => Cert.Kernel10.Gen.frame m ρ
@[inherit_doc frame_kernel] theorem frame_ideal : Cert.quiescent_Kernel10Ideal := fun m ρ _ => Cert.Kernel10Ideal.Gen.frame m ρ
@[inherit_doc frame_kernel] theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

/-- No operation of the call is replaced. -/
theorem preserves : Cert.preserves_Kernel10_Kernel10Ideal := trivial

/-- The call's result is that of the reference. -/
theorem algebraic : Cert.algebraic_Kernel10Ideal_Reference10Ideal := by
  pair_intro
  · run_from Cert.Kernel10Ideal.Value.run_blocks m g
  · run_from Cert.Reference10Ideal.Value.run m' g'
    refine .trans ?_ (Cert.Kernel10Ideal.Product.final3 m c).symm
    funext i
    idx_vars i
    pointwise
    rfl

end Cert.Proof.UpCotangent

end
-- ==== Proof.Product.Mixer.lean ====
/-
  The product of the mixer's merged branches with its last weight, and that product's backward. The forward gathers a sum over the model
  width in two steps of 512 and adds the layer's input; the cotangent of the merged branches is the cotangent's row times the weight's;
  the weight's gradient is written into its rows of the gradient arena and the arena's other rows stay.
-/
module

public import proofs.«01_k».proof.Defs
public import proofs.«01_k».proof.Proof.Product.Arena
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Kernel15Ideal.Product
open Cert.Kernel15Ideal Cert.Kernel15Ideal.Gen

/-- A block of the cotangent: the product of the two blocks. -/
theorem tile (d : Vec Ideal S2048x1024 .bf16) (w : Vec Ideal S512x1024 .bf16) (r : Fin 2048) (l : Fin 512) :
    k0_pay1 (F := Ideal) d w (ix2 r l) = ∑ k : Fin 1024, d (ix2 r k) * w (ix2 l k) := by
  pointwise [k0_pay1]

variable (m : (ℓ : Loc nD τ sig) → Buf (Elt Ideal) ℓ) (c : Dev nD)

/-- The cotangent and the weight arena that device `c` starts with. -/
def D : FVec Ideal S2048x1024 .bf16 := m ((c : Thread nD τ).loc main_arg0)
@[inherit_doc D] def A : FVec Ideal S19968x1024 .bf16 := m ((c : Thread nD τ).loc main_arg1)

/-- The result: the cotangent's row `t` times the weight's row `j`. -/
def Z : FVec Ideal S2048x1024 .f32 := fun i => (fun (t : Fin 2048) (j : Fin 1024) =>
  ∑ k : Fin 1024, D m c (ix2 t k) * A m c (ix2 ⟨16896 + j, by omega⟩ k)) (i 0) (i 1)

/-- Where each window's block lies: the whole cotangent, then 512 rows of the arena, from row 16896 on, and 512 columns of the result per point. -/
theorem idx : ∀ t : Fin cfg0.N, win0_0.index t = ![0, 0] ∧ win0_1.index t = ![33 + t.val, 0] ∧ win0_2.index t = ![0, t.val] :=
  (by decide +kernel : ∀ t : Fin grid0.N, _)

variable (t : Fin cfg0.N)
/-- The result's column under lane `l` of the point's block. -/
theorem lt (l : Fin 512) : t.val * 512 + l < 1024 := by have := lt_of_lt_of_eq t.isLt N_0; omega
@[inherit_doc lt] abbrev col (l : Fin 512) : Fin 1024 := ⟨t.val * 512 + l, lt t l⟩

/-- The blocks read at a row and a column, and where a block's column lies in the result. -/
theorem rd0 (r : Fin 2048) (k : Fin 1024) : iblk m c 0 t (ix2 r k) = D m c (ix2 r k) := by
  unfold D; blk_ext [iblk, V, idx t]
@[inherit_doc rd0] theorem rd1 (l : Fin 512) (k : Fin 1024) : iblk m c 1 t (ix2 l k) = A m c (ix2 ⟨16896 + col t l, by omega⟩ k) := by
  unfold A; blk_ext [iblk, V, idx t]
@[inherit_doc rd0] theorem emb2 (r : Fin 2048) (l : Fin 512) : ((cfg0.win 2).blk t).view.emb (ix2 r l) = (ix2 r (col t l) : S2048x1024.Idx) := by
  blk_ext [idx t]

/-- The result after the run. -/
theorem final2 : (dats m 0 c).arrAt 2 (cfgs 0).N = Z m c := by
  refine (dats m 0 c).arrAt_eq_of_covers 2 _ (by decide +kernel) fun t _ y => ?_
  blk_simp
  rw [after0_2]
  frame_out
  idx_vars y
  refine (tile _ _ y0 y1).trans ?_
  refine .trans ?_ (congrArg (Z m c) (emb2 t y0 y1)).symm
  simp only [rd0, rd1]
  rfl

end Cert.Kernel15Ideal.Product

namespace Cert.Kernel16Ideal.Product
open Cert.Kernel16Ideal Cert.Kernel16Ideal.Gen Cert.Arena

/-- A block of the gradient: the product of the two blocks. -/
theorem tile (x : Vec Ideal S2048x512 .bf16) (d : Vec Ideal S2048x1024 .bf16) (r : Fin 512) (l : Fin 1024) :
    k0_pay1 (F := Ideal) x d (ix2 r l) = ∑ k : Fin 2048, x (ix2 k r) * d (ix2 k l) := by
  pointwise [k0_pay1]

variable (m : (ℓ : Loc nD τ sig) → Buf (Elt Ideal) ℓ) (c : Dev nD)

/-- The merged branches, the cotangent and the gradient arena that device `c` starts with. -/
def X : FVec Ideal S2048x1024 .bf16 := m ((c : Thread nD τ).loc main_arg0)
@[inherit_doc X] def D : FVec Ideal S2048x1024 .bf16 := m ((c : Thread nD τ).loc main_arg1)
@[inherit_doc X] def A : FVec Ideal S19968x1024 .bf16 := m ((c : Thread nD τ).loc main_arg2)

/-- The gradient at weight row `j` and model column `l`, and its rows as the arena holds them. -/
def grad (j l : Fin 1024) : EReal := ∑ k : Fin 2048, X m c (ix2 k j) * D m c (ix2 k l)
@[inherit_doc grad] def Z : FVec Ideal S19968x1024 .bf16 := fun i => (fun (r : Fin 19968) (l : Fin 1024) =>
  grad m c ⟨(r - 33 * 512) % (2 * 512), Nat.mod_lt _ (by decide)⟩ l) (i 0) (i 1)

/-- Where each window's block lies: 512 columns of the branches per point, the whole cotangent, 512 rows of the arena from row 16896 on. -/
theorem idx : ∀ t : Fin cfg0.N, win0_0.index t = ![0, t.val] ∧ win0_1.index t = ![0, 0] ∧ win0_2.index t = ![33 + t.val, 0] :=
  (by decide +kernel : ∀ t : Fin grid0.N, _)

variable (t : Fin cfg0.N)
/-- The weight row under row `r` of the point's block. -/
theorem lt (r : Fin 512) : t.val * 512 + r < 1024 := by have := lt_of_lt_of_eq t.isLt N_0; omega
@[inherit_doc lt] abbrev row (r : Fin 512) : Fin 1024 := ⟨t.val * 512 + r, lt t r⟩

/-- The blocks read at a row and a column, and where a block's row lies in the arena. -/
theorem rd0 (k : Fin 2048) (r : Fin 512) : iblk m c 0 t (ix2 k r) = X m c (ix2 k (row t r)) := by
  refine .trans ?_ (congrFun (V_main_arg0 m c) _)
  blk_ext [iblk, idx t]
@[inherit_doc rd0] theorem rd1 (k : Fin 2048) (l : Fin 1024) : iblk m c 1 t (ix2 k l) = D m c (ix2 k l) := by
  refine .trans ?_ (congrFun (V_main_arg1 m c) _)
  blk_ext [iblk, idx t]
@[inherit_doc rd0] theorem emb2 (r : Fin 512) (l : Fin 1024) : ((cfg0.win 2).blk t).view.emb (ix2 r l) = (ix2 ⟨16896 + row t r, by omega⟩ l : S19968x1024.Idx) := by
  blk_ext [idx t]

/-- The arena the run starts writing into is a copy of the one it was given. -/
theorem copied : V m c main_v0 = A m c := by
  unfold A; simp only [V, hostOps0]; after_results; rfl

/-- The arena after the run, block by block. -/
theorem final2 : (dats m 0 c).arrAt 2 (cfgs 0).N
    = fun i => if 33 ≤ (i 0 : ℕ) / 512 ∧ (i 0 : ℕ) / 512 < 35 then Z m c i else V m c main_v0 i := by
  refine (dats m 0 c).arrAt_eq_of_coversWhere 2 _ (fun β => 33 ≤ β (0 : Fin 2) ∧ β (0 : Fin 2) < 35) (by decide +kernel)
    (fun t hf y => ?_) (fun j => Iff.rfl)
  blk_simp
  rw [after0_2]
  unfold outsAt0
  frame_out
  idx_vars y
  refine (tile _ _ y0 y1).trans ?_
  refine .trans ?_ (congrArg (Z m c) (emb2 t y0 y1)).symm
  simp only [rd0, rd1]
  exact congrArg (grad m c · y1)
    (Fin.ext (by have := lt t y0; show t.val * 512 + y0.val = (16896 + (t.val * 512 + y0.val) - 33 * 512) % (2 * 512); omega))

/-- The arena after the run: the one given, with the gradient's rows put in. -/
theorem arena (r : Fin 19968) (l : Fin 1024) : ((dats m 0 c).arrAt 2 (cfgs 0).N (ix2 r l) : EReal)
    = put 16896 1024 (grad m c) (fun r l => A m c (ix2 r l)) r l := by
  refine (congrFun (final2 m c) (ix2 r l)).trans ?_
  rw [copied]
  exact put_of_blocks 512 33 2 (by decide) (by decide) (grad m c) (fun r l => A m c (ix2 r l)) r l

end Cert.Kernel16Ideal.Product

namespace Cert.Kernel17Ideal.Product
open Cert.Kernel17Ideal Cert.Kernel17Ideal.Gen

variable (m : (ℓ : Loc nD τ sig) → Buf (Elt Ideal) ℓ) (c : Dev nD)

/-- The merged branches, the weight arena and the layer's input that device `c` starts with. -/
def X : FVec Ideal S2048x1024 .bf16 := m ((c : Thread nD τ).loc main_arg0)
@[inherit_doc X] def A : FVec Ideal S19968x1024 .bf16 := m ((c : Thread nD τ).loc main_arg1)
@[inherit_doc X] def Y : FVec Ideal S2048x1024 .f32 := m ((c : Thread nD τ).loc main_arg2)

/-- The result: the branches' row `t` times the weight's column `l`, plus the input's entry. -/
def Z : FVec Ideal S2048x1024 .f32 := fun i => (fun (t : Fin 2048) (l : Fin 1024) =>
  ((∑ k : Fin 1024, X m c (ix2 t k) * A m c (ix2 ⟨16896 + k, by omega⟩ l)) + Y m c (ix2 t l) : EReal)) (i 0) (i 1)

/-- Where each window's block lies: of every two points one walks the weight's rows, and the column block moves on after two. -/
theorem idx : ∀ t : Fin cfg0.N, win0_0.index t = ![0, t.val % 2] ∧ win0_1.index t = ![33 + t.val % 2, t.val / 2] ∧ win0_2.index t = ![0, t.val / 2]
    ∧ win0_3.index t = ![0, t.val / 2] :=
  (by decide +kernel : ∀ t : Fin grid0.N, _)

variable (t : Fin cfg0.N)
/-- The result's column under lane `l` of the point's block, and the weight row under row `k`. -/
theorem lt (l : Fin 512) : t.val / 2 * 512 + l < 1024 := by have := lt_of_lt_of_eq t.isLt N_0; omega
@[inherit_doc lt] abbrev col (l : Fin 512) : Fin 1024 := ⟨t.val / 2 * 512 + l, lt t l⟩
@[inherit_doc lt] abbrev row (k : Fin 512) : Fin 1024 := ⟨t.val % 2 * 512 + k, by omega⟩

/-- The blocks read at a row and a column, and where a block's column lies in the result. -/
theorem rd0 (r : Fin 2048) (k : Fin 512) : iblk m c 0 t (ix2 r k) = X m c (ix2 r (row t k)) := by
  unfold X; blk_ext [iblk, V, idx t]
@[inherit_doc rd0] theorem rd1 (k l : Fin 512) : iblk m c 1 t (ix2 k l) = A m c (ix2 ⟨16896 + row t k, by omega⟩ (col t l)) := by
  unfold A; blk_ext [iblk, V, idx t]
@[inherit_doc rd0] theorem rd2 (r : Fin 2048) (l : Fin 512) : iblk m c 2 t (ix2 r l) = Y m c (ix2 r (col t l)) := by
  unfold Y; blk_ext [iblk, V, idx t]
@[inherit_doc rd0] theorem emb3 (r : Fin 2048) (l : Fin 512) : ((cfg0.win 3).blk t).view.emb (ix2 r l) = (ix2 r (col t l) : S2048x1024.Idx) := by
  blk_ext [idx t]

/-- The accumulator starts at zero, a step adds the product of the two blocks, and the last adds the input's block to what is written. -/
theorem start (i : S2048x512.Idx) : k0_pay1 (F := Ideal) i = 0 := by
  idx_vars i
  pointwise [k0_pay1]
@[inherit_doc start] theorem step (s : Vec Ideal S2048x512 .f32) (x : Vec Ideal S2048x512 .bf16) (w : Vec Ideal S512x512 .bf16) (r : Fin 2048) (l : Fin 512) :
    (k0_pay2 (F := Ideal) s x w (ix2 r l) : EReal) = s (ix2 r l) + ∑ k : Fin 512, (x (ix2 r k) * w (ix2 k l) : EReal) := by
  pointwise [k0_pay2]
@[inherit_doc start] theorem last (s y : Vec Ideal S2048x512 .f32) (r : Fin 2048) (l : Fin 512) :
    (k0_pay3 (F := Ideal) s y (ix2 r l) : EReal) = s (ix2 r l) + y (ix2 r l) := by
  pointwise [k0_pay3]

/-- What a point adds to an entry of the accumulator. -/
def part (i : S2048x512.Idx) : EReal := (fun (r : Fin 2048) (l : Fin 512) =>
  ∑ k : Fin 512, X m c (ix2 r (row t k)) * A m c (ix2 ⟨16896 + row t k, by omega⟩ (col t l))) (i 0) (i 1)

/-- The accumulator after a point that opens a column block, and after one that closes it. -/
theorem opens (h : t.val % 2 = 0) (i : S2048x512.Idx) : ((outsAt0 m c t.val t.isLt).2 i : EReal) = 0 + part m c t i := by
  rw [outsAt0_A m c t h (by omega)]
  frame_out
  idx_vars i
  refine (step _ _ _ i0 i1).trans ?_
  simp only [start, rd0, rd1]
  rfl
@[inherit_doc opens] theorem adds (h : ¬t.val % 2 = 0) (i : S2048x512.Idx) :
    ((outsAt0 m c t.val t.isLt).2 i : EReal) = (outsAt0 m c (t.val - 1) (Nat.lt_of_le_of_lt (Nat.sub_le _ _) t.isLt)).2 i + part m c t i := by
  rw [outsAt0_B m c t h (by omega)]
  frame_out
  idx_vars i
  refine (step _ _ _ i0 i1).trans ?_
  simp only [rd0, rd1]
  exact congrArg₂ (· + ·) (congrFun (Memref.IsWhole.read_unread _ _) _) rfl

/-- At the last of its two points a column block is written back as the accumulator plus the input's block. -/
theorem written (h : t.val % 2 = 1) (r : Fin 2048) (l : Fin 512) :
    ((outsAt0 m c t.val t.isLt).1 (ix2 r l) : EReal) = (outsAt0 m c t.val t.isLt).2 (ix2 r l) + Y m c (ix2 r (col t l)) := by
  rw [outsAt0_B m c t (by omega) h]
  frame_out
  refine (last _ _ r l).trans ?_
  rw [rd2]

/-- The result after the run. -/
theorem final3 : (dats m 0 c).arrAt 3 (cfgs 0).N = Z m c := by
  refine (dats m 0 c).arrAt_eq_of_covers 3 _ (by decide +kernel) fun t hf y => ?_
  have h := (flush0_3 t).mp hf
  blk_simp
  rw [after0_3]
  idx_vars y
  refine (written m c t h y0 y1).trans ?_
  refine .trans ?_ (congrArg (Z m c) (emb3 t y0 y1)).symm
  refine congrArg (· + (Y m c (ix2 y0 (col t y1)) : EReal)) ?_
  refine (Pipeline.eq_sum_fin_of_reset_step_apply_of_flush (fun n h => (outsAt0 m c n h).2) 2 (fun _ => (0 : EReal)) (part m c)
    (opens m c) (adds m c) t h (ix2 y0 y1)).trans ?_
  refine (zero_add _).trans ?_
  refine Fin.sum_mul_add_congr fun s k hl => ?_
  have hs : (2 * (t.val / 2) + s.val) % 2 = s.val := by omega
  have hc : (2 * (t.val / 2) + s.val) / 2 = t.val / 2 := by omega
  simp only [row, col, hs, hc]
  rfl

end Cert.Kernel17Ideal.Product

namespace Cert.Proof.MixerCotangent

/-- The frames: both programs of the call have generated runs, the reference is a run of host operations. -/
theorem frame_kernel : Cert.quiescent_Kernel15 := fun m ρ _ => Cert.Kernel15.Gen.frame m ρ
@[inherit_doc frame_kernel] theorem frame_ideal : Cert.quiescent_Kernel15Ideal := fun m ρ _ => Cert.Kernel15Ideal.Gen.frame m ρ
@[inherit_doc frame_kernel] theorem frame_reference : Cert.quiescent_Reference15Ideal := fun m ρ _ =>
  (θ_run Cert.Reference15Ideal.defs _ _).mono (fun r h => ⟨fun c => (h c).2, sem_eq_zero_of_no_sems (by decide) r.2⟩)
    (Cert.Reference15Ideal.Value.run m ρ)

/-- No operation of the call is replaced. -/
theorem preserves : Cert.preserves_Kernel15_Kernel15Ideal := trivial

/-- The call's result is that of the reference. -/
theorem algebraic : Cert.algebraic_Kernel15Ideal_Reference15Ideal := by
  pair_intro
  · run_from Cert.Kernel15Ideal.Value.run_blocks m g
  · run_from Cert.Reference15Ideal.Value.run m' g'
    refine .trans ?_ (Cert.Kernel15Ideal.Product.final2 m c).symm
    funext i
    idx_vars i
    pointwise
    rfl

end Cert.Proof.MixerCotangent

namespace Cert.Proof.MixerWeight

/-- The frames, as for the cotangent. -/
theorem frame_kernel : Cert.quiescent_Kernel16 := fun m ρ _ => Cert.Kernel16.Gen.frame m ρ
@[inherit_doc frame_kernel] theorem frame_ideal : Cert.quiescent_Kernel16Ideal := fun m ρ _ => Cert.Kernel16Ideal.Gen.frame m ρ
@[inherit_doc frame_kernel] theorem frame_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run m ρ)

/-- No operation of the call is replaced. -/
theorem preserves : Cert.preserves_Kernel16_Kernel16Ideal := trivial

/-- The call's result is that of the reference, whose gradient has the two factors of a product the other way round. -/
theorem algebraic : Cert.algebraic_Kernel16Ideal_Reference16Ideal := by
  pair_intro
  · run_from Cert.Kernel16Ideal.Value.run_blocks m g
  · run_from Cert.Reference16Ideal.Value.run m' g'
    funext i
    idx_vars i
    refine .trans ?_ (Cert.Kernel16Ideal.Product.arena m c i0 i1).symm
    pointwise
    by_cases h : (i0 : ℕ) < 16896
    · rw [Cert.Arena.put_outside (.inl h)]
      exact (dif_pos h).trans (congrFun (hagree c).2.2 _)
    by_cases h' : (i0 : ℕ) - 16896 < 1024
    · rw [Cert.Arena.put_inside h h', dif_neg h, dif_pos h']
      exact Finset.sum_congr rfl fun k _ => mul_comm (_ : EReal) _
    · rw [Cert.Arena.put_outside (.inr h'), dif_neg h, dif_neg h']
      have e : (⟨17920 + ((i0 : ℕ) - 16896 - 1024), by omega⟩ : Fin 19968) = i0 := Fin.ext (by simp only; omega)
      rw [e]
      exact congrFun (hagree c).2.2 _

end Cert.Proof.MixerWeight

namespace Cert.Proof.Mixer

/-- The frames, as for the cotangent. -/
theorem frame_kernel : Cert.quiescent_Kernel17 := fun m ρ _ => Cert.Kernel17.Gen.frame m ρ
@[inherit_doc frame_kernel] theorem frame_ideal : Cert.quiescent_Kernel17Ideal := fun m ρ _ => Cert.Kernel17Ideal.Gen.frame m ρ
@[inherit_doc frame_kernel] theorem frame_reference : Cert.quiescent_Reference17Ideal := fun m ρ _ =>
  (θ_run Cert.Reference17Ideal.defs _ _).mono (fun r h => ⟨fun c => (h c).2, sem_eq_zero_of_no_sems (by decide) r.2⟩)
    (Cert.Reference17Ideal.Value.run m ρ)

/-- No operation of the call is replaced. -/
theorem preserves : Cert.preserves_Kernel17_Kernel17Ideal := trivial

/-- The call's result is that of the reference. -/
theorem algebraic : Cert.algebraic_Kernel17Ideal_Reference17Ideal := by
  pair_intro
  · run_from Cert.Kernel17Ideal.Value.run_blocks m g
  · run_from Cert.Reference17Ideal.Value.run m' g'
    refine .trans ?_ (Cert.Kernel17Ideal.Product.final3 m c).symm
    funext i
    idx_vars i
    pointwise
    rfl

end Cert.Proof.Mixer

end
-- ==== Proof.Logistic.lean ====
/-
  The logistic function over the extended reals, and the derivative of a number times its logistic.
-/
module

public import Idealize.ShloMosaic.Lib.Pointwise
public import Idealize.ShloMosaic.Lib.IdealHost

@[expose] public section

noncomputable section

open Idealize.ShloMosaic

namespace Cert.Logistic

/-- The logistic function. -/
def sg (x : EReal) : EReal := Ideal.div 1 (1 + Ideal.exp (-x))

/-- Its values at a real and at the two infinities. -/
theorem sg_coe (x : ℝ) : sg x = ((1 / (1 + Real.exp (-x)) : ℝ) : EReal) := by
  have h : (1 + Real.exp (-x) : ℝ) ≠ 0 := by positivity
  unfold sg
  rw [← EReal.coe_neg, Ideal.exp_coe, ← EReal.coe_one, ← EReal.coe_add, Ideal.div_coe h, EReal.coe_one, one_mul]
@[inherit_doc sg_coe] theorem sg_top : sg ⊤ = 1 := by
  unfold sg
  rw [EReal.neg_top, Ideal.exp_bot, add_zero, ← EReal.coe_one, Ideal.div_coe one_ne_zero, EReal.coe_one, one_mul, div_one, EReal.coe_one]
@[inherit_doc sg_coe] theorem sg_bot : sg ⊥ = 0 := by
  unfold sg
  rw [EReal.neg_bot, Ideal.exp_top, EReal.add_top_of_ne_bot (by decide)]
  unfold Ideal.div
  rw [if_neg (by decide), EReal.inv_top, mul_zero]

/-- The cotangent `c` of `x` times its logistic `s`, in two forms: `c * s * (1 + x * (1 - s))`, and the sum of the two factors' shares. -/
theorem share (c : ℝ) (x : EReal) : (c : EReal) * sg x * (1 + x * (1 - sg x)) = c * sg x + x * c * (sg x * (1 - sg x)) := by
  induction x with
  | coe x =>
    rw [sg_coe]
    generalize (1 / (1 + Real.exp (-x)) : ℝ) = s
    norm_cast
    ring
  | top =>
    have h : (1 : EReal) - 1 = 0 := by rw [← EReal.coe_one, ← EReal.coe_sub, sub_self, EReal.coe_zero]
    rw [sg_top, h, mul_zero, mul_zero, mul_zero, add_zero, add_zero, mul_one]
  | bot => rw [sg_bot, mul_zero, zero_mul, zero_mul, mul_zero, add_zero]

end Cert.Logistic

end
-- ==== Proof.Product.Merge.lean ====
/-
  The gated merge of the four branches and its backward, entry by entry. The merge is the sum of the branches, each times the logistic of
  its gate; backward, a branch's cotangent is the merge's times the gate's logistic `s`, and a gate's is the merge's times the branch times
  `s * (1 - s)`.
-/
module

public import proofs.«01_k».proof.Defs
public import proofs.«01_k».proof.Proof.Logistic
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Kernel18Ideal.Gated
open Cert.Kernel18Ideal Cert.Kernel18Ideal.Gen Cert.Logistic

/-- The gate's logistic, the branch's cotangent and the gate's at an entry of a block. The four branches have the same text. -/
theorem gate (g : Vec Ideal S1024x256 .f32) (r : Fin 1024) (l : Fin 256) : (k0_pay2 (F := Ideal) g (ix2 r l) : EReal) = sg (g (ix2 r l)) := by
  pointwise [k0_pay2]
  rw [zero_sub]
  rfl
@[inherit_doc gate] theorem tileY (d g : Vec Ideal S1024x256 .f32) (r : Fin 1024) (l : Fin 256) :
    (k0_pay3 (F := Ideal) d g (ix2 r l) : EReal) = sg (g (ix2 r l)) * d (ix2 r l) := by
  pointwise [k0_pay3]
  rw [gate]
  exact mul_comm _ _
@[inherit_doc gate] theorem tileG (d g y : Vec Ideal S1024x256 .f32) (r : Fin 1024) (l : Fin 256) :
    (k0_pay4 (F := Ideal) d g y (ix2 r l) : EReal) = d (ix2 r l) * y (ix2 r l) * (sg (g (ix2 r l)) * (1 - sg (g (ix2 r l)))) := by
  pointwise [k0_pay4]
  rw [gate]
  exact mul_assoc _ _ _

variable (m : (ℓ : Loc nD τ sig) → Buf (Elt Ideal) ℓ) (c : Dev nD)

/-- The projection, the four branches and the merge's cotangent that device `c` starts with. -/
def P : FVec Ideal S2048x8448 .f32 := m ((c : Thread nD τ).loc main_arg0)
@[inherit_doc P] def Y0 : FVec Ideal S2048x1024 .f32 := m ((c : Thread nD τ).loc main_arg1)
@[inherit_doc P] def Y1 : FVec Ideal S2048x1024 .f32 := m ((c : Thread nD τ).loc main_arg2)
@[inherit_doc P] def Y2 : FVec Ideal S2048x1024 .f32 := m ((c : Thread nD τ).loc main_arg3)
@[inherit_doc P] def Y3 : FVec Ideal S2048x1024 .f32 := m ((c : Thread nD τ).loc main_arg4)
@[inherit_doc P] def D : FVec Ideal S2048x1024 .f32 := m ((c : Thread nD τ).loc main_arg5)

/-- The results for the gate whose 1024 columns of the projection begin at column `o`: its branch's cotangent, and its own. -/
def dY (o : ℕ) (h : o + 1024 ≤ 8448) : FVec Ideal S2048x1024 .bf16 := fun i => (fun (t : Fin 2048) (j : Fin 1024) =>
  sg (P m c (ix2 t ⟨o + j, by omega⟩)) * D m c (ix2 t j)) (i 0) (i 1)
@[inherit_doc dY] def dG (o : ℕ) (h : o + 1024 ≤ 8448) (y : FVec Ideal S2048x1024 .f32) : FVec Ideal S2048x1024 .bf16 :=
  fun i => (fun (t : Fin 2048) (j : Fin 1024) =>
    D m c (ix2 t j) * y (ix2 t j) * (sg (P m c (ix2 t ⟨o + j, by omega⟩)) * (1 - sg (P m c (ix2 t ⟨o + j, by omega⟩))))) (i 0) (i 1)

/-- Where each window's block lies: of eight points four walk the columns of 1024 rows, and a gate's columns lie at its place in the projection. -/
theorem idx : ∀ t : Fin cfg0.N, win0_0.index t = ![t.val / 4, 17 + t.val % 4] ∧ win0_1.index t = ![t.val / 4, 21 + t.val % 4]
    ∧ win0_2.index t = ![t.val / 4, 25 + t.val % 4] ∧ win0_3.index t = ![t.val / 4, 29 + t.val % 4]
    ∧ win0_4.index t = ![t.val / 4, t.val % 4] ∧ win0_5.index t = ![t.val / 4, t.val % 4] ∧ win0_6.index t = ![t.val / 4, t.val % 4]
    ∧ win0_7.index t = ![t.val / 4, t.val % 4] ∧ win0_8.index t = ![t.val / 4, t.val % 4] ∧ win0_9.index t = ![t.val / 4, t.val % 4]
    ∧ win0_10.index t = ![t.val / 4, t.val % 4] ∧ win0_11.index t = ![t.val / 4, t.val % 4] ∧ win0_12.index t = ![t.val / 4, t.val % 4]
    ∧ win0_13.index t = ![t.val / 4, t.val % 4] ∧ win0_14.index t = ![t.val / 4, t.val % 4] ∧ win0_15.index t = ![t.val / 4, t.val % 4]
    ∧ win0_16.index t = ![t.val / 4, t.val % 4] :=
  (by decide +kernel : ∀ t : Fin grid0.N, _)

variable (t : Fin cfg0.N)
/-- The array's row and column under a row and a lane of the point's block. -/
theorem lt (r : Fin 1024) : t.val / 4 * 1024 + r < 2048 := by have := lt_of_lt_of_eq t.isLt N_0; omega
@[inherit_doc lt] abbrev row (r : Fin 1024) : Fin 2048 := ⟨t.val / 4 * 1024 + r, lt t r⟩
@[inherit_doc lt] abbrev col (l : Fin 256) : Fin 1024 := ⟨t.val % 4 * 256 + l, by omega⟩

/-- The blocks read at a row and a lane. -/
theorem rd0 (r : Fin 1024) (l : Fin 256) : iblk m c 0 t (ix2 r l) = P m c (ix2 (row t r) ⟨4352 + col t l, by omega⟩) := by
  unfold P; blk_ext [iblk, V, idx t]
@[inherit_doc rd0] theorem rd1 (r : Fin 1024) (l : Fin 256) : iblk m c 1 t (ix2 r l) = P m c (ix2 (row t r) ⟨5376 + col t l, by omega⟩) := by
  unfold P; blk_ext [iblk, V, idx t]
@[inherit_doc rd0] theorem rd2 (r : Fin 1024) (l : Fin 256) : iblk m c 2 t (ix2 r l) = P m c (ix2 (row t r) ⟨6400 + col t l, by omega⟩) := by
  unfold P; blk_ext [iblk, V, idx t]
@[inherit_doc rd0] theorem rd3 (r : Fin 1024) (l : Fin 256) : iblk m c 3 t (ix2 r l) = P m c (ix2 (row t r) ⟨7424 + col t l, by omega⟩) := by
  unfold P; blk_ext [iblk, V, idx t]
@[inherit_doc rd0] theorem rd4 (r : Fin 1024) (l : Fin 256) : iblk m c 4 t (ix2 r l) = Y0 m c (ix2 (row t r) (col t l)) := by
  unfold Y0; blk_ext [iblk, V, idx t]
@[inherit_doc rd0] theorem rd5 (r : Fin 1024) (l : Fin 256) : iblk m c 5 t (ix2 r l) = Y1 m c (ix2 (row t r) (col t l)) := by
  unfold Y1; blk_ext [iblk, V, idx t]
@[inherit_doc rd0] theorem rd6 (r : Fin 1024) (l : Fin 256) : iblk m c 6 t (ix2 r l) = Y2 m c (ix2 (row t r) (col t l)) := by
  unfold Y2; blk_ext [iblk, V, idx t]
@[inherit_doc rd0] theorem rd7 (r : Fin 1024) (l : Fin 256) : iblk m c 7 t (ix2 r l) = Y3 m c (ix2 (row t r) (col t l)) := by
  unfold Y3; blk_ext [iblk, V, idx t]
@[inherit_doc rd0] theorem rd8 (r : Fin 1024) (l : Fin 256) : iblk m c 8 t (ix2 r l) = D m c (ix2 (row t r) (col t l)) := by
  unfold D; blk_ext [iblk, V, idx t]

/-- Where a block's row and lane lie in the result arrays. -/
theorem emb9 (r : Fin 1024) (l : Fin 256) : ((cfg0.win 9).blk t).view.emb (ix2 r l) = (ix2 (row t r) (col t l) : S2048x1024.Idx) := by
  blk_ext [idx t]
@[inherit_doc emb9] theorem emb10 (r : Fin 1024) (l : Fin 256) : ((cfg0.win 10).blk t).view.emb (ix2 r l) = (ix2 (row t r) (col t l) : S2048x1024.Idx) := by
  blk_ext [idx t]
@[inherit_doc emb9] theorem emb11 (r : Fin 1024) (l : Fin 256) : ((cfg0.win 11).blk t).view.emb (ix2 r l) = (ix2 (row t r) (col t l) : S2048x1024.Idx) := by
  blk_ext [idx t]
@[inherit_doc emb9] theorem emb12 (r : Fin 1024) (l : Fin 256) : ((cfg0.win 12).blk t).view.emb (ix2 r l) = (ix2 (row t r) (col t l) : S2048x1024.Idx) := by
  blk_ext [idx t]
@[inherit_doc emb9] theorem emb13 (r : Fin 1024) (l : Fin 256) : ((cfg0.win 13).blk t).view.emb (ix2 r l) = (ix2 (row t r) (col t l) : S2048x1024.Idx) := by
  blk_ext [idx t]
@[inherit_doc emb9] theorem emb14 (r : Fin 1024) (l : Fin 256) : ((cfg0.win 14).blk t).view.emb (ix2 r l) = (ix2 (row t r) (col t l) : S2048x1024.Idx) := by
  blk_ext [idx t]
@[inherit_doc emb9] theorem emb15 (r : Fin 1024) (l : Fin 256) : ((cfg0.win 15).blk t).view.emb (ix2 r l) = (ix2 (row t r) (col t l) : S2048x1024.Idx) := by
  blk_ext [idx t]
@[inherit_doc emb9] theorem emb16 (r : Fin 1024) (l : Fin 256) : ((cfg0.win 16).blk t).view.emb (ix2 r l) = (ix2 (row t r) (col t l) : S2048x1024.Idx) := by
  blk_ext [idx t]

/-- The result arrays after the run: the branches' cotangents, then the gates'. -/
theorem final9 : (dats m 0 c).arrAt 9 (cfgs 0).N = dY m c 4352 (by decide) := by
  refine (dats m 0 c).arrAt_eq_of_covers 9 _ (by decide +kernel) fun t _ y => ?_
  blk_simp
  rw [after0_9]
  frame_out
  idx_vars y
  refine (tileY _ _ y0 y1).trans ?_
  refine .trans ?_ (congrArg (dY m c 4352 (by decide)) (emb9 t y0 y1)).symm
  simp only [rd0, rd8]
  rfl

@[inherit_doc final9] theorem final10 : (dats m 0 c).arrAt 10 (cfgs 0).N = dY m c 5376 (by decide) := by
  refine (dats m 0 c).arrAt_eq_of_covers 10 _ (by decide +kernel) fun t _ y => ?_
  blk_simp
  rw [after0_10]
  frame_out
  idx_vars y
  refine (tileY (iblk m c 8 t) (iblk m c 1 t) y0 y1).trans ?_
  refine .trans ?_ (congrArg (dY m c 5376 (by decide)) (emb10 t y0 y1)).symm
  simp only [rd1, rd8]
  rfl

@[inherit_doc final9] theorem final11 : (dats m 0 c).arrAt 11 (cfgs 0).N = dY m c 6400 (by decide) := by
  refine (dats m 0 c).arrAt_eq_of_covers 11 _ (by decide +kernel) fun t _ y => ?_
  blk_simp
  rw [after0_11]
  frame_out
  idx_vars y
  refine (tileY (iblk m c 8 t) (iblk m c 2 t) y0 y1).trans ?_
  refine .trans ?_ (congrArg (dY m c 6400 (by decide)) (emb11 t y0 y1)).symm
  simp only [rd2, rd8]
  rfl

@[inherit_doc final9] theorem final12 : (dats m 0 c).arrAt 12 (cfgs 0).N = dY m c 7424 (by decide) := by
  refine (dats m 0 c).arrAt_eq_of_covers 12 _ (by decide +kernel) fun t _ y => ?_
  blk_simp
  rw [after0_12]
  frame_out
  idx_vars y
  refine (tileY (iblk m c 8 t) (iblk m c 3 t) y0 y1).trans ?_
  refine .trans ?_ (congrArg (dY m c 7424 (by decide)) (emb12 t y0 y1)).symm
  simp only [rd3, rd8]
  rfl

@[inherit_doc final9] theorem final13 : (dats m 0 c).arrAt 13 (cfgs 0).N = dG m c 4352 (by decide) (Y0 m c) := by
  refine (dats m 0 c).arrAt_eq_of_covers 13 _ (by decide +kernel) fun t _ y => ?_
  blk_simp
  rw [after0_13]
  frame_out
  idx_vars y
  refine (tileG _ _ _ y0 y1).trans ?_
  refine .trans ?_ (congrArg (dG m c 4352 (by decide) (Y0 m c)) (emb13 t y0 y1)).symm
  simp only [rd0, rd4, rd8]
  rfl

@[inherit_doc final9] theorem final14 : (dats m 0 c).arrAt 14 (cfgs 0).N = dG m c 5376 (by decide) (Y1 m c) := by
  refine (dats m 0 c).arrAt_eq_of_covers 14 _ (by decide +kernel) fun t _ y => ?_
  blk_simp
  rw [after0_14]
  frame_out
  idx_vars y
  refine (tileG (iblk m c 8 t) (iblk m c 1 t) (iblk m c 5 t) y0 y1).trans ?_
  refine .trans ?_ (congrArg (dG m c 5376 (by decide) (Y1 m c)) (emb14 t y0 y1)).symm
  simp only [rd1, rd5, rd8]
  rfl

@[inherit_doc final9] theorem final15 : (dats m 0 c).arrAt 15 (cfgs 0).N = dG m c 6400 (by decide) (Y2 m c) := by
  refine (dats m 0 c).arrAt_eq_of_covers 15 _ (by decide +kernel) fun t _ y => ?_
  blk_simp
  rw [after0_15]
  frame_out
  idx_vars y
  refine (tileG (iblk m c 8 t) (iblk m c 2 t) (iblk m c 6 t) y0 y1).trans ?_
  refine .trans ?_ (congrArg (dG m c 6400 (by decide) (Y2 m c)) (emb15 t y0 y1)).symm
  simp only [rd2, rd6, rd8]
  rfl

@[inherit_doc final9] theorem final16 : (dats m 0 c).arrAt 16 (cfgs 0).N = dG m c 7424 (by decide) (Y3 m c) := by
  refine (dats m 0 c).arrAt_eq_of_covers 16 _ (by decide +kernel) fun t _ y => ?_
  blk_simp
  rw [after0_16]
  frame_out
  idx_vars y
  refine (tileG (iblk m c 8 t) (iblk m c 3 t) (iblk m c 7 t) y0 y1).trans ?_
  refine .trans ?_ (congrArg (dG m c 7424 (by decide) (Y3 m c)) (emb16 t y0 y1)).symm
  simp only [rd3, rd7, rd8]
  rfl

end Cert.Kernel18Ideal.Gated

namespace Cert.Kernel19Ideal.Gated
open Cert.Kernel19Ideal Cert.Kernel19Ideal.Gen Cert.Logistic

/-- The merge at an entry of a block. -/
theorem tile (g0 y0 g1 y1 g2 y2 g3 y3 : Vec Ideal S1024x256 .f32) (r : Fin 1024) (l : Fin 256) :
    (k0_pay1 (F := Ideal) (k0_pay2 g0 y0 g1 y1 g2 y2) g3 k0_pay3 y3 (ix2 r l) : EReal)
      = sg (g0 (ix2 r l)) * y0 (ix2 r l) + sg (g1 (ix2 r l)) * y1 (ix2 r l) + sg (g2 (ix2 r l)) * y2 (ix2 r l)
        + sg (g3 (ix2 r l)) * y3 (ix2 r l) := by
  pointwise [k0_pay1, k0_pay2, k0_pay3]
  simp only [zero_sub]
  rfl

variable (m : (ℓ : Loc nD τ sig) → Buf (Elt Ideal) ℓ) (c : Dev nD)

/-- The projection and the four branches that device `c` starts with. -/
def P : FVec Ideal S2048x8448 .f32 := m ((c : Thread nD τ).loc main_arg0)
@[inherit_doc P] def Y0 : FVec Ideal S2048x1024 .f32 := m ((c : Thread nD τ).loc main_arg1)
@[inherit_doc P] def Y1 : FVec Ideal S2048x1024 .f32 := m ((c : Thread nD τ).loc main_arg2)
@[inherit_doc P] def Y2 : FVec Ideal S2048x1024 .f32 := m ((c : Thread nD τ).loc main_arg3)
@[inherit_doc P] def Y3 : FVec Ideal S2048x1024 .f32 := m ((c : Thread nD τ).loc main_arg4)

/-- The result: the sum of the branches' rows, each entry times the logistic of its gate. -/
def Z : FVec Ideal S2048x1024 .bf16 := fun i => (fun (t : Fin 2048) (j : Fin 1024) =>
  (sg (P m c (ix2 t ⟨4352 + j, by omega⟩)) * Y0 m c (ix2 t j) + sg (P m c (ix2 t ⟨5376 + j, by omega⟩)) * Y1 m c (ix2 t j)
    + sg (P m c (ix2 t ⟨6400 + j, by omega⟩)) * Y2 m c (ix2 t j) + sg (P m c (ix2 t ⟨7424 + j, by omega⟩)) * Y3 m c (ix2 t j) : EReal)) (i 0) (i 1)

/-- Where each window's block lies, as for the backward. -/
theorem idx : ∀ t : Fin cfg0.N, win0_0.index t = ![t.val / 4, 17 + t.val % 4] ∧ win0_1.index t = ![t.val / 4, 21 + t.val % 4]
    ∧ win0_2.index t = ![t.val / 4, 25 + t.val % 4] ∧ win0_3.index t = ![t.val / 4, 29 + t.val % 4]
    ∧ win0_4.index t = ![t.val / 4, t.val % 4] ∧ win0_5.index t = ![t.val / 4, t.val % 4] ∧ win0_6.index t = ![t.val / 4, t.val % 4]
    ∧ win0_7.index t = ![t.val / 4, t.val % 4] ∧ win0_8.index t = ![t.val / 4, t.val % 4] :=
  (by decide +kernel : ∀ t : Fin grid0.N, _)

variable (t : Fin cfg0.N)
/-- The array's row and column under a row and a lane of the point's block. -/
theorem lt (r : Fin 1024) : t.val / 4 * 1024 + r < 2048 := by have := lt_of_lt_of_eq t.isLt N_0; omega
@[inherit_doc lt] abbrev row (r : Fin 1024) : Fin 2048 := ⟨t.val / 4 * 1024 + r, lt t r⟩
@[inherit_doc lt] abbrev col (l : Fin 256) : Fin 1024 := ⟨t.val % 4 * 256 + l, by omega⟩

/-- The blocks read at a row and a lane, and where they lie in the result. -/
theorem rd0 (r : Fin 1024) (l : Fin 256) : iblk m c 0 t (ix2 r l) = P m c (ix2 (row t r) ⟨4352 + col t l, by omega⟩) := by
  unfold P; blk_ext [iblk, V, idx t]
@[inherit_doc rd0] theorem rd1 (r : Fin 1024) (l : Fin 256) : iblk m c 1 t (ix2 r l) = P m c (ix2 (row t r) ⟨5376 + col t l, by omega⟩) := by
  unfold P; blk_ext [iblk, V, idx t]
@[inherit_doc rd0] theorem rd2 (r : Fin 1024) (l : Fin 256) : iblk m c 2 t (ix2 r l) = P m c (ix2 (row t r) ⟨6400 + col t l, by omega⟩) := by
  unfold P; blk_ext [iblk, V, idx t]
@[inherit_doc rd0] theorem rd3 (r : Fin 1024) (l : Fin 256) : iblk m c 3 t (ix2 r l) = P m c (ix2 (row t r) ⟨7424 + col t l, by omega⟩) := by
  unfold P; blk_ext [iblk, V, idx t]
@[inherit_doc rd0] theorem rd4 (r : Fin 1024) (l : Fin 256) : iblk m c 4 t (ix2 r l) = Y0 m c (ix2 (row t r) (col t l)) := by
  unfold Y0; blk_ext [iblk, V, idx t]
@[inherit_doc rd0] theorem rd5 (r : Fin 1024) (l : Fin 256) : iblk m c 5 t (ix2 r l) = Y1 m c (ix2 (row t r) (col t l)) := by
  unfold Y1; blk_ext [iblk, V, idx t]
@[inherit_doc rd0] theorem rd6 (r : Fin 1024) (l : Fin 256) : iblk m c 6 t (ix2 r l) = Y2 m c (ix2 (row t r) (col t l)) := by
  unfold Y2; blk_ext [iblk, V, idx t]
@[inherit_doc rd0] theorem rd7 (r : Fin 1024) (l : Fin 256) : iblk m c 7 t (ix2 r l) = Y3 m c (ix2 (row t r) (col t l)) := by
  unfold Y3; blk_ext [iblk, V, idx t]
@[inherit_doc rd0] theorem emb8 (r : Fin 1024) (l : Fin 256) : ((cfg0.win 8).blk t).view.emb (ix2 r l) = (ix2 (row t r) (col t l) : S2048x1024.Idx) := by
  blk_ext [idx t]

/-- The result after the run. -/
theorem final8 : (dats m 0 c).arrAt 8 (cfgs 0).N = Z m c := by
  refine (dats m 0 c).arrAt_eq_of_covers 8 _ (by decide +kernel) fun t _ y => ?_
  blk_simp
  rw [after0_8]
  frame_out
  idx_vars y
  refine (tile _ _ _ _ _ _ _ _ y0 y1).trans ?_
  refine .trans ?_ (congrArg (Z m c) (emb8 t y0 y1)).symm
  simp only [rd0, rd1, rd2, rd3, rd4, rd5, rd6, rd7]
  rfl

end Cert.Kernel19Ideal.Gated

namespace Cert.Proof.MergeBackward

/-- The frames: both programs of the call have generated runs, the reference is a run of host operations. -/
theorem frame_kernel : Cert.quiescent_Kernel18 := fun m ρ _ => Cert.Kernel18.Gen.frame m ρ
@[inherit_doc frame_kernel] theorem frame_ideal : Cert.quiescent_Kernel18Ideal := fun m ρ _ => Cert.Kernel18Ideal.Gen.frame m ρ
@[inherit_doc frame_kernel] theorem frame_reference : Cert.quiescent_Reference18Ideal := fun m ρ _ =>
  (θ_run Cert.Reference18Ideal.defs _ _).mono (fun r h => ⟨fun c => (h c).2.2.2.2.2.2.2.2, sem_eq_zero_of_no_sems (by decide) r.2⟩)
    (Cert.Reference18Ideal.Value.run m ρ)

/-- No operation of the call is replaced. -/
theorem preserves : Cert.preserves_Kernel18_Kernel18Ideal := trivial

set_option maxHeartbeats 1600000 in
/-- The call's eight results are those of the reference. -/
theorem algebraic : Cert.algebraic_Kernel18Ideal_Reference18Ideal := by
  pair_intro
  · run_from Cert.Kernel18Ideal.Value.run_blocks m g
  · run_from Cert.Reference18Ideal.Value.run m' g'
    · refine .trans ?_ (Cert.Kernel18Ideal.Gated.final9 m c).symm
      funext i
      idx_vars i
      pointwise
      rfl
    · refine .trans ?_ (Cert.Kernel18Ideal.Gated.final10 m c).symm
      funext i
      idx_vars i
      pointwise
      rfl
    · refine .trans ?_ (Cert.Kernel18Ideal.Gated.final11 m c).symm
      funext i
      idx_vars i
      pointwise
      rfl
    · refine .trans ?_ (Cert.Kernel18Ideal.Gated.final12 m c).symm
      funext i
      idx_vars i
      pointwise
      rfl
    · refine .trans ?_ (Cert.Kernel18Ideal.Gated.final13 m c).symm
      funext i
      idx_vars i
      pointwise
      rfl
    · refine .trans ?_ (Cert.Kernel18Ideal.Gated.final14 m c).symm
      funext i
      idx_vars i
      pointwise
      rfl
    · refine .trans ?_ (Cert.Kernel18Ideal.Gated.final15 m c).symm
      funext i
      idx_vars i
      pointwise
      rfl
    · refine .trans ?_ (Cert.Kernel18Ideal.Gated.final16 m c).symm
      funext i
      idx_vars i
      pointwise
      rfl

end Cert.Proof.MergeBackward

namespace Cert.Proof.Merge

/-- The frames, as for the backward. -/
theorem frame_kernel : Cert.quiescent_Kernel19 := fun m ρ _ => Cert.Kernel19.Gen.frame m ρ
@[inherit_doc frame_kernel] theorem frame_ideal : Cert.quiescent_Kernel19Ideal := fun m ρ _ => Cert.Kernel19Ideal.Gen.frame m ρ
@[inherit_doc frame_kernel] theorem frame_reference : Cert.quiescent_Reference19Ideal := fun m ρ _ =>
  (θ_run Cert.Reference19Ideal.defs _ _).mono (fun r h => ⟨fun c => (h c).2, sem_eq_zero_of_no_sems (by decide) r.2⟩)
    (Cert.Reference19Ideal.Value.run m ρ)

/-- No operation of the call is replaced. -/
theorem preserves : Cert.preserves_Kernel19_Kernel19Ideal := trivial

/-- The call's result is that of the reference. -/
theorem algebraic : Cert.algebraic_Kernel19Ideal_Reference19Ideal := by
  pair_intro
  · run_from Cert.Kernel19Ideal.Value.run_blocks m g
  · run_from Cert.Reference19Ideal.Value.run m' g'
    refine .trans ?_ (Cert.Kernel19Ideal.Gated.final8 m c).symm
    funext i
    idx_vars i
    pointwise
    rfl

end Cert.Proof.Merge

end
-- ==== Proof.Product.Swiglu.lean ====
/-
  The feed-forward's gated activation: every entry is the gate times its logistic times the other branch.
-/
module

public import proofs.«01_k».proof.Defs
public import proofs.«01_k».proof.Proof.Logistic
public import proofs.«01_k».proof.Proof.Gen.Kernel20.Frame
public import proofs.«01_k».proof.Proof.Gen.Kernel20Ideal.Value
public import proofs.«01_k».proof.Proof.Gen.Reference20Ideal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Kernel20Ideal.Gated
open Cert.Kernel20Ideal Cert.Kernel20Ideal.Gen Cert.Logistic

/-- The activation at an entry of a block. -/
theorem tile (g u : Vec Ideal S256x2816 .f32) (r : Fin 256) (l : Fin 2816) :
    (k0_pay1 (F := Ideal) g u (ix2 r l) : EReal)
      = g (ix2 r l) * sg (g (ix2 r l)) * u (ix2 r l) := by
  pointwise [k0_pay1]
  rw [zero_sub]
  rfl

variable (m : (ℓ : Loc nD τ sig) → Buf (Elt Ideal) ℓ) (c : Dev nD)

/-- The gate and the other branch that device `c` starts with. -/
def G : FVec Ideal S2048x2816 .f32 := m ((c : Thread nD τ).loc main_arg0)
@[inherit_doc G] def U : FVec Ideal S2048x2816 .f32 := m ((c : Thread nD τ).loc main_arg1)

/-- The result. -/
def Z : FVec Ideal S2048x2816 .bf16 := fun i => (fun (t : Fin 2048) (l : Fin 2816) =>
  (G m c (ix2 t l) * sg (G m c (ix2 t l)) * U m c (ix2 t l) : EReal)) (i 0) (i 1)

/-- Where each window's block lies: 256 rows per point. -/
theorem idx : ∀ t : Fin cfg0.N, win0_0.index t = ![t.val, 0] ∧ win0_1.index t = ![t.val, 0] ∧ win0_2.index t = ![t.val, 0] :=
  (by decide +kernel : ∀ t : Fin grid0.N, _)

variable (t : Fin cfg0.N)
/-- The array's row under row `r` of the point's block. -/
theorem lt (r : Fin 256) : t.val * 256 + r < 2048 := by have := lt_of_lt_of_eq t.isLt N_0; omega
@[inherit_doc lt] abbrev row (r : Fin 256) : Fin 2048 := ⟨t.val * 256 + r, lt t r⟩

/-- The blocks read at a row and a column, and where a block's row lies in the result. -/
theorem rd0 (r : Fin 256) (l : Fin 2816) : iblk m c 0 t (ix2 r l) = G m c (ix2 (row t r) l) := by
  unfold G; blk_ext [iblk, V, idx t]
@[inherit_doc rd0] theorem rd1 (r : Fin 256) (l : Fin 2816) : iblk m c 1 t (ix2 r l) = U m c (ix2 (row t r) l) := by
  unfold U; blk_ext [iblk, V, idx t]
@[inherit_doc rd0] theorem emb2 (r : Fin 256) (l : Fin 2816) : ((cfg0.win 2).blk t).view.emb (ix2 r l) = (ix2 (row t r) l : S2048x2816.Idx) := by
  blk_ext [idx t]

/-- The result after the run. -/
theorem final2 : (dats m 0 c).arrAt 2 (cfgs 0).N = Z m c := by
  refine (dats m 0 c).arrAt_eq_of_covers 2 _ (by decide +kernel) fun t _ y => ?_
  blk_simp
  rw [after0_2]
  frame_out
  idx_vars y
  refine (tile _ _ y0 y1).trans ?_
  refine .trans ?_ (congrArg (Z m c) (emb2 t y0 y1)).symm
  simp only [rd0, rd1]
  rfl

end Cert.Kernel20Ideal.Gated

namespace Cert.Proof.Swiglu

/-- The frames: both programs of the call have generated runs, the reference is a run of host operations. -/
theorem frame_kernel : Cert.quiescent_Kernel20 := fun m ρ _ => Cert.Kernel20.Gen.frame m ρ
@[inherit_doc frame_kernel] theorem frame_ideal : Cert.quiescent_Kernel20Ideal := fun m ρ _ => Cert.Kernel20Ideal.Gen.frame m ρ
@[inherit_doc frame_kernel] theorem frame_reference : Cert.quiescent_Reference20Ideal := fun m ρ _ =>
  (θ_run Cert.Reference20Ideal.defs _ _).mono (fun r h => ⟨fun c => (h c).2, sem_eq_zero_of_no_sems (by decide) r.2⟩)
    (Cert.Reference20Ideal.Value.run m ρ)

/-- No operation of the call is replaced. -/
theorem preserves : Cert.preserves_Kernel20_Kernel20Ideal := trivial

/-- The call's result is that of the reference. -/
theorem algebraic : Cert.algebraic_Kernel20Ideal_Reference20Ideal := by
  pair_intro
  · run_from Cert.Kernel20Ideal.Value.run_blocks m g
  · run_from Cert.Reference20Ideal.Value.run m' g'
    refine .trans ?_ (Cert.Kernel20Ideal.Gated.final2 m c).symm
    funext i
    idx_vars i
    pointwise
    rfl

end Cert.Proof.Swiglu

end
-- ==== Proof.Product.BranchOut.lean ====
/-
  The products of the four branches with their output weights. A call is one grid point: the branch's array times 512 rows of the weight
  arena, which begin at row 17920 for the first branch and 512 rows later for each branch after it.
-/
module

public import proofs.«01_k».proof.Defs
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Value
public import proofs.«01_k».proof.Proof.Gen.Reference24Ideal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Kernel21Ideal.Product
open Cert.Kernel21Ideal Cert.Kernel21Ideal.Gen

/-- The branch's row `t` times the column `l` of the 512 arena rows from row `lo` on. -/
def out (lo : ℕ) (h : lo + 512 ≤ 19968) (y : FVec Ideal S2048x512 .bf16) (w : FVec Ideal S19968x1024 .bf16) : FVec Ideal S2048x1024 .f32 :=
  fun i => (fun (t : Fin 2048) (l : Fin 1024) => ∑ k : Fin 512, y (ix2 t k) * w (ix2 ⟨lo + k, by omega⟩ l)) (i 0) (i 1)

/-- The result's block: the product of the two blocks. -/
theorem tile (y : Vec Ideal S2048x512 .bf16) (w : Vec Ideal S512x1024 .bf16) (r : Fin 2048) (l : Fin 1024) :
    k0_pay1 (F := Ideal) y w (ix2 r l) = ∑ k : Fin 512, y (ix2 r k) * w (ix2 k l) := by
  pointwise [k0_pay1]

variable (m : (ℓ : Loc nD τ sig) → Buf (Elt Ideal) ℓ) (c : Dev nD)

/-- The branch and the weight arena that device `c` starts with. -/
def Y : FVec Ideal S2048x512 .bf16 := m ((c : Thread nD τ).loc main_arg0)
@[inherit_doc Y] def A : FVec Ideal S19968x1024 .bf16 := m ((c : Thread nD τ).loc main_arg1)

/-- Where each window's block lies: the whole branch, the arena's 35th block of 512 rows, the whole result. -/
theorem idx : ∀ t : Fin cfg0.N, win0_0.index t = ![0, 0] ∧ win0_1.index t = ![35, 0] ∧ win0_2.index t = ![0, 0] :=
  (by decide +kernel : ∀ t : Fin grid0.N, _)

variable (t : Fin cfg0.N)
/-- The blocks read at a row and a column, and where a block's entry lies in the result. -/
theorem rd0 (r : Fin 2048) (k : Fin 512) : iblk m c 0 t (ix2 r k) = Y m c (ix2 r k) := by
  unfold Y; blk_ext [iblk, V, idx t]
@[inherit_doc rd0] theorem rd1 (k : Fin 512) (l : Fin 1024) : iblk m c 1 t (ix2 k l) = A m c (ix2 ⟨17920 + k, by omega⟩ l) := by
  unfold A; blk_ext [iblk, V, idx t]
@[inherit_doc rd0] theorem emb2 (r : Fin 2048) (l : Fin 1024) : ((cfg0.win 2).blk t).view.emb (ix2 r l) = (ix2 r l : S2048x1024.Idx) := by
  blk_ext [idx t]

/-- The result after the run. -/
theorem final2 : (dats m 0 c).arrAt 2 (cfgs 0).N = out 17920 (by decide) (Y m c) (A m c) := by
  refine (dats m 0 c).arrAt_eq_of_covers 2 _ (by decide +kernel) fun t _ y => ?_
  blk_simp
  rw [after0_2]
  frame_out
  idx_vars y
  refine (tile _ _ y0 y1).trans ?_
  refine .trans ?_ (congrArg (out 17920 (by decide) (Y m c) (A m c)) (emb2 t y0 y1)).symm
  simp only [rd0, rd1]
  rfl

end Cert.Kernel21Ideal.Product

namespace Cert.Kernel22Ideal.Product
open Cert.Kernel22Ideal Cert.Kernel22Ideal.Gen
open Cert.Kernel21Ideal.Product (out tile)

variable (m : (ℓ : Loc nD τ sig) → Buf (Elt Ideal) ℓ) (c : Dev nD)

/-- The branch and the weight arena that device `c` starts with. -/
def Y : FVec Ideal S2048x512 .bf16 := m ((c : Thread nD τ).loc main_arg0)
@[inherit_doc Y] def A : FVec Ideal S19968x1024 .bf16 := m ((c : Thread nD τ).loc main_arg1)

/-- Where each window's block lies: the arena's block is the one after the first branch's. -/
theorem idx : ∀ t : Fin cfg0.N, win0_0.index t = ![0, 0] ∧ win0_1.index t = ![36, 0] ∧ win0_2.index t = ![0, 0] :=
  (by decide +kernel : ∀ t : Fin grid0.N, _)

variable (t : Fin cfg0.N)
/-- The blocks read at a row and a column, and where a block's entry lies in the result. -/
theorem rd0 (r : Fin 2048) (k : Fin 512) : iblk m c 0 t (ix2 r k) = Y m c (ix2 r k) := by
  unfold Y; blk_ext [iblk, V, idx t]
@[inherit_doc rd0] theorem rd1 (k : Fin 512) (l : Fin 1024) : iblk m c 1 t (ix2 k l) = A m c (ix2 ⟨18432 + k, by omega⟩ l) := by
  unfold A; blk_ext [iblk, V, idx t]
@[inherit_doc rd0] theorem emb2 (r : Fin 2048) (l : Fin 1024) : ((cfg0.win 2).blk t).view.emb (ix2 r l) = (ix2 r l : S2048x1024.Idx) := by
  blk_ext [idx t]

/-- The result after the run. -/
theorem final2 : (dats m 0 c).arrAt 2 (cfgs 0).N = out 18432 (by decide) (Y m c) (A m c) := by
  refine (dats m 0 c).arrAt_eq_of_covers 2 _ (by decide +kernel) fun t _ y => ?_
  blk_simp
  rw [after0_2]
  frame_out
  idx_vars y
  refine (tile _ _ y0 y1).trans ?_
  refine .trans ?_ (congrArg (out 18432 (by decide) (Y m c) (A m c)) (emb2 t y0 y1)).symm
  simp only [rd0, rd1]
  rfl

end Cert.Kernel22Ideal.Product

namespace Cert.Kernel23Ideal.Product
open Cert.Kernel23Ideal Cert.Kernel23Ideal.Gen
open Cert.Kernel21Ideal.Product (out tile)

variable (m : (ℓ : Loc nD τ sig) → Buf (Elt Ideal) ℓ) (c : Dev nD)

/-- The branch and the weight arena that device `c` starts with. -/
def Y : FVec Ideal S2048x512 .bf16 := m ((c : Thread nD τ).loc main_arg0)
@[inherit_doc Y] def A : FVec Ideal S19968x1024 .bf16 := m ((c : Thread nD τ).loc main_arg1)

/-- Where each window's block lies: the arena's block is two after the first branch's. -/
theorem idx : ∀ t : Fin cfg0.N, win0_0.index t = ![0, 0] ∧ win0_1.index t = ![37, 0] ∧ win0_2.index t = ![0, 0] :=
  (by decide +kernel : ∀ t : Fin grid0.N, _)

variable (t : Fin cfg0.N)
/-- The blocks read at a row and a column, and where a block's entry lies in the result. -/
theorem rd0 (r : Fin 2048) (k : Fin 512) : iblk m c 0 t (ix2 r k) = Y m c (ix2 r k) := by
  unfold Y; blk_ext [iblk, V, idx t]
@[inherit_doc rd0] theorem rd1 (k : Fin 512) (l : Fin 1024) : iblk m c 1 t (ix2 k l) = A m c (ix2 ⟨18944 + k, by omega⟩ l) := by
  unfold A; blk_ext [iblk, V, idx t]
@[inherit_doc rd0] theorem emb2 (r : Fin 2048) (l : Fin 1024) : ((cfg0.win 2).blk t).view.emb (ix2 r l) = (ix2 r l : S2048x1024.Idx) := by
  blk_ext [idx t]

/-- The result after the run. -/
theorem final2 : (dats m 0 c).arrAt 2 (cfgs 0).N = out 18944 (by decide) (Y m c) (A m c) := by
  refine (dats m 0 c).arrAt_eq_of_covers 2 _ (by decide +kernel) fun t _ y => ?_
  blk_simp
  rw [after0_2]
  frame_out
  idx_vars y
  refine (tile _ _ y0 y1).trans ?_
  refine .trans ?_ (congrArg (out 18944 (by decide) (Y m c) (A m c)) (emb2 t y0 y1)).symm
  simp only [rd0, rd1]
  rfl

end Cert.Kernel23Ideal.Product

namespace Cert.Kernel24Ideal.Product
open Cert.Kernel24Ideal Cert.Kernel24Ideal.Gen
open Cert.Kernel21Ideal.Product (out tile)

variable (m : (ℓ : Loc nD τ sig) → Buf (Elt Ideal) ℓ) (c : Dev nD)

/-- The branch and the weight arena that device `c` starts with. -/
def Y : FVec Ideal S2048x512 .bf16 := m ((c : Thread nD τ).loc main_arg0)
@[inherit_doc Y] def A : FVec Ideal S19968x1024 .bf16 := m ((c : Thread nD τ).loc main_arg1)

/-- Where each window's block lies: the arena's block is its last. -/
theorem idx : ∀ t : Fin cfg0.N, win0_0.index t = ![0, 0] ∧ win0_1.index t = ![38, 0] ∧ win0_2.index t = ![0, 0] :=
  (by decide +kernel : ∀ t : Fin grid0.N, _)

variable (t : Fin cfg0.N)
/-- The blocks read at a row and a column, and where a block's entry lies in the result. -/
theorem rd0 (r : Fin 2048) (k : Fin 512) : iblk m c 0 t (ix2 r k) = Y m c (ix2 r k) := by
  unfold Y; blk_ext [iblk, V, idx t]
@[inherit_doc rd0] theorem rd1 (k : Fin 512) (l : Fin 1024) : iblk m c 1 t (ix2 k l) = A m c (ix2 ⟨19456 + k, by omega⟩ l) := by
  unfold A; blk_ext [iblk, V, idx t]
@[inherit_doc rd0] theorem emb2 (r : Fin 2048) (l : Fin 1024) : ((cfg0.win 2).blk t).view.emb (ix2 r l) = (ix2 r l : S2048x1024.Idx) := by
  blk_ext [idx t]

/-- The result after the run. -/
theorem final2 : (dats m 0 c).arrAt 2 (cfgs 0).N = out 19456 (by decide) (Y m c) (A m c) := by
  refine (dats m 0 c).arrAt_eq_of_covers 2 _ (by decide +kernel) fun t _ y => ?_
  blk_simp
  rw [after0_2]
  frame_out
  idx_vars y
  refine (tile _ _ y0 y1).trans ?_
  refine .trans ?_ (congrArg (out 19456 (by decide) (Y m c) (A m c)) (emb2 t y0 y1)).symm
  simp only [rd0, rd1]
  rfl

end Cert.Kernel24Ideal.Product

namespace Cert.Proof.FirstOut

/-- The frames: both programs of the call have generated runs, the reference is a run of host operations. -/
theorem frame_kernel : Cert.quiescent_Kernel21 := fun m ρ _ => Cert.Kernel21.Gen.frame m ρ
@[inherit_doc frame_kernel] theorem frame_ideal : Cert.quiescent_Kernel21Ideal := fun m ρ _ => Cert.Kernel21Ideal.Gen.frame m ρ
@[inherit_doc frame_kernel] theorem frame_reference : Cert.quiescent_Reference21Ideal := fun m ρ _ =>
  (θ_run Cert.Reference21Ideal.defs _ _).mono (fun r h => ⟨fun c => (h c).2, sem_eq_zero_of_no_sems (by decide) r.2⟩)
    (Cert.Reference21Ideal.Value.run m ρ)

/-- No operation of the call is replaced. -/
theorem preserves : Cert.preserves_Kernel21_Kernel21Ideal := trivial

/-- The call's result is that of the reference. -/
theorem algebraic : Cert.algebraic_Kernel21Ideal_Reference21Ideal := by
  pair_intro
  · run_from Cert.Kernel21Ideal.Value.run_blocks m g
  · run_from Cert.Reference21Ideal.Value.run m' g'
    refine .trans ?_ (Cert.Kernel21Ideal.Product.final2 m c).symm
    funext i
    idx_vars i
    pointwise
    rfl

end Cert.Proof.FirstOut

namespace Cert.Proof.SecondOut

/-- The frames, as for the first branch. -/
theorem frame_kernel : Cert.quiescent_Kernel22 := fun m ρ _ => Cert.Kernel22.Gen.frame m ρ
@[inherit_doc frame_kernel] theorem frame_ideal : Cert.quiescent_Kernel22Ideal := fun m ρ _ => Cert.Kernel22Ideal.Gen.frame m ρ
@[inherit_doc frame_kernel] theorem frame_reference : Cert.quiescent_Reference22Ideal := fun m ρ _ =>
  (θ_run Cert.Reference22Ideal.defs _ _).mono (fun r h => ⟨fun c => (h c).2, sem_eq_zero_of_no_sems (by decide) r.2⟩)
    (Cert.Reference22Ideal.Value.run m ρ)

/-- No operation of the call is replaced. -/
theorem preserves : Cert.preserves_Kernel22_Kernel22Ideal := trivial

/-- The call's result is that of the reference. -/
theorem algebraic : Cert.algebraic_Kernel22Ideal_Reference22Ideal := by
  pair_intro
  · run_from Cert.Kernel22Ideal.Value.run_blocks m g
  · run_from Cert.Reference22Ideal.Value.run m' g'
    refine .trans ?_ (Cert.Kernel22Ideal.Product.final2 m c).symm
    funext i
    idx_vars i
    pointwise
    rfl

end Cert.Proof.SecondOut

namespace Cert.Proof.ThirdOut

/-- The frames, as for the first branch. -/
theorem frame_kernel : Cert.quiescent_Kernel23 := fun m ρ _ => Cert.Kernel23.Gen.frame m ρ
@[inherit_doc frame_kernel] theorem frame_ideal : Cert.quiescent_Kernel23Ideal := fun m ρ _ => Cert.Kernel23Ideal.Gen.frame m ρ
@[inherit_doc frame_kernel] theorem frame_reference : Cert.quiescent_Reference23Ideal := fun m ρ _ =>
  (θ_run Cert.Reference23Ideal.defs _ _).mono (fun r h => ⟨fun c => (h c).2, sem_eq_zero_of_no_sems (by decide) r.2⟩)
    (Cert.Reference23Ideal.Value.run m ρ)

/-- No operation of the call is replaced. -/
theorem preserves : Cert.preserves_Kernel23_Kernel23Ideal := trivial

/-- The call's result is that of the reference. -/
theorem algebraic : Cert.algebraic_Kernel23Ideal_Reference23Ideal := by
  pair_intro
  · run_from Cert.Kernel23Ideal.Value.run_blocks m g
  · run_from Cert.Reference23Ideal.Value.run m' g'
    refine .trans ?_ (Cert.Kernel23Ideal.Product.final2 m c).symm
    funext i
    idx_vars i
    pointwise
    rfl

end Cert.Proof.ThirdOut

namespace Cert.Proof.FourthOut

/-- The frames, as for the first branch. -/
theorem frame_kernel : Cert.quiescent_Kernel24 := fun m ρ _ => Cert.Kernel24.Gen.frame m ρ
@[inherit_doc frame_kernel] theorem frame_ideal : Cert.quiescent_Kernel24Ideal := fun m ρ _ => Cert.Kernel24Ideal.Gen.frame m ρ
@[inherit_doc frame_kernel] theorem frame_reference : Cert.quiescent_Reference24Ideal := fun m ρ _ =>
  (θ_run Cert.Reference24Ideal.defs _ _).mono (fun r h => ⟨fun c => (h c).2, sem_eq_zero_of_no_sems (by decide) r.2⟩)
    (Cert.Reference24Ideal.Value.run m ρ)

/-- No operation of the call is replaced. -/
theorem preserves : Cert.preserves_Kernel24_Kernel24Ideal := trivial

/-- The call's result is that of the reference. -/
theorem algebraic : Cert.algebraic_Kernel24Ideal_Reference24Ideal := by
  pair_intro
  · run_from Cert.Kernel24Ideal.Value.run_blocks m g
  · run_from Cert.Reference24Ideal.Value.run m' g'
    refine .trans ?_ (Cert.Kernel24Ideal.Product.final2 m c).symm
    funext i
    idx_vars i
    pointwise
    rfl

end Cert.Proof.FourthOut

end
-- ==== Proof.Product.BranchCotangent.lean ====
/-
  The cotangents of the four branches: the cotangent of a branch's output product times the transpose of the branch's 512 rows of the
  weight arena, one grid point per call.
-/
module

public import proofs.«01_k».proof.Defs
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Value
public import proofs.«01_k».proof.Proof.Gen.Reference28Ideal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Kernel25Ideal.Product
open Cert.Kernel25Ideal Cert.Kernel25Ideal.Gen

/-- The cotangent's row `t` times row `j` of the 512 arena rows from row `lo` on. -/
def back (lo : ℕ) (h : lo + 512 ≤ 19968) (d : FVec Ideal S2048x1024 .bf16) (w : FVec Ideal S19968x1024 .bf16) : FVec Ideal S2048x512 .f32 :=
  fun i => (fun (t : Fin 2048) (j : Fin 512) => ∑ k : Fin 1024, d (ix2 t k) * w (ix2 ⟨lo + j, by omega⟩ k)) (i 0) (i 1)

/-- The result's block: the product of the two blocks. -/
theorem tile (d : Vec Ideal S2048x1024 .bf16) (w : Vec Ideal S512x1024 .bf16) (r : Fin 2048) (l : Fin 512) :
    k0_pay1 (F := Ideal) d w (ix2 r l) = ∑ k : Fin 1024, d (ix2 r k) * w (ix2 l k) := by
  pointwise [k0_pay1]

variable (m : (ℓ : Loc nD τ sig) → Buf (Elt Ideal) ℓ) (c : Dev nD)

/-- The cotangent and the weight arena that device `c` starts with. -/
def D : FVec Ideal S2048x1024 .bf16 := m ((c : Thread nD τ).loc main_arg0)
@[inherit_doc D] def A : FVec Ideal S19968x1024 .bf16 := m ((c : Thread nD τ).loc main_arg1)

/-- Where each window's block lies: the whole cotangent, the arena's 35th block of 512 rows, the whole result. -/
theorem idx : ∀ t : Fin cfg0.N, win0_0.index t = ![0, 0] ∧ win0_1.index t = ![35, 0] ∧ win0_2.index t = ![0, 0] :=
  (by decide +kernel : ∀ t : Fin grid0.N, _)

variable (t : Fin cfg0.N)
/-- The blocks read at a row and a column, and where a block's entry lies in the result. -/
theorem rd0 (r : Fin 2048) (k : Fin 1024) : iblk m c 0 t (ix2 r k) = D m c (ix2 r k) := by
  unfold D; blk_ext [iblk, V, idx t]
@[inherit_doc rd0] theorem rd1 (l : Fin 512) (k : Fin 1024) : iblk m c 1 t (ix2 l k) = A m c (ix2 ⟨17920 + l, by omega⟩ k) := by
  unfold A; blk_ext [iblk, V, idx t]
@[inherit_doc rd0] theorem emb2 (r : Fin 2048) (l : Fin 512) : ((cfg0.win 2).blk t).view.emb (ix2 r l) = (ix2 r l : S2048x512.Idx) := by
  blk_ext [idx t]

/-- The result after the run. -/
theorem final2 : (dats m 0 c).arrAt 2 (cfgs 0).N = back 17920 (by decide) (D m c) (A m c) := by
  refine (dats m 0 c).arrAt_eq_of_covers 2 _ (by decide +kernel) fun t _ y => ?_
  blk_simp
  rw [after0_2]
  frame_out
  idx_vars y
  refine (tile _ _ y0 y1).trans ?_
  refine .trans ?_ (congrArg (back 17920 (by decide) (D m c) (A m c)) (emb2 t y0 y1)).symm
  simp only [rd0, rd1]
  rfl

end Cert.Kernel25Ideal.Product

namespace Cert.Kernel26Ideal.Product
open Cert.Kernel26Ideal Cert.Kernel26Ideal.Gen
open Cert.Kernel25Ideal.Product (back tile)

variable (m : (ℓ : Loc nD τ sig) → Buf (Elt Ideal) ℓ) (c : Dev nD)

/-- The cotangent and the weight arena that device `c` starts with. -/
def D : FVec Ideal S2048x1024 .bf16 := m ((c : Thread nD τ).loc main_arg0)
@[inherit_doc D] def A : FVec Ideal S19968x1024 .bf16 := m ((c : Thread nD τ).loc main_arg1)

/-- Where each window's block lies: the arena's block is the one after the first branch's. -/
theorem idx : ∀ t : Fin cfg0.N, win0_0.index t = ![0, 0] ∧ win0_1.index t = ![36, 0] ∧ win0_2.index t = ![0, 0] :=
  (by decide +kernel : ∀ t : Fin grid0.N, _)

variable (t : Fin cfg0.N)
/-- The blocks read at a row and a column, and where a block's entry lies in the result. -/
theorem rd0 (r : Fin 2048) (k : Fin 1024) : iblk m c 0 t (ix2 r k) = D m c (ix2 r k) := by
  unfold D; blk_ext [iblk, V, idx t]
@[inherit_doc rd0] theorem rd1 (l : Fin 512) (k : Fin 1024) : iblk m c 1 t (ix2 l k) = A m c (ix2 ⟨18432 + l, by omega⟩ k) := by
  unfold A; blk_ext [iblk, V, idx t]
@[inherit_doc rd0] theorem emb2 (r : Fin 2048) (l : Fin 512) : ((cfg0.win 2).blk t).view.emb (ix2 r l) = (ix2 r l : S2048x512.Idx) := by
  blk_ext [idx t]

/-- The result after the run. -/
theorem final2 : (dats m 0 c).arrAt 2 (cfgs 0).N = back 18432 (by decide) (D m c) (A m c) := by
  refine (dats m 0 c).arrAt_eq_of_covers 2 _ (by decide +kernel) fun t _ y => ?_
  blk_simp
  rw [after0_2]
  frame_out
  idx_vars y
  refine (tile _ _ y0 y1).trans ?_
  refine .trans ?_ (congrArg (back 18432 (by decide) (D m c) (A m c)) (emb2 t y0 y1)).symm
  simp only [rd0, rd1]
  rfl

end Cert.Kernel26Ideal.Product

namespace Cert.Kernel27Ideal.Product
open Cert.Kernel27Ideal Cert.Kernel27Ideal.Gen
open Cert.Kernel25Ideal.Product (back tile)

variable (m : (ℓ : Loc nD τ sig) → Buf (Elt Ideal) ℓ) (c : Dev nD)

/-- The cotangent and the weight arena that device `c` starts with. -/
def D : FVec Ideal S2048x1024 .bf16 := m ((c : Thread nD τ).loc main_arg0)
@[inherit_doc D] def A : FVec Ideal S19968x1024 .bf16 := m ((c : Thread nD τ).loc main_arg1)

/-- Where each window's block lies: the arena's block is two after the first branch's. -/
theorem idx : ∀ t : Fin cfg0.N, win0_0.index t = ![0, 0] ∧ win0_1.index t = ![37, 0] ∧ win0_2.index t = ![0, 0] :=
  (by decide +kernel : ∀ t : Fin grid0.N, _)

variable (t : Fin cfg0.N)
/-- The blocks read at a row and a column, and where a block's entry lies in the result. -/
theorem rd0 (r : Fin 2048) (k : Fin 1024) : iblk m c 0 t (ix2 r k) = D m c (ix2 r k) := by
  unfold D; blk_ext [iblk, V, idx t]
@[inherit_doc rd0] theorem rd1 (l : Fin 512) (k : Fin 1024) : iblk m c 1 t (ix2 l k) = A m c (ix2 ⟨18944 + l, by omega⟩ k) := by
  unfold A; blk_ext [iblk, V, idx t]
@[inherit_doc rd0] theorem emb2 (r : Fin 2048) (l : Fin 512) : ((cfg0.win 2).blk t).view.emb (ix2 r l) = (ix2 r l : S2048x512.Idx) := by
  blk_ext [idx t]

/-- The result after the run. -/
theorem final2 : (dats m 0 c).arrAt 2 (cfgs 0).N = back 18944 (by decide) (D m c) (A m c) := by
  refine (dats m 0 c).arrAt_eq_of_covers 2 _ (by decide +kernel) fun t _ y => ?_
  blk_simp
  rw [after0_2]
  frame_out
  idx_vars y
  refine (tile _ _ y0 y1).trans ?_
  refine .trans ?_ (congrArg (back 18944 (by decide) (D m c) (A m c)) (emb2 t y0 y1)).symm
  simp only [rd0, rd1]
  rfl

end Cert.Kernel27Ideal.Product

namespace Cert.Kernel28Ideal.Product
open Cert.Kernel28Ideal Cert.Kernel28Ideal.Gen
open Cert.Kernel25Ideal.Product (back tile)

variable (m : (ℓ : Loc nD τ sig) → Buf (Elt Ideal) ℓ) (c : Dev nD)

/-- The cotangent and the weight arena that device `c` starts with. -/
def D : FVec Ideal S2048x1024 .bf16 := m ((c : Thread nD τ).loc main_arg0)
@[inherit_doc D] def A : FVec Ideal S19968x1024 .bf16 := m ((c : Thread nD τ).loc main_arg1)

/-- Where each window's block lies: the arena's block is its last. -/
theorem idx : ∀ t : Fin cfg0.N, win0_0.index t = ![0, 0] ∧ win0_1.index t = ![38, 0] ∧ win0_2.index t = ![0, 0] :=
  (by decide +kernel : ∀ t : Fin grid0.N, _)

variable (t : Fin cfg0.N)
/-- The blocks read at a row and a column, and where a block's entry lies in the result. -/
theorem rd0 (r : Fin 2048) (k : Fin 1024) : iblk m c 0 t (ix2 r k) = D m c (ix2 r k) := by
  unfold D; blk_ext [iblk, V, idx t]
@[inherit_doc rd0] theorem rd1 (l : Fin 512) (k : Fin 1024) : iblk m c 1 t (ix2 l k) = A m c (ix2 ⟨19456 + l, by omega⟩ k) := by
  unfold A; blk_ext [iblk, V, idx t]
@[inherit_doc rd0] theorem emb2 (r : Fin 2048) (l : Fin 512) : ((cfg0.win 2).blk t).view.emb (ix2 r l) = (ix2 r l : S2048x512.Idx) := by
  blk_ext [idx t]

/-- The result after the run. -/
theorem final2 : (dats m 0 c).arrAt 2 (cfgs 0).N = back 19456 (by decide) (D m c) (A m c) := by
  refine (dats m 0 c).arrAt_eq_of_covers 2 _ (by decide +kernel) fun t _ y => ?_
  blk_simp
  rw [after0_2]
  frame_out
  idx_vars y
  refine (tile _ _ y0 y1).trans ?_
  refine .trans ?_ (congrArg (back 19456 (by decide) (D m c) (A m c)) (emb2 t y0 y1)).symm
  simp only [rd0, rd1]
  rfl

end Cert.Kernel28Ideal.Product

namespace Cert.Proof.FirstCotangent

/-- The frames: both programs of the call have generated runs, the reference is a run of host operations. -/
theorem frame_kernel : Cert.quiescent_Kernel25 := fun m ρ _ => Cert.Kernel25.Gen.frame m ρ
@[inherit_doc frame_kernel] theorem frame_ideal : Cert.quiescent_Kernel25Ideal := fun m ρ _ => Cert.Kernel25Ideal.Gen.frame m ρ
@[inherit_doc frame_kernel] theorem frame_reference : Cert.quiescent_Reference25Ideal := fun m ρ _ =>
  (θ_run Cert.Reference25Ideal.defs _ _).mono (fun r h => ⟨fun c => (h c).2, sem_eq_zero_of_no_sems (by decide) r.2⟩)
    (Cert.Reference25Ideal.Value.run m ρ)

/-- No operation of the call is replaced. -/
theorem preserves : Cert.preserves_Kernel25_Kernel25Ideal := trivial

/-- The call's result is that of the reference. -/
theorem algebraic : Cert.algebraic_Kernel25Ideal_Reference25Ideal := by
  pair_intro
  · run_from Cert.Kernel25Ideal.Value.run_blocks m g
  · run_from Cert.Reference25Ideal.Value.run m' g'
    refine .trans ?_ (Cert.Kernel25Ideal.Product.final2 m c).symm
    funext i
    idx_vars i
    pointwise
    rfl

end Cert.Proof.FirstCotangent

namespace Cert.Proof.SecondCotangent

/-- The frames, as for the first branch. -/
theorem frame_kernel : Cert.quiescent_Kernel26 := fun m ρ _ => Cert.Kernel26.Gen.frame m ρ
@[inherit_doc frame_kernel] theorem frame_ideal : Cert.quiescent_Kernel26Ideal := fun m ρ _ => Cert.Kernel26Ideal.Gen.frame m ρ
@[inherit_doc frame_kernel] theorem frame_reference : Cert.quiescent_Reference26Ideal := fun m ρ _ =>
  (θ_run Cert.Reference26Ideal.defs _ _).mono (fun r h => ⟨fun c => (h c).2, sem_eq_zero_of_no_sems (by decide) r.2⟩)
    (Cert.Reference26Ideal.Value.run m ρ)

/-- No operation of the call is replaced. -/
theorem preserves : Cert.preserves_Kernel26_Kernel26Ideal := trivial

/-- The call's result is that of the reference. -/
theorem algebraic : Cert.algebraic_Kernel26Ideal_Reference26Ideal := by
  pair_intro
  · run_from Cert.Kernel26Ideal.Value.run_blocks m g
  · run_from Cert.Reference26Ideal.Value.run m' g'
    refine .trans ?_ (Cert.Kernel26Ideal.Product.final2 m c).symm
    funext i
    idx_vars i
    pointwise
    rfl

end Cert.Proof.SecondCotangent

namespace Cert.Proof.ThirdCotangent

/-- The frames, as for the first branch. -/
theorem frame_kernel : Cert.quiescent_Kernel27 := fun m ρ _ => Cert.Kernel27.Gen.frame m ρ
@[inherit_doc frame_kernel] theorem frame_ideal : Cert.quiescent_Kernel27Ideal := fun m ρ _ => Cert.Kernel27Ideal.Gen.frame m ρ
@[inherit_doc frame_kernel] theorem frame_reference : Cert.quiescent_Reference27Ideal := fun m ρ _ =>
  (θ_run Cert.Reference27Ideal.defs _ _).mono (fun r h => ⟨fun c => (h c).2, sem_eq_zero_of_no_sems (by decide) r.2⟩)
    (Cert.Reference27Ideal.Value.run m ρ)

/-- No operation of the call is replaced. -/
theorem preserves : Cert.preserves_Kernel27_Kernel27Ideal := trivial

/-- The call's result is that of the reference. -/
theorem algebraic : Cert.algebraic_Kernel27Ideal_Reference27Ideal := by
  pair_intro
  · run_from Cert.Kernel27Ideal.Value.run_blocks m g
  · run_from Cert.Reference27Ideal.Value.run m' g'
    refine .trans ?_ (Cert.Kernel27Ideal.Product.final2 m c).symm
    funext i
    idx_vars i
    pointwise
    rfl

end Cert.Proof.ThirdCotangent

namespace Cert.Proof.FourthCotangent

/-- The frames, as for the first branch. -/
theorem frame_kernel : Cert.quiescent_Kernel28 := fun m ρ _ => Cert.Kernel28.Gen.frame m ρ
@[inherit_doc frame_kernel] theorem frame_ideal : Cert.quiescent_Kernel28Ideal := fun m ρ _ => Cert.Kernel28Ideal.Gen.frame m ρ
@[inherit_doc frame_kernel] theorem frame_reference : Cert.quiescent_Reference28Ideal := fun m ρ _ =>
  (θ_run Cert.Reference28Ideal.defs _ _).mono (fun r h => ⟨fun c => (h c).2, sem_eq_zero_of_no_sems (by decide) r.2⟩)
    (Cert.Reference28Ideal.Value.run m ρ)

/-- No operation of the call is replaced. -/
theorem preserves : Cert.preserves_Kernel28_Kernel28Ideal := trivial

/-- The call's result is that of the reference. -/
theorem algebraic : Cert.algebraic_Kernel28Ideal_Reference28Ideal := by
  pair_intro
  · run_from Cert.Kernel28Ideal.Value.run_blocks m g
  · run_from Cert.Reference28Ideal.Value.run m' g'
    refine .trans ?_ (Cert.Kernel28Ideal.Product.final2 m c).symm
    funext i
    idx_vars i
    pointwise
    rfl

end Cert.Proof.FourthCotangent

end
-- ==== Proof.Product.BranchWeight.lean ====
/-
  The gradients of the four branches' output weights. A call is one grid point: it writes the branch's transpose times the cotangent into
  the branch's 512 rows of the gradient arena, and the arena's other rows stay.
-/
module

public import proofs.«01_k».proof.Defs
public import proofs.«01_k».proof.Proof.Product.Arena
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Kernel32.Frame
public import proofs.«01_k».proof.Proof.Gen.Kernel32Ideal.Value
public import proofs.«01_k».proof.Proof.Gen.Reference32Ideal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Kernel29Ideal.Product
open Cert.Kernel29Ideal Cert.Kernel29Ideal.Gen Cert.Arena

/-- The gradient at weight row `j` and model column `l`. -/
def grad (y : FVec Ideal S2048x512 .bf16) (d : FVec Ideal S2048x1024 .bf16) (j : Fin 512) (l : Fin 1024) : EReal :=
  ∑ k : Fin 2048, y (ix2 k j) * d (ix2 k l)

/-- The gradient's rows as the arena holds them, from its 512-row block `b` on. -/
def rows (b : ℕ) (y : FVec Ideal S2048x512 .bf16) (d : FVec Ideal S2048x1024 .bf16) : FVec Ideal S19968x1024 .bf16 :=
  fun i => (fun (r : Fin 19968) (l : Fin 1024) => grad y d ⟨(r - b * 512) % (1 * 512), Nat.mod_lt _ (by decide)⟩ l) (i 0) (i 1)

/-- The gradient's block: the product of the two blocks. -/
theorem tile (y : Vec Ideal S2048x512 .bf16) (d : Vec Ideal S2048x1024 .bf16) (r : Fin 512) (l : Fin 1024) :
    k0_pay1 (F := Ideal) y d (ix2 r l) = grad y d r l := by
  pointwise [k0_pay1]
  rfl

/-- A row of block `b` as the arena holds it. -/
theorem rows_at (b : ℕ) (h : b * 512 + 512 ≤ 19968) (y : FVec Ideal S2048x512 .bf16) (d : FVec Ideal S2048x1024 .bf16) (r : Fin 512) (l : Fin 1024) :
    (rows b y d (ix2 ⟨b * 512 + r, by omega⟩ l) : EReal) = grad y d r l :=
  congrArg (grad y d · l) (Fin.ext (by show (b * 512 + r.val - b * 512) % (1 * 512) = r.val; omega))

variable (m : (ℓ : Loc nD τ sig) → Buf (Elt Ideal) ℓ) (c : Dev nD)

/-- The branch, the cotangent and the gradient arena that device `c` starts with. -/
def Y : FVec Ideal S2048x512 .bf16 := m ((c : Thread nD τ).loc main_arg0)
@[inherit_doc Y] def D : FVec Ideal S2048x1024 .bf16 := m ((c : Thread nD τ).loc main_arg1)
@[inherit_doc Y] def A : FVec Ideal S19968x1024 .bf16 := m ((c : Thread nD τ).loc main_arg2)

/-- Where each window's block lies: the whole branch, the whole cotangent, the arena's 35th block of 512 rows. -/
theorem idx : ∀ t : Fin cfg0.N, win0_0.index t = ![0, 0] ∧ win0_1.index t = ![0, 0] ∧ win0_2.index t = ![35, 0] :=
  (by decide +kernel : ∀ t : Fin grid0.N, _)

variable (t : Fin cfg0.N)
/-- The two blocks, and where a block's row lies in the arena. -/
theorem rd0 : iblk m c 0 t = Y m c := by
  funext i
  idx_vars i
  refine .trans ?_ (congrFun (V_main_arg0 m c) _)
  blk_ext [iblk, idx t]
@[inherit_doc rd0] theorem rd1 : iblk m c 1 t = D m c := by
  funext i
  idx_vars i
  refine .trans ?_ (congrFun (V_main_arg1 m c) _)
  blk_ext [iblk, idx t]
@[inherit_doc rd0] theorem emb2 (r : Fin 512) (l : Fin 1024) : ((cfg0.win 2).blk t).view.emb (ix2 r l) = (ix2 ⟨35 * 512 + r, by omega⟩ l : S19968x1024.Idx) := by
  blk_ext [idx t]

/-- The arena the run starts writing into is a copy of the one it was given. -/
theorem copied : V m c main_v0 = A m c := by
  unfold A; simp only [V, hostOps0]; after_results; rfl

/-- The arena after the run, block by block. -/
theorem final2 : (dats m 0 c).arrAt 2 (cfgs 0).N
    = fun i => if 35 ≤ (i 0 : ℕ) / 512 ∧ (i 0 : ℕ) / 512 < 36 then rows 35 (Y m c) (D m c) i else V m c main_v0 i := by
  refine (dats m 0 c).arrAt_eq_of_coversWhere 2 _ (fun β => 35 ≤ β (0 : Fin 2) ∧ β (0 : Fin 2) < 36) (by decide +kernel)
    (fun t hf y => ?_) (fun j => Iff.rfl)
  blk_simp
  rw [after0_2]
  unfold outsAt0
  frame_out
  idx_vars y
  refine (tile _ _ y0 y1).trans ?_
  refine .trans ?_ (congrArg (rows 35 (Y m c) (D m c)) (emb2 t y0 y1)).symm
  rw [rd0, rd1]
  exact (rows_at 35 (by decide) _ _ _ _).symm

/-- The arena after the run: the one given, with the gradient's rows put in. -/
theorem arena (r : Fin 19968) (l : Fin 1024) : ((dats m 0 c).arrAt 2 (cfgs 0).N (ix2 r l) : EReal)
    = put 17920 512 (grad (Y m c) (D m c)) (fun r l => A m c (ix2 r l)) r l := by
  refine (congrFun (final2 m c) (ix2 r l)).trans ?_
  rw [copied]
  exact put_of_blocks 512 35 1 (by decide) (by decide) (grad (Y m c) (D m c)) (fun r l => A m c (ix2 r l)) r l

end Cert.Kernel29Ideal.Product

namespace Cert.Kernel30Ideal.Product
open Cert.Kernel30Ideal Cert.Kernel30Ideal.Gen Cert.Arena
open Cert.Kernel29Ideal.Product (grad rows tile rows_at)

variable (m : (ℓ : Loc nD τ sig) → Buf (Elt Ideal) ℓ) (c : Dev nD)

/-- The branch, the cotangent and the gradient arena that device `c` starts with. -/
def Y : FVec Ideal S2048x512 .bf16 := m ((c : Thread nD τ).loc main_arg0)
@[inherit_doc Y] def D : FVec Ideal S2048x1024 .bf16 := m ((c : Thread nD τ).loc main_arg1)
@[inherit_doc Y] def A : FVec Ideal S19968x1024 .bf16 := m ((c : Thread nD τ).loc main_arg2)

/-- Where each window's block lies: the arena's block is the one after the first branch's. -/
theorem idx : ∀ t : Fin cfg0.N, win0_0.index t = ![0, 0] ∧ win0_1.index t = ![0, 0] ∧ win0_2.index t = ![36, 0] :=
  (by decide +kernel : ∀ t : Fin grid0.N, _)

variable (t : Fin cfg0.N)
/-- The two blocks, and where a block's row lies in the arena. -/
theorem rd0 : iblk m c 0 t = Y m c := by
  funext i
  idx_vars i
  refine .trans ?_ (congrFun (V_main_arg0 m c) _)
  blk_ext [iblk, idx t]
@[inherit_doc rd0] theorem rd1 : iblk m c 1 t = D m c := by
  funext i
  idx_vars i
  refine .trans ?_ (congrFun (V_main_arg1 m c) _)
  blk_ext [iblk, idx t]
@[inherit_doc rd0] theorem emb2 (r : Fin 512) (l : Fin 1024) : ((cfg0.win 2).blk t).view.emb (ix2 r l) = (ix2 ⟨36 * 512 + r, by omega⟩ l : S19968x1024.Idx) := by
  blk_ext [idx t]

/-- The arena the run starts writing into is a copy of the one it was given. -/
theorem copied : V m c main_v0 = A m c := by
  unfold A; simp only [V, hostOps0]; after_results; rfl

/-- The arena after the run, block by block. -/
theorem final2 : (dats m 0 c).arrAt 2 (cfgs 0).N
    = fun i => if 36 ≤ (i 0 : ℕ) / 512 ∧ (i 0 : ℕ) / 512 < 37 then rows 36 (Y m c) (D m c) i else V m c main_v0 i := by
  refine (dats m 0 c).arrAt_eq_of_coversWhere 2 _ (fun β => 36 ≤ β (0 : Fin 2) ∧ β (0 : Fin 2) < 37) (by decide +kernel)
    (fun t hf y => ?_) (fun j => Iff.rfl)
  blk_simp
  rw [after0_2]
  unfold outsAt0
  frame_out
  idx_vars y
  refine (tile _ _ y0 y1).trans ?_
  refine .trans ?_ (congrArg (rows 36 (Y m c) (D m c)) (emb2 t y0 y1)).symm
  rw [rd0, rd1]
  exact (rows_at 36 (by decide) _ _ _ _).symm

/-- The arena after the run: the one given, with the gradient's rows put in. -/
theorem arena (r : Fin 19968) (l : Fin 1024) : ((dats m 0 c).arrAt 2 (cfgs 0).N (ix2 r l) : EReal)
    = put 18432 512 (grad (Y m c) (D m c)) (fun r l => A m c (ix2 r l)) r l := by
  refine (congrFun (final2 m c) (ix2 r l)).trans ?_
  rw [copied]
  exact put_of_blocks 512 36 1 (by decide) (by decide) (grad (Y m c) (D m c)) (fun r l => A m c (ix2 r l)) r l

end Cert.Kernel30Ideal.Product

namespace Cert.Kernel31Ideal.Product
open Cert.Kernel31Ideal Cert.Kernel31Ideal.Gen Cert.Arena
open Cert.Kernel29Ideal.Product (grad rows tile rows_at)

variable (m : (ℓ : Loc nD τ sig) → Buf (Elt Ideal) ℓ) (c : Dev nD)

/-- The branch, the cotangent and the gradient arena that device `c` starts with. -/
def Y : FVec Ideal S2048x512 .bf16 := m ((c : Thread nD τ).loc main_arg0)
@[inherit_doc Y] def D : FVec Ideal S2048x1024 .bf16 := m ((c : Thread nD τ).loc main_arg1)
@[inherit_doc Y] def A : FVec Ideal S19968x1024 .bf16 := m ((c : Thread nD τ).loc main_arg2)

/-- Where each window's block lies: the arena's block is two after the first branch's. -/
theorem idx : ∀ t : Fin cfg0.N, win0_0.index t = ![0, 0] ∧ win0_1.index t = ![0, 0] ∧ win0_2.index t = ![37, 0] :=
  (by decide +kernel : ∀ t : Fin grid0.N, _)

variable (t : Fin cfg0.N)
/-- The two blocks, and where a block's row lies in the arena. -/
theorem rd0 : iblk m c 0 t = Y m c := by
  funext i
  idx_vars i
  refine .trans ?_ (congrFun (V_main_arg0 m c) _)
  blk_ext [iblk, idx t]
@[inherit_doc rd0] theorem rd1 : iblk m c 1 t = D m c := by
  funext i
  idx_vars i
  refine .trans ?_ (congrFun (V_main_arg1 m c) _)
  blk_ext [iblk, idx t]
@[inherit_doc rd0] theorem emb2 (r : Fin 512) (l : Fin 1024) : ((cfg0.win 2).blk t).view.emb (ix2 r l) = (ix2 ⟨37 * 512 + r, by omega⟩ l : S19968x1024.Idx) := by
  blk_ext [idx t]

/-- The arena the run starts writing into is a copy of the one it was given. -/
theorem copied : V m c main_v0 = A m c := by
  unfold A; simp only [V, hostOps0]; after_results; rfl

/-- The arena after the run, block by block. -/
theorem final2 : (dats m 0 c).arrAt 2 (cfgs 0).N
    = fun i => if 37 ≤ (i 0 : ℕ) / 512 ∧ (i 0 : ℕ) / 512 < 38 then rows 37 (Y m c) (D m c) i else V m c main_v0 i := by
  refine (dats m 0 c).arrAt_eq_of_coversWhere 2 _ (fun β => 37 ≤ β (0 : Fin 2) ∧ β (0 : Fin 2) < 38) (by decide +kernel)
    (fun t hf y => ?_) (fun j => Iff.rfl)
  blk_simp
  rw [after0_2]
  unfold outsAt0
  frame_out
  idx_vars y
  refine (tile _ _ y0 y1).trans ?_
  refine .trans ?_ (congrArg (rows 37 (Y m c) (D m c)) (emb2 t y0 y1)).symm
  rw [rd0, rd1]
  exact (rows_at 37 (by decide) _ _ _ _).symm

/-- The arena after the run: the one given, with the gradient's rows put in. -/
theorem arena (r : Fin 19968) (l : Fin 1024) : ((dats m 0 c).arrAt 2 (cfgs 0).N (ix2 r l) : EReal)
    = put 18944 512 (grad (Y m c) (D m c)) (fun r l => A m c (ix2 r l)) r l := by
  refine (congrFun (final2 m c) (ix2 r l)).trans ?_
  rw [copied]
  exact put_of_blocks 512 37 1 (by decide) (by decide) (grad (Y m c) (D m c)) (fun r l => A m c (ix2 r l)) r l

end Cert.Kernel31Ideal.Product

namespace Cert.Kernel32Ideal.Product
open Cert.Kernel32Ideal Cert.Kernel32Ideal.Gen Cert.Arena
open Cert.Kernel29Ideal.Product (grad rows tile rows_at)

variable (m : (ℓ : Loc nD τ sig) → Buf (Elt Ideal) ℓ) (c : Dev nD)

/-- The branch, the cotangent and the gradient arena that device `c` starts with. -/
def Y : FVec Ideal S2048x512 .bf16 := m ((c : Thread nD τ).loc main_arg0)
@[inherit_doc Y] def D : FVec Ideal S2048x1024 .bf16 := m ((c : Thread nD τ).loc main_arg1)
@[inherit_doc Y] def A : FVec Ideal S19968x1024 .bf16 := m ((c : Thread nD τ).loc main_arg2)

/-- Where each window's block lies: the arena's block is its last. -/
theorem idx : ∀ t : Fin cfg0.N, win0_0.index t = ![0, 0] ∧ win0_1.index t = ![0, 0] ∧ win0_2.index t = ![38, 0] :=
  (by decide +kernel : ∀ t : Fin grid0.N, _)

variable (t : Fin cfg0.N)
/-- The two blocks, and where a block's row lies in the arena. -/
theorem rd0 : iblk m c 0 t = Y m c := by
  funext i
  idx_vars i
  refine .trans ?_ (congrFun (V_main_arg0 m c) _)
  blk_ext [iblk, idx t]
@[inherit_doc rd0] theorem rd1 : iblk m c 1 t = D m c := by
  funext i
  idx_vars i
  refine .trans ?_ (congrFun (V_main_arg1 m c) _)
  blk_ext [iblk, idx t]
@[inherit_doc rd0] theorem emb2 (r : Fin 512) (l : Fin 1024) : ((cfg0.win 2).blk t).view.emb (ix2 r l) = (ix2 ⟨38 * 512 + r, by omega⟩ l : S19968x1024.Idx) := by
  blk_ext [idx t]

/-- The arena the run starts writing into is a copy of the one it was given. -/
theorem copied : V m c main_v0 = A m c := by
  unfold A; simp only [V, hostOps0]; after_results; rfl

/-- The arena after the run, block by block. -/
theorem final2 : (dats m 0 c).arrAt 2 (cfgs 0).N
    = fun i => if 38 ≤ (i 0 : ℕ) / 512 ∧ (i 0 : ℕ) / 512 < 39 then rows 38 (Y m c) (D m c) i else V m c main_v0 i := by
  refine (dats m 0 c).arrAt_eq_of_coversWhere 2 _ (fun β => 38 ≤ β (0 : Fin 2) ∧ β (0 : Fin 2) < 39) (by decide +kernel)
    (fun t hf y => ?_) (fun j => Iff.rfl)
  blk_simp
  rw [after0_2]
  unfold outsAt0
  frame_out
  idx_vars y
  refine (tile _ _ y0 y1).trans ?_
  refine .trans ?_ (congrArg (rows 38 (Y m c) (D m c)) (emb2 t y0 y1)).symm
  rw [rd0, rd1]
  exact (rows_at 38 (by decide) _ _ _ _).symm

/-- The arena after the run: the one given, with the gradient's rows put in. -/
theorem arena (r : Fin 19968) (l : Fin 1024) : ((dats m 0 c).arrAt 2 (cfgs 0).N (ix2 r l) : EReal)
    = put 19456 512 (grad (Y m c) (D m c)) (fun r l => A m c (ix2 r l)) r l := by
  refine (congrFun (final2 m c) (ix2 r l)).trans ?_
  rw [copied]
  exact put_of_blocks 512 38 1 (by decide) (by decide) (grad (Y m c) (D m c)) (fun r l => A m c (ix2 r l)) r l

end Cert.Kernel32Ideal.Product

namespace Cert.Proof.FirstWeight

/-- The frames: both programs of the call have generated runs, the reference is a run of host operations. -/
theorem frame_kernel : Cert.quiescent_Kernel29 := fun m ρ _ => Cert.Kernel29.Gen.frame m ρ
@[inherit_doc frame_kernel] theorem frame_ideal : Cert.quiescent_Kernel29Ideal := fun m ρ _ => Cert.Kernel29Ideal.Gen.frame m ρ
@[inherit_doc frame_kernel] theorem frame_reference : Cert.quiescent_Reference29Ideal := fun m ρ _ =>
  (θ_run Cert.Reference29Ideal.defs _ _).mono (fun r h => ⟨fun c => (h c).2, sem_eq_zero_of_no_sems (by decide) r.2⟩)
    (Cert.Reference29Ideal.Value.run m ρ)

/-- No operation of the call is replaced. -/
theorem preserves : Cert.preserves_Kernel29_Kernel29Ideal := trivial

/-- The call's result is that of the reference, whose gradient has the two factors of a product the other way round. -/
theorem algebraic : Cert.algebraic_Kernel29Ideal_Reference29Ideal := by
  pair_intro
  · run_from Cert.Kernel29Ideal.Value.run_blocks m g
  · run_from Cert.Reference29Ideal.Value.run m' g'
    funext i
    idx_vars i
    refine .trans ?_ (Cert.Kernel29Ideal.Product.arena m c i0 i1).symm
    pointwise
    by_cases h : (i0 : ℕ) < 17920
    · rw [Cert.Arena.put_outside (.inl h)]
      exact (dif_pos h).trans (congrFun (hagree c).2.2 _)
    by_cases h' : (i0 : ℕ) - 17920 < 512
    · rw [Cert.Arena.put_inside h h', dif_neg h, dif_pos h']
      exact Finset.sum_congr rfl fun k _ => mul_comm (_ : EReal) _
    · rw [Cert.Arena.put_outside (.inr h'), dif_neg h, dif_neg h']
      have e : (⟨18432 + ((i0 : ℕ) - 17920 - 512), by omega⟩ : Fin 19968) = i0 := Fin.ext (by simp only; omega)
      rw [e]
      exact congrFun (hagree c).2.2 _

end Cert.Proof.FirstWeight

namespace Cert.Proof.SecondWeight

/-- The frames, as for the first branch. -/
theorem frame_kernel : Cert.quiescent_Kernel30 := fun m ρ _ => Cert.Kernel30.Gen.frame m ρ
@[inherit_doc frame_kernel] theorem frame_ideal : Cert.quiescent_Kernel30Ideal := fun m ρ _ => Cert.Kernel30Ideal.Gen.frame m ρ
@[inherit_doc frame_kernel] theorem frame_reference : Cert.quiescent_Reference30Ideal := fun m ρ _ =>
  (θ_run Cert.Reference30Ideal.defs _ _).mono (fun r h => ⟨fun c => (h c).2, sem_eq_zero_of_no_sems (by decide) r.2⟩)
    (Cert.Reference30Ideal.Value.run m ρ)

/-- No operation of the call is replaced. -/
theorem preserves : Cert.preserves_Kernel30_Kernel30Ideal := trivial

/-- The call's result is that of the reference. -/
theorem algebraic : Cert.algebraic_Kernel30Ideal_Reference30Ideal := by
  pair_intro
  · run_from Cert.Kernel30Ideal.Value.run_blocks m g
  · run_from Cert.Reference30Ideal.Value.run m' g'
    funext i
    idx_vars i
    refine .trans ?_ (Cert.Kernel30Ideal.Product.arena m c i0 i1).symm
    pointwise
    by_cases h : (i0 : ℕ) < 18432
    · rw [Cert.Arena.put_outside (.inl h)]
      exact (dif_pos h).trans (congrFun (hagree c).2.2 _)
    by_cases h' : (i0 : ℕ) - 18432 < 512
    · rw [Cert.Arena.put_inside h h', dif_neg h, dif_pos h']
      exact Finset.sum_congr rfl fun k _ => mul_comm (_ : EReal) _
    · rw [Cert.Arena.put_outside (.inr h'), dif_neg h, dif_neg h']
      have e : (⟨18944 + ((i0 : ℕ) - 18432 - 512), by omega⟩ : Fin 19968) = i0 := Fin.ext (by simp only; omega)
      rw [e]
      exact congrFun (hagree c).2.2 _

end Cert.Proof.SecondWeight

namespace Cert.Proof.ThirdWeight

/-- The frames, as for the first branch. -/
theorem frame_kernel : Cert.quiescent_Kernel31 := fun m ρ _ => Cert.Kernel31.Gen.frame m ρ
@[inherit_doc frame_kernel] theorem frame_ideal : Cert.quiescent_Kernel31Ideal := fun m ρ _ => Cert.Kernel31Ideal.Gen.frame m ρ
@[inherit_doc frame_kernel] theorem frame_reference : Cert.quiescent_Reference31Ideal := fun m ρ _ =>
  (θ_run Cert.Reference31Ideal.defs _ _).mono (fun r h => ⟨fun c => (h c).2, sem_eq_zero_of_no_sems (by decide) r.2⟩)
    (Cert.Reference31Ideal.Value.run m ρ)

/-- No operation of the call is replaced. -/
theorem preserves : Cert.preserves_Kernel31_Kernel31Ideal := trivial

/-- The call's result is that of the reference. -/
theorem algebraic : Cert.algebraic_Kernel31Ideal_Reference31Ideal := by
  pair_intro
  · run_from Cert.Kernel31Ideal.Value.run_blocks m g
  · run_from Cert.Reference31Ideal.Value.run m' g'
    funext i
    idx_vars i
    refine .trans ?_ (Cert.Kernel31Ideal.Product.arena m c i0 i1).symm
    pointwise
    by_cases h : (i0 : ℕ) < 18944
    · rw [Cert.Arena.put_outside (.inl h)]
      exact (dif_pos h).trans (congrFun (hagree c).2.2 _)
    by_cases h' : (i0 : ℕ) - 18944 < 512
    · rw [Cert.Arena.put_inside h h', dif_neg h, dif_pos h']
      exact Finset.sum_congr rfl fun k _ => mul_comm (_ : EReal) _
    · rw [Cert.Arena.put_outside (.inr h'), dif_neg h, dif_neg h']
      have e : (⟨19456 + ((i0 : ℕ) - 18944 - 512), by omega⟩ : Fin 19968) = i0 := Fin.ext (by simp only; omega)
      rw [e]
      exact congrFun (hagree c).2.2 _

end Cert.Proof.ThirdWeight

namespace Cert.Proof.FourthWeight

/-- The frames, as for the first branch. -/
theorem frame_kernel : Cert.quiescent_Kernel32 := fun m ρ _ => Cert.Kernel32.Gen.frame m ρ
@[inherit_doc frame_kernel] theorem frame_ideal : Cert.quiescent_Kernel32Ideal := fun m ρ _ => Cert.Kernel32Ideal.Gen.frame m ρ
@[inherit_doc frame_kernel] theorem frame_reference : Cert.quiescent_Reference32Ideal := fun m ρ _ =>
  (θ_run Cert.Reference32Ideal.defs _ _).mono (fun r h => ⟨fun c => (h c).2, sem_eq_zero_of_no_sems (by decide) r.2⟩)
    (Cert.Reference32Ideal.Value.run m ρ)

/-- No operation of the call is replaced. -/
theorem preserves : Cert.preserves_Kernel32_Kernel32Ideal := trivial

/-- The call's result is that of the reference: the gradient's rows are the arena's last. -/
theorem algebraic : Cert.algebraic_Kernel32Ideal_Reference32Ideal := by
  pair_intro
  · run_from Cert.Kernel32Ideal.Value.run_blocks m g
  · run_from Cert.Reference32Ideal.Value.run m' g'
    funext i
    idx_vars i
    refine .trans ?_ (Cert.Kernel32Ideal.Product.arena m c i0 i1).symm
    pointwise
    by_cases h : (i0 : ℕ) < 19456
    · rw [Cert.Arena.put_outside (.inl h)]
      exact (dif_pos h).trans (congrFun (hagree c).2.2 _)
    · have h' : (i0 : ℕ) - 19456 < 512 := by omega
      rw [Cert.Arena.put_inside h h', dif_neg h]
      exact Finset.sum_congr (M := EReal) rfl fun k _ => mul_comm (_ : EReal) _

end Cert.Proof.FourthWeight

end
-- ==== Proof.lean ====
/-
  The claims of this directory, put together: each part's module proves its own.
-/
module

public import proofs.«01_k».proof.Proof.Gen.Kernel2Ideal.Value
public import proofs.«01_k».proof.Proof.Gen.Reference2Ideal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Loops
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops
public import proofs.«01_k».proof.Proof.Gen.KernelIdeal.Frame
public import proofs.«01_k».proof.Proof.Gen.ReferenceIdeal.Run
public import proofs.«01_k».proof.Proof.Gen.Pre_finite_scores
public import proofs.«01_k».proof.Proof.Gen.Kernel3.Frame
public import proofs.«01_k».proof.Proof.Gen.Kernel3Ideal.Frame
public import proofs.«01_k».proof.Proof.Gen.Kernel3.Value
public import proofs.«01_k».proof.Proof.Gen.Kernel3Ideal.Value
public import proofs.«01_k».proof.Proof.Gen.Kernel3.Points
public import proofs.«01_k».proof.Proof.Gen.Kernel3Ideal.Points
public import proofs.«01_k».proof.Proof.Gen.Kernel3.Skeleton
public import proofs.«01_k».proof.Proof.Gen.Kernel3Ideal.Skeleton
public import proofs.«01_k».proof.Proof.Gen.Kernel3.Launch
public import proofs.«01_k».proof.Proof.Gen.Kernel3Ideal.Launch
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4.Value
public import proofs.«01_k».proof.Proof.Gen.Kernel4Ideal.Value
public import proofs.«01_k».proof.Proof.Gen.Kernel4.Points
public import proofs.«01_k».proof.Proof.Gen.Kernel4Ideal.Points
public import proofs.«01_k».proof.Proof.Gen.Kernel4.Skeleton
public import proofs.«01_k».proof.Proof.Gen.Kernel4Ideal.Skeleton
public import proofs.«01_k».proof.Proof.Gen.Kernel4.Launch
public import proofs.«01_k».proof.Proof.Gen.Kernel4Ideal.Launch
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5.Value
public import proofs.«01_k».proof.Proof.Gen.Kernel5Ideal.Value
public import proofs.«01_k».proof.Proof.Gen.Kernel5.Points
public import proofs.«01_k».proof.Proof.Gen.Kernel5Ideal.Points
public import proofs.«01_k».proof.Proof.Gen.Kernel5.Skeleton
public import proofs.«01_k».proof.Proof.Gen.Kernel5Ideal.Skeleton
public import proofs.«01_k».proof.Proof.Gen.Kernel5.Launch
public import proofs.«01_k».proof.Proof.Gen.Kernel5Ideal.Launch
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6.Value
public import proofs.«01_k».proof.Proof.Gen.Kernel6Ideal.Value
public import proofs.«01_k».proof.Proof.Gen.Kernel6.Points
public import proofs.«01_k».proof.Proof.Gen.Kernel6Ideal.Points
public import proofs.«01_k».proof.Proof.Gen.Kernel6.Skeleton
public import proofs.«01_k».proof.Proof.Gen.Kernel6Ideal.Skeleton
public import proofs.«01_k».proof.Proof.Gen.Kernel6.Launch
public import proofs.«01_k».proof.Proof.Gen.Kernel6Ideal.Launch
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7.Value
public import proofs.«01_k».proof.Proof.Gen.Kernel7Ideal.Value
public import proofs.«01_k».proof.Proof.Gen.Kernel7.Points
public import proofs.«01_k».proof.Proof.Gen.Kernel7Ideal.Points
public import proofs.«01_k».proof.Proof.Gen.Kernel7.Skeleton
public import proofs.«01_k».proof.Proof.Gen.Kernel7Ideal.Skeleton
public import proofs.«01_k».proof.Proof.Gen.Kernel7.Launch
public import proofs.«01_k».proof.Proof.Gen.Kernel7Ideal.Launch
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8.Value
public import proofs.«01_k».proof.Proof.Gen.Kernel8Ideal.Value
public import proofs.«01_k».proof.Proof.Gen.Kernel8.Points
public import proofs.«01_k».proof.Proof.Gen.Kernel8Ideal.Points
public import proofs.«01_k».proof.Proof.Gen.Kernel8.Skeleton
public import proofs.«01_k».proof.Proof.Gen.Kernel8Ideal.Skeleton
public import proofs.«01_k».proof.Proof.Gen.Kernel8.Launch
public import proofs.«01_k».proof.Proof.Gen.Kernel8Ideal.Launch
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9.Value
public import proofs.«01_k».proof.Proof.Gen.Kernel9Ideal.Value
public import proofs.«01_k».proof.Proof.Gen.Kernel9.Points
public import proofs.«01_k».proof.Proof.Gen.Kernel9Ideal.Points
public import proofs.«01_k».proof.Proof.Gen.Kernel9.Skeleton
public import proofs.«01_k».proof.Proof.Gen.Kernel9Ideal.Skeleton
public import proofs.«01_k».proof.Proof.Gen.Kernel9.Launch
public import proofs.«01_k».proof.Proof.Gen.Kernel9Ideal.Launch
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10.Value
public import proofs.«01_k».proof.Proof.Gen.Kernel10Ideal.Value
public import proofs.«01_k».proof.Proof.Gen.Kernel10.Points
public import proofs.«01_k».proof.Proof.Gen.Kernel10Ideal.Points
public import proofs.«01_k».proof.Proof.Gen.Kernel10.Skeleton
public import proofs.«01_k».proof.Proof.Gen.Kernel10Ideal.Skeleton
public import proofs.«01_k».proof.Proof.Gen.Kernel10.Launch
public import proofs.«01_k».proof.Proof.Gen.Kernel10Ideal.Launch
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11.Value
public import proofs.«01_k».proof.Proof.Gen.Kernel11Ideal.Value
public import proofs.«01_k».proof.Proof.Gen.Kernel11.Points
public import proofs.«01_k».proof.Proof.Gen.Kernel11Ideal.Points
public import proofs.«01_k».proof.Proof.Gen.Kernel11.Skeleton
public import proofs.«01_k».proof.Proof.Gen.Kernel11Ideal.Skeleton
public import proofs.«01_k».proof.Proof.Gen.Kernel11.Launch
public import proofs.«01_k».proof.Proof.Gen.Kernel11Ideal.Launch
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12.Value
public import proofs.«01_k».proof.Proof.Gen.Kernel12Ideal.Value
public import proofs.«01_k».proof.Proof.Gen.Kernel12.Points
public import proofs.«01_k».proof.Proof.Gen.Kernel12Ideal.Points
public import proofs.«01_k».proof.Proof.Gen.Kernel12.Skeleton
public import proofs.«01_k».proof.Proof.Gen.Kernel12Ideal.Skeleton
public import proofs.«01_k».proof.Proof.Gen.Kernel12.Launch
public import proofs.«01_k».proof.Proof.Gen.Kernel12Ideal.Launch
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13.Value
public import proofs.«01_k».proof.Proof.Gen.Kernel13Ideal.Value
public import proofs.«01_k».proof.Proof.Gen.Kernel13.Points
public import proofs.«01_k».proof.Proof.Gen.Kernel13Ideal.Points
public import proofs.«01_k».proof.Proof.Gen.Kernel13.Skeleton
public import proofs.«01_k».proof.Proof.Gen.Kernel13Ideal.Skeleton
public import proofs.«01_k».proof.Proof.Gen.Kernel13.Launch
public import proofs.«01_k».proof.Proof.Gen.Kernel13Ideal.Launch
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Kernel14.Value
public import proofs.«01_k».proof.Proof.Gen.Kernel14Ideal.Value
public import proofs.«01_k».proof.Proof.Gen.Kernel14.Points
public import proofs.«01_k».proof.Proof.Gen.Kernel14Ideal.Points
public import proofs.«01_k».proof.Proof.Gen.Kernel14.Skeleton
public import proofs.«01_k».proof.Proof.Gen.Kernel14Ideal.Skeleton
public import proofs.«01_k».proof.Proof.Gen.Kernel14.Launch
public import proofs.«01_k».proof.Proof.Gen.Kernel14Ideal.Launch
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Kernel15.Value
public import proofs.«01_k».proof.Proof.Gen.Kernel15Ideal.Value
public import proofs.«01_k».proof.Proof.Gen.Kernel15.Points
public import proofs.«01_k».proof.Proof.Gen.Kernel15Ideal.Points
public import proofs.«01_k».proof.Proof.Gen.Kernel15.Skeleton
public import proofs.«01_k».proof.Proof.Gen.Kernel15Ideal.Skeleton
public import proofs.«01_k».proof.Proof.Gen.Kernel15.Launch
public import proofs.«01_k».proof.Proof.Gen.Kernel15Ideal.Launch
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16.Value
public import proofs.«01_k».proof.Proof.Gen.Kernel16Ideal.Value
public import proofs.«01_k».proof.Proof.Gen.Kernel16.Points
public import proofs.«01_k».proof.Proof.Gen.Kernel16Ideal.Points
public import proofs.«01_k».proof.Proof.Gen.Kernel16.Skeleton
public import proofs.«01_k».proof.Proof.Gen.Kernel16Ideal.Skeleton
public import proofs.«01_k».proof.Proof.Gen.Kernel16.Launch
public import proofs.«01_k».proof.Proof.Gen.Kernel16Ideal.Launch
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Kernel17.Value
public import proofs.«01_k».proof.Proof.Gen.Kernel17Ideal.Value
public import proofs.«01_k».proof.Proof.Gen.Kernel17.Points
public import proofs.«01_k».proof.Proof.Gen.Kernel17Ideal.Points
public import proofs.«01_k».proof.Proof.Gen.Kernel17.Skeleton
public import proofs.«01_k».proof.Proof.Gen.Kernel17Ideal.Skeleton
public import proofs.«01_k».proof.Proof.Gen.Kernel17.Launch
public import proofs.«01_k».proof.Proof.Gen.Kernel17Ideal.Launch
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Kernel18.Value
public import proofs.«01_k».proof.Proof.Gen.Kernel18Ideal.Value
public import proofs.«01_k».proof.Proof.Gen.Kernel18.Points
public import proofs.«01_k».proof.Proof.Gen.Kernel18Ideal.Points
public import proofs.«01_k».proof.Proof.Gen.Kernel18.Skeleton
public import proofs.«01_k».proof.Proof.Gen.Kernel18Ideal.Skeleton
public import proofs.«01_k».proof.Proof.Gen.Kernel18.Launch
public import proofs.«01_k».proof.Proof.Gen.Kernel18Ideal.Launch
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Kernel19.Value
public import proofs.«01_k».proof.Proof.Gen.Kernel19Ideal.Value
public import proofs.«01_k».proof.Proof.Gen.Kernel19.Points
public import proofs.«01_k».proof.Proof.Gen.Kernel19Ideal.Points
public import proofs.«01_k».proof.Proof.Gen.Kernel19.Skeleton
public import proofs.«01_k».proof.Proof.Gen.Kernel19Ideal.Skeleton
public import proofs.«01_k».proof.Proof.Gen.Kernel19.Launch
public import proofs.«01_k».proof.Proof.Gen.Kernel19Ideal.Launch
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Kernel20.Value
public import proofs.«01_k».proof.Proof.Gen.Kernel20Ideal.Value
public import proofs.«01_k».proof.Proof.Gen.Kernel20.Points
public import proofs.«01_k».proof.Proof.Gen.Kernel20Ideal.Points
public import proofs.«01_k».proof.Proof.Gen.Kernel20.Skeleton
public import proofs.«01_k».proof.Proof.Gen.Kernel20Ideal.Skeleton
public import proofs.«01_k».proof.Proof.Gen.Kernel20.Launch
public import proofs.«01_k».proof.Proof.Gen.Kernel20Ideal.Launch
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Kernel21.Value
public import proofs.«01_k».proof.Proof.Gen.Kernel21Ideal.Value
public import proofs.«01_k».proof.Proof.Gen.Kernel21.Points
public import proofs.«01_k».proof.Proof.Gen.Kernel21Ideal.Points
public import proofs.«01_k».proof.Proof.Gen.Kernel21.Skeleton
public import proofs.«01_k».proof.Proof.Gen.Kernel21Ideal.Skeleton
public import proofs.«01_k».proof.Proof.Gen.Kernel21.Launch
public import proofs.«01_k».proof.Proof.Gen.Kernel21Ideal.Launch
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Kernel22.Value
public import proofs.«01_k».proof.Proof.Gen.Kernel22Ideal.Value
public import proofs.«01_k».proof.Proof.Gen.Kernel22.Points
public import proofs.«01_k».proof.Proof.Gen.Kernel22Ideal.Points
public import proofs.«01_k».proof.Proof.Gen.Kernel22.Skeleton
public import proofs.«01_k».proof.Proof.Gen.Kernel22Ideal.Skeleton
public import proofs.«01_k».proof.Proof.Gen.Kernel22.Launch
public import proofs.«01_k».proof.Proof.Gen.Kernel22Ideal.Launch
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Kernel23.Value
public import proofs.«01_k».proof.Proof.Gen.Kernel23Ideal.Value
public import proofs.«01_k».proof.Proof.Gen.Kernel23.Points
public import proofs.«01_k».proof.Proof.Gen.Kernel23Ideal.Points
public import proofs.«01_k».proof.Proof.Gen.Kernel23.Skeleton
public import proofs.«01_k».proof.Proof.Gen.Kernel23Ideal.Skeleton
public import proofs.«01_k».proof.Proof.Gen.Kernel23.Launch
public import proofs.«01_k».proof.Proof.Gen.Kernel23Ideal.Launch
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Kernel24.Value
public import proofs.«01_k».proof.Proof.Gen.Kernel24Ideal.Value
public import proofs.«01_k».proof.Proof.Gen.Kernel24.Points
public import proofs.«01_k».proof.Proof.Gen.Kernel24Ideal.Points
public import proofs.«01_k».proof.Proof.Gen.Kernel24.Skeleton
public import proofs.«01_k».proof.Proof.Gen.Kernel24Ideal.Skeleton
public import proofs.«01_k».proof.Proof.Gen.Kernel24.Launch
public import proofs.«01_k».proof.Proof.Gen.Kernel24Ideal.Launch
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Kernel25.Value
public import proofs.«01_k».proof.Proof.Gen.Kernel25Ideal.Value
public import proofs.«01_k».proof.Proof.Gen.Kernel25.Points
public import proofs.«01_k».proof.Proof.Gen.Kernel25Ideal.Points
public import proofs.«01_k».proof.Proof.Gen.Kernel25.Skeleton
public import proofs.«01_k».proof.Proof.Gen.Kernel25Ideal.Skeleton
public import proofs.«01_k».proof.Proof.Gen.Kernel25.Launch
public import proofs.«01_k».proof.Proof.Gen.Kernel25Ideal.Launch
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Kernel26.Value
public import proofs.«01_k».proof.Proof.Gen.Kernel26Ideal.Value
public import proofs.«01_k».proof.Proof.Gen.Kernel26.Points
public import proofs.«01_k».proof.Proof.Gen.Kernel26Ideal.Points
public import proofs.«01_k».proof.Proof.Gen.Kernel26.Skeleton
public import proofs.«01_k».proof.Proof.Gen.Kernel26Ideal.Skeleton
public import proofs.«01_k».proof.Proof.Gen.Kernel26.Launch
public import proofs.«01_k».proof.Proof.Gen.Kernel26Ideal.Launch
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Kernel27.Value
public import proofs.«01_k».proof.Proof.Gen.Kernel27Ideal.Value
public import proofs.«01_k».proof.Proof.Gen.Kernel27.Points
public import proofs.«01_k».proof.Proof.Gen.Kernel27Ideal.Points
public import proofs.«01_k».proof.Proof.Gen.Kernel27.Skeleton
public import proofs.«01_k».proof.Proof.Gen.Kernel27Ideal.Skeleton
public import proofs.«01_k».proof.Proof.Gen.Kernel27.Launch
public import proofs.«01_k».proof.Proof.Gen.Kernel27Ideal.Launch
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Kernel28.Value
public import proofs.«01_k».proof.Proof.Gen.Kernel28Ideal.Value
public import proofs.«01_k».proof.Proof.Gen.Kernel28.Points
public import proofs.«01_k».proof.Proof.Gen.Kernel28Ideal.Points
public import proofs.«01_k».proof.Proof.Gen.Kernel28.Skeleton
public import proofs.«01_k».proof.Proof.Gen.Kernel28Ideal.Skeleton
public import proofs.«01_k».proof.Proof.Gen.Kernel28.Launch
public import proofs.«01_k».proof.Proof.Gen.Kernel28Ideal.Launch
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Kernel29.Value
public import proofs.«01_k».proof.Proof.Gen.Kernel29Ideal.Value
public import proofs.«01_k».proof.Proof.Gen.Kernel29.Points
public import proofs.«01_k».proof.Proof.Gen.Kernel29Ideal.Points
public import proofs.«01_k».proof.Proof.Gen.Kernel29.Skeleton
public import proofs.«01_k».proof.Proof.Gen.Kernel29Ideal.Skeleton
public import proofs.«01_k».proof.Proof.Gen.Kernel29.Launch
public import proofs.«01_k».proof.Proof.Gen.Kernel29Ideal.Launch
public import proofs.«01_k».proof.Proof.Gen.Reference29Ideal.Run
public import proofs.«01_k».proof.Proof.Gen.Kernel30.Frame
public import proofs.«01_k».proof.Proof.Gen.Kernel30Ideal.Frame
public import proofs.«01_k».proof.Proof.Gen.Kernel30.Value
public import proofs.«01_k».proof.Proof.Gen.Kernel30Ideal.Value
public import proofs.«01_k».proof.Proof.Gen.Kernel30.Points
public import proofs.«01_k».proof.Proof.Gen.Kernel30Ideal.Points
public import proofs.«01_k».proof.Proof.Gen.Kernel30.Skeleton
public import proofs.«01_k».proof.Proof.Gen.Kernel30Ideal.Skeleton
public import proofs.«01_k».proof.Proof.Gen.Kernel30.Launch
public import proofs.«01_k».proof.Proof.Gen.Kernel30Ideal.Launch
public import proofs.«01_k».proof.Proof.Gen.Reference30Ideal.Run
public import proofs.«01_k».proof.Proof.Gen.Kernel31.Frame
public import proofs.«01_k».proof.Proof.Gen.Kernel31Ideal.Frame
public import proofs.«01_k».proof.Proof.Gen.Kernel31.Value
public import proofs.«01_k».proof.Proof.Gen.Kernel31Ideal.Value
public import proofs.«01_k».proof.Proof.Gen.Kernel31.Points
public import proofs.«01_k».proof.Proof.Gen.Kernel31Ideal.Points
public import proofs.«01_k».proof.Proof.Gen.Kernel31.Skeleton
public import proofs.«01_k».proof.Proof.Gen.Kernel31Ideal.Skeleton
public import proofs.«01_k».proof.Proof.Gen.Kernel31.Launch
public import proofs.«01_k».proof.Proof.Gen.Kernel31Ideal.Launch
public import proofs.«01_k».proof.Proof.Gen.Reference31Ideal.Run
public import proofs.«01_k».proof.Proof.Gen.Kernel32.Frame
public import proofs.«01_k».proof.Proof.Gen.Kernel32Ideal.Frame
public import proofs.«01_k».proof.Proof.Gen.Kernel32.Value
public import proofs.«01_k».proof.Proof.Gen.Kernel32Ideal.Value
public import proofs.«01_k».proof.Proof.Gen.Kernel32.Points
public import proofs.«01_k».proof.Proof.Gen.Kernel32Ideal.Points
public import proofs.«01_k».proof.Proof.Gen.Kernel32.Skeleton
public import proofs.«01_k».proof.Proof.Gen.Kernel32Ideal.Skeleton
public import proofs.«01_k».proof.Proof.Gen.Kernel32.Launch
public import proofs.«01_k».proof.Proof.Gen.Kernel32Ideal.Launch
public import proofs.«01_k».proof.Proof.Gen.Reference32Ideal.Run
public import proofs.«01_k».proof.Proof.Attention.Claims
public import proofs.«01_k».proof.Proof.ShortConv.Claims
public import proofs.«01_k».proof.Proof.Product.InputWeight
public import proofs.«01_k».proof.Proof.Product.InputCotangent
public import proofs.«01_k».proof.Proof.Product.Activation
public import proofs.«01_k».proof.Proof.Product.FeedWeights
public import proofs.«01_k».proof.Proof.Product.GateCotangent
public import proofs.«01_k».proof.Proof.Product.Projection
public import proofs.«01_k».proof.Proof.Product.Gate
public import proofs.«01_k».proof.Proof.Product.Down
public import proofs.«01_k».proof.Proof.Product.Mixer
public import proofs.«01_k».proof.Proof.Product.Merge
public import proofs.«01_k».proof.Proof.Product.Swiglu
public import proofs.«01_k».proof.Proof.Product.BranchOut
public import proofs.«01_k».proof.Proof.Product.BranchCotangent
public import proofs.«01_k».proof.Proof.Product.BranchWeight

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Pre_finite_scores.Gen.facts,
    Attention.frame_kernel, Attention.frame_ideal, Attention.frame_ideal_finite, Attention.frame_reference, Attention.frame_reference_finite,
    Short.frame_kernel, Short.frame_ideal, Short.frame_reference,
    InputWeight.frame_kernel, InputWeight.frame_ideal, InputWeight.frame_reference,
    InputCotangent.frame_kernel, InputCotangent.frame_ideal, InputCotangent.frame_reference,
    Activation.frame_kernel, Activation.frame_ideal, Activation.frame_reference,
    DownWeight.frame_kernel, DownWeight.frame_ideal, DownWeight.frame_reference,
    GateWeight.frame_kernel, GateWeight.frame_ideal, GateWeight.frame_reference,
    UpWeight.frame_kernel, UpWeight.frame_ideal, UpWeight.frame_reference,
    GateCotangent.frame_kernel, GateCotangent.frame_ideal, GateCotangent.frame_reference,
    UpCotangent.frame_kernel, UpCotangent.frame_ideal, UpCotangent.frame_reference,
    Projection.frame_kernel, Projection.frame_ideal, Projection.frame_reference,
    Gate.frame_kernel, Gate.frame_ideal, Gate.frame_reference,
    Up.frame_kernel, Up.frame_ideal, Up.frame_reference,
    Down.frame_kernel, Down.frame_ideal, Down.frame_reference,
    MixerCotangent.frame_kernel, MixerCotangent.frame_ideal, MixerCotangent.frame_reference,
    MixerWeight.frame_kernel, MixerWeight.frame_ideal, MixerWeight.frame_reference,
    Mixer.frame_kernel, Mixer.frame_ideal, Mixer.frame_reference,
    MergeBackward.frame_kernel, MergeBackward.frame_ideal, MergeBackward.frame_reference,
    Merge.frame_kernel, Merge.frame_ideal, Merge.frame_reference,
    Swiglu.frame_kernel, Swiglu.frame_ideal, Swiglu.frame_reference,
    FirstOut.frame_kernel, FirstOut.frame_ideal, FirstOut.frame_reference,
    SecondOut.frame_kernel, SecondOut.frame_ideal, SecondOut.frame_reference,
    ThirdOut.frame_kernel, ThirdOut.frame_ideal, ThirdOut.frame_reference,
    FourthOut.frame_kernel, FourthOut.frame_ideal, FourthOut.frame_reference,
    FirstCotangent.frame_kernel, FirstCotangent.frame_ideal, FirstCotangent.frame_reference,
    SecondCotangent.frame_kernel, SecondCotangent.frame_ideal, SecondCotangent.frame_reference,
    ThirdCotangent.frame_kernel, ThirdCotangent.frame_ideal, ThirdCotangent.frame_reference,
    FourthCotangent.frame_kernel, FourthCotangent.frame_ideal, FourthCotangent.frame_reference,
    FirstWeight.frame_kernel, FirstWeight.frame_ideal, FirstWeight.frame_reference,
    SecondWeight.frame_kernel, SecondWeight.frame_ideal, SecondWeight.frame_reference,
    ThirdWeight.frame_kernel, ThirdWeight.frame_ideal, ThirdWeight.frame_reference,
    FourthWeight.frame_kernel, FourthWeight.frame_ideal, FourthWeight.frame_reference,
    Attention.preserves, Attention.algebraic, Short.preserves, Short.algebraic,
    InputWeight.preserves, InputWeight.algebraic, InputCotangent.preserves, InputCotangent.algebraic,
    Activation.preserves, Activation.algebraic,
    DownWeight.preserves, DownWeight.algebraic,
    GateWeight.preserves, GateWeight.algebraic,
    UpWeight.preserves, UpWeight.algebraic,
    GateCotangent.preserves, GateCotangent.algebraic,
    UpCotangent.preserves, UpCotangent.algebraic,
    Projection.preserves, Projection.algebraic,
    Gate.preserves, Gate.algebraic,
    Up.preserves, Up.algebraic,
    Down.preserves, Down.algebraic,
    MixerCotangent.preserves, MixerCotangent.algebraic,
    MixerWeight.preserves, MixerWeight.algebraic,
    Mixer.preserves, Mixer.algebraic,
    MergeBackward.preserves, MergeBackward.algebraic,
    Merge.preserves, Merge.algebraic,
    Swiglu.preserves, Swiglu.algebraic,
    FirstOut.preserves, FirstOut.algebraic,
    SecondOut.preserves, SecondOut.algebraic,
    ThirdOut.preserves, ThirdOut.algebraic,
    FourthOut.preserves, FourthOut.algebraic,
    FirstCotangent.preserves, FirstCotangent.algebraic,
    SecondCotangent.preserves, SecondCotangent.algebraic,
    ThirdCotangent.preserves, ThirdCotangent.algebraic,
    FourthCotangent.preserves, FourthCotangent.algebraic,
    FirstWeight.preserves, FirstWeight.algebraic,
    SecondWeight.preserves, SecondWeight.algebraic,
    ThirdWeight.preserves, ThirdWeight.algebraic,
    FourthWeight.preserves, FourthWeight.algebraic⟩

end Cert.Proof

end
